-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite [hPre_scores_finite : Cert.Pre_scores_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite [hPre_scores_finite : Cert.Pre_scores_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_context_finite [hPre_context_finite : Cert.Pre_context_finite.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_context_finite.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1))).1 = (fun _ => 1#1)
    ∧ (Cert.Pre_context_finite.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1))).2 = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_context_finite [hPre_context_finite : Cert.Pre_context_finite.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_context_finite.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1))).1 = (fun _ => 1#1)
    ∧ (Cert.Pre_context_finite.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_scores_finite [hKernelIdeal : Cert.KernelIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_scores_finite [hReferenceIdeal : Cert.ReferenceIdeal.Facts] [hPre_scores_finite : Cert.Pre_scores_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Kernel10Ideal_pre_context_finite [hKernel10Ideal : Cert.Kernel10Ideal.Facts] [hPre_context_finite : Cert.Pre_context_finite.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_context_finite m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Reference10Ideal_pre_context_finite [hReference10Ideal : Cert.Reference10Ideal.Facts] [hPre_context_finite : Cert.Pre_context_finite.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_context_finite m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_scores_finite [hKernelIdeal : Cert.KernelIdeal.Facts] [hReferenceIdeal : Cert.ReferenceIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v157) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v2) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v13) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v26) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v13) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v28) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v38) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v5)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v5) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v41) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal_pre_context_finite [hKernel10Ideal : Cert.Kernel10Ideal.Facts] [hReference10Ideal : Cert.Reference10Ideal.Facts] [hPre_context_finite : Cert.Pre_context_finite.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_context_finite m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v33) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_scores_finite : Cert.Pre_scores_finite.Facts) (hPre_context_finite : Cert.Pre_context_finite.Facts),
    quiescent_Kernel (hKernel := hKernel)
    ∧ quiescent_KernelIdeal (hKernelIdeal := hKernelIdeal)
    ∧ quiescent_KernelIdeal_pre_scores_finite (hKernelIdeal := hKernelIdeal) (hPre_scores_finite := hPre_scores_finite)
    ∧ quiescent_ReferenceIdeal (hReferenceIdeal := hReferenceIdeal)
    ∧ quiescent_ReferenceIdeal_pre_scores_finite (hReferenceIdeal := hReferenceIdeal) (hPre_scores_finite := hPre_scores_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Kernel10Ideal_pre_context_finite (hKernel10Ideal := hKernel10Ideal) (hPre_context_finite := hPre_context_finite)
    ∧ quiescent_Reference10Ideal (hReference10Ideal := hReference10Ideal)
    ∧ quiescent_Reference10Ideal_pre_context_finite (hReference10Ideal := hReference10Ideal) (hPre_context_finite := hPre_context_finite)
    ∧ preserves_Kernel_KernelIdeal
    ∧ algebraic_KernelIdeal_ReferenceIdeal_pre_scores_finite (hKernelIdeal := hKernelIdeal) (hReferenceIdeal := hReferenceIdeal) (hPre_scores_finite := hPre_scores_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal_pre_context_finite (hKernel10Ideal := hKernel10Ideal) (hReference10Ideal := hReference10Ideal) (hPre_context_finite := hPre_context_finite)
-- ==== Pre_context_finite.lean ====
abbrev S2048x3072 : Shape := ⟨2, ![2048, 3072]⟩
abbrev S16 : Shape := ⟨1, ![16]⟩
abbrev S2048x2560 : Shape := ⟨2, ![2048, 2560]⟩
abbrev S_ : Shape := ⟨0, ![]⟩

class Facts : Prop where
  slices_S2048x3072_S2048x2560_0_0 : S2048x3072.Slices ![0, 0] S2048x2560
  bcast_S_S2048x2560 : S_.BroadcastsInDim S2048x2560 (![] : Fin 0 → Fin S2048x2560.rank)
  bcast_S_S16 : S_.BroadcastsInDim S16 (![] : Fin 0 → Fin S16.rank)

variable [Facts]

def fn {F : FTy → Type} [FloatOps F] (main_arg0 : FVec F S2048x3072 .f32) (main_arg1 : FVec F S16 .f32) : IVec S2048x2560 1 × IVec S16 1 :=
  let main_v0 : FVec F S2048x2560 .f32 := (extractStridedSlice S2048x2560 ![0, 0] · slices_S2048x3072_S2048x2560_0_0) main_arg0
  let main_v1 : FVec F S2048x2560 .f32 := Host.absf main_v0
  let main_cst : FVec F S_ .f32 := constant S_ .f32 0x7F800000#32
  let main_v2 : FVec F S2048x2560 .f32 := broadcastInDim S2048x2560 ![] bcast_S_S2048x2560 main_cst
  let main_v3 : IVec S2048x2560 1 := cmpf .olt main_v1 main_v2
  let main_cst_0 : FVec F S_ .f32 := constant S_ .f32 0x7F800000#32
  let main_v4 : FVec F S16 .f32 := broadcastInDim S16 ![] bcast_S_S16 main_cst_0
  let main_v5 : IVec S16 1 := cmpf .olt main_arg1 main_v4
  (main_v3, main_v5)
-- ==== Pre_scores_finite.lean ====
abbrev S16384x3072 : Shape := ⟨2, ![16384, 3072]⟩
abbrev S2048x3072 : Shape := ⟨2, ![2048, 3072]⟩
abbrev S16 : Shape := ⟨1, ![16]⟩
abbrev S16384x2560 : Shape := ⟨2, ![16384, 2560]⟩
abbrev S_ : Shape := ⟨0, ![]⟩
abbrev S2048x512 : Shape := ⟨2, ![2048, 512]⟩

class Facts : Prop where
  slices_S16384x3072_S16384x2560_0_0 : S16384x3072.Slices ![0, 0] S16384x2560
  bcast_S_S16384x2560 : S_.BroadcastsInDim S16384x2560 (![] : Fin 0 → Fin S16384x2560.rank)
  slices_S2048x3072_S2048x512_0_2048 : S2048x3072.Slices ![0, 2048] S2048x512
  bcast_S_S2048x512 : S_.BroadcastsInDim S2048x512 (![] : Fin 0 → Fin S2048x512.rank)
  bcast_S_S16 : S_.BroadcastsInDim S16 (![] : Fin 0 → Fin S16.rank)

variable [Facts]

def fn {F : FTy → Type} [FloatOps F] (main_arg0 : FVec F S16384x3072 .f32) (main_arg1 : FVec F S2048x3072 .f32) (main_arg2 : FVec F S16 .f32) : IVec S16384x2560 1 × IVec S2048x512 1 × IVec S16 1 :=
  let main_v0 : FVec F S16384x2560 .f32 := (extractStridedSlice S16384x2560 ![0, 0] · slices_S16384x3072_S16384x2560_0_0) main_arg0
  let main_v1 : FVec F S16384x2560 .f32 := Host.absf main_v0
  let main_cst : FVec F S_ .f32 := constant S_ .f32 0x7F800000#32
  let main_v2 : FVec F S16384x2560 .f32 := broadcastInDim S16384x2560 ![] bcast_S_S16384x2560 main_cst
  let main_v3 : IVec S16384x2560 1 := cmpf .olt main_v1 main_v2
  let main_v4 : FVec F S2048x512 .f32 := (extractStridedSlice S2048x512 ![0, 2048] · slices_S2048x3072_S2048x512_0_2048) main_arg1
  let main_v5 : FVec F S2048x512 .f32 := Host.absf main_v4
  let main_cst_0 : FVec F S_ .f32 := constant S_ .f32 0x7F800000#32
  let main_v6 : FVec F S2048x512 .f32 := broadcastInDim S2048x512 ![] bcast_S_S2048x512 main_cst_0
  let main_v7 : IVec S2048x512 1 := cmpf .olt main_v5 main_v6
  let main_cst_1 : FVec F S_ .f32 := constant S_ .f32 0x7F800000#32
  let main_v8 : FVec F S16 .f32 := broadcastInDim S16 ![] bcast_S_S16 main_cst_1
  let main_v9 : IVec S16 1 := cmpf .olt main_arg2 main_v8
  (main_v3, main_v7, main_v9)
-- ==== Kernel.lean ====
abbrev S16384x3072 : Shape := ⟨2, ![16384, 3072]⟩
abbrev S2048x3072 : Shape := ⟨2, ![2048, 3072]⟩
abbrev S16 : Shape := ⟨1, ![16]⟩
abbrev S32 : Shape := ⟨1, ![32]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x128 : Shape := ⟨2, ![2048, 128]⟩
abbrev S128 : Shape := ⟨1, ![128]⟩
abbrev S16384x2048 : Shape := ⟨2, ![16384, 2048]⟩
abbrev S128x2048 : Shape := ⟨2, ![128, 2048]⟩
abbrev S128x512 : Shape := ⟨2, ![128, 512]⟩
abbrev S256x512 : Shape := ⟨2, ![256, 512]⟩
abbrev S128x128 : Shape := ⟨2, ![128, 128]⟩
abbrev S512x384 : Shape := ⟨2, ![512, 384]⟩
abbrev S384x128 : Shape := ⟨2, ![384, 128]⟩
abbrev S256x128 : Shape := ⟨2, ![256, 128]⟩
abbrev S512x128 : Shape := ⟨2, ![512, 128]⟩
abbrev S512x256 : Shape := ⟨2, ![512, 256]⟩
abbrev S512x1 : Shape := ⟨2, ![512, 1]⟩
abbrev S1 : Shape := ⟨1, ![1]⟩
abbrev S512 : Shape := ⟨1, ![512]⟩

abbrev nBuf : Space → Nat
  | .hbm => 71
  | .vmem => 38
  | .smem => 1
  | _ => 0

abbrev bufTy : (tb : Table) → Fin (tcTables nBuf tb) → BufTy
  | .hbm, ⟨0, _⟩ => ⟨S16384x3072, .f32⟩
  | .hbm, ⟨1, _⟩ => ⟨S2048x3072, .f32⟩
  | .hbm, ⟨2, _⟩ => ⟨S16, .f32⟩
  | .hbm, ⟨3, _⟩ => ⟨S32, .i32⟩
  | .hbm, ⟨4, _⟩ => ⟨S32x64, .i32⟩
  | .hbm, ⟨5, _⟩ => ⟨S2048, .i32⟩
  | .hbm, ⟨6, _⟩ => ⟨S2048, .f32⟩
  | .hbm, ⟨7, _⟩ => ⟨S64, .i32⟩
  | .hbm, ⟨8, _⟩ => ⟨S1x64, .i32⟩
  | .hbm, ⟨9, _⟩ => ⟨S32x64, .i32⟩
  | .hbm, ⟨10, _⟩ => ⟨S2048, .i32⟩
  | .hbm, ⟨11, _⟩ => ⟨S2048, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S2048x1, .f32⟩
  | .hbm, ⟨21, _⟩ => ⟨S1x32, .f32⟩
  | .hbm, ⟨22, _⟩ => ⟨S2048x32, .f32⟩
  | .hbm, ⟨23, _⟩ => ⟨S2048x32, .f32⟩
  | .hbm, ⟨24, _⟩ => ⟨S2048x32, .f32⟩
  | .hbm, ⟨25, _⟩ => ⟨S2048x1, .f32⟩
  | .hbm, ⟨26, _⟩ => ⟨S1x32, .f32⟩
  | .hbm, ⟨27, _⟩ => ⟨S2048x32, .f32⟩
  | .hbm, ⟨28, _⟩ => ⟨S2048x32, .f32⟩
  | .hbm, ⟨29, _⟩ => ⟨S2048x32, .f32⟩
  | .hbm, ⟨30, _⟩ => ⟨S2048x128, .f32⟩
  | .hbm, ⟨31, _⟩ => ⟨S2048x128, .f32⟩
  | .hbm, ⟨32, _⟩ => ⟨S2048x128, .f32⟩
  | .hbm, ⟨33, _⟩ => ⟨S128, .i32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S_, .i1⟩
  | .hbm, ⟨38, _⟩ => ⟨S_, .i32⟩
  | .hbm, ⟨39, _⟩ => ⟨S_, .i32⟩
  | .hbm, ⟨40, _⟩ => ⟨S128, .i32⟩
  | .hbm, ⟨41, _⟩ => ⟨S128, .i32⟩
  | .hbm, ⟨42, _⟩ => ⟨S_, .i32⟩
  | .hbm, ⟨43, _⟩ => ⟨S128, .i32⟩
  | .hbm, ⟨44, _⟩ => ⟨S128, .i1⟩
  | .hbm, ⟨45, _⟩ => ⟨S_, .i32⟩
  | .hbm, ⟨46, _⟩ => ⟨S128, .i32⟩
  | .hbm, ⟨47, _⟩ => ⟨S128, .i1⟩
  | .hbm, ⟨48, _⟩ => ⟨S_, .i32⟩
  | .hbm, ⟨49, _⟩ => ⟨S_, .i1⟩
  | .hbm, ⟨50, _⟩ => ⟨S128, .i1⟩
  | .hbm, ⟨51, _⟩ => ⟨S128, .i1⟩
  | .hbm, ⟨52, _⟩ => ⟨S128, .i1⟩
  | .hbm, ⟨53, _⟩ => ⟨S128, .i32⟩
  | .hbm, ⟨54, _⟩ => ⟨S128, .i32⟩
  | .hbm, ⟨55, _⟩ => ⟨S128, .i32⟩
  | .hbm, ⟨56, _⟩ => ⟨S_, .i32⟩
  | .hbm, ⟨57, _⟩ => ⟨S128, .i32⟩
  | .hbm, ⟨58, _⟩ => ⟨S128, .i1⟩
  | .hbm, ⟨59, _⟩ => ⟨S2048x128, .f32⟩
  | .hbm, ⟨60, _⟩ => ⟨S_, .f32⟩
  | .hbm, ⟨61, _⟩ => ⟨S_, .f32⟩
  | .hbm, ⟨62, _⟩ => ⟨S2048x128, .i1⟩
  | .hbm, ⟨63, _⟩ => ⟨S2048x128, .f32⟩
  | .hbm, ⟨64, _⟩ => ⟨S2048x128, .f32⟩
  | .hbm, ⟨65, _⟩ => ⟨S_, .f32⟩
  | .hbm, ⟨66, _⟩ => ⟨S_, .f32⟩
  | .hbm, ⟨67, _⟩ => ⟨S2048x128, .i1⟩
  | .hbm, ⟨68, _⟩ => ⟨S2048x128, .f32⟩
  | .hbm, ⟨69, _⟩ => ⟨S2048x128, .f32⟩
  | .hbm, ⟨70, _⟩ => ⟨S16384x2048, .bf16⟩
  | .local _ .vmem, ⟨0, _⟩ => ⟨S128x2048, .f32⟩
  | .local _ .vmem, ⟨1, _⟩ => ⟨S128x2048, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S128x512, .f32⟩
  | .local _ .vmem, ⟨9, _⟩ => ⟨S128x512, .f32⟩
  | .local _ .vmem, ⟨10, _⟩ => ⟨S128x512, .f32⟩
  | .local _ .vmem, ⟨11, _⟩ => ⟨S128x512, .f32⟩
  | .local _ .vmem, ⟨12, _⟩ => ⟨S128x512, .f32⟩
  | .local _ .vmem, ⟨13, _⟩ => ⟨S128x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S128x128, .f32⟩
  | .local _ .vmem, ⟨19, _⟩ => ⟨S128x128, .f32⟩
  | .local _ .vmem, ⟨20, _⟩ => ⟨S128x128, .f32⟩
  | .local _ .vmem, ⟨21, _⟩ => ⟨S128x128, .f32⟩
  | .local _ .vmem, ⟨22, _⟩ => ⟨S128x128, .f32⟩
  | .local _ .vmem, ⟨23, _⟩ => ⟨S128x128, .f32⟩
  | .local _ .vmem, ⟨24, _⟩ => ⟨S128x128, .f32⟩
  | .local _ .vmem, ⟨25, _⟩ => ⟨S128x128, .f32⟩
  | .local _ .vmem, ⟨26, _⟩ => ⟨S128x128, .f32⟩
  | .local _ .vmem, ⟨27, _⟩ => ⟨S128x128, .f32⟩
  | .local _ .vmem, ⟨28, _⟩ => ⟨S128x128, .f32⟩
  | .local _ .vmem, ⟨29, _⟩ => ⟨S128x128, .f32⟩
  | .local _ .vmem, ⟨30, _⟩ => ⟨S128x128, .f32⟩
  | .local _ .vmem, ⟨31, _⟩ => ⟨S128x128, .f32⟩
  | .local _ .vmem, ⟨32, _⟩ => ⟨S128x128, .f32⟩
  | .local _ .vmem, ⟨33, _⟩ => ⟨S128x128, .f32⟩
  | .local _ .vmem, ⟨34, _⟩ => ⟨S128x128, .f32⟩
  | .local _ .vmem, ⟨35, _⟩ => ⟨S128x128, .f32⟩
  | .local _ .vmem, ⟨36, _⟩ => ⟨S128x2048, .bf16⟩
  | .local _ .vmem, ⟨37, _⟩ => ⟨S128x2048, .bf16⟩
  | .local _ .smem, ⟨0, _⟩ => ⟨S16, .f32⟩
  | _, _ => ⟨S16384x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .smem, ⟨0, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_c : Ref sig .tc := ⟨.hbm, 34, rfl⟩
abbrev main_call0_v0 : Ref sig .tc := ⟨.hbm, 35, rfl⟩
abbrev main_call0_c : Ref sig .tc := ⟨.hbm, 36, rfl⟩
abbrev main_call0_v1 : Ref sig .tc := ⟨.hbm, 37, rfl⟩
abbrev main_call0_c_0 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_call0_c_1 : Ref sig .tc := ⟨.hbm, 42, rfl⟩
abbrev main_call0_v5 : Ref sig .tc := ⟨.hbm, 43, rfl⟩
abbrev main_call0_v6 : Ref sig .tc := ⟨.hbm, 44, rfl⟩
abbrev main_call0_c_2 : Ref sig .tc := ⟨.hbm, 45, rfl⟩
abbrev main_call0_v7 : Ref sig .tc := ⟨.hbm, 46, rfl⟩
abbrev main_call0_v8 : Ref sig .tc := ⟨.hbm, 47, rfl⟩
abbrev main_call0_c_3 : Ref sig .tc := ⟨.hbm, 48, rfl⟩
abbrev main_call0_v9 : Ref sig .tc := ⟨.hbm, 49, rfl⟩
abbrev main_call0_v10 : Ref sig .tc := ⟨.hbm, 50, rfl⟩
abbrev main_call0_v11 : Ref sig .tc := ⟨.hbm, 51, rfl⟩
abbrev main_call0_v12 : Ref sig .tc := ⟨.hbm, 52, rfl⟩
abbrev main_call0_v13 : Ref sig .tc := ⟨.hbm, 53, rfl⟩
abbrev main_call0_v14 : Ref sig .tc := ⟨.hbm, 54, rfl⟩
abbrev main_v29 : Ref sig .tc := ⟨.hbm, 55, rfl⟩
abbrev main_c_1 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_cst_2 : Ref sig .tc := ⟨.hbm, 60, rfl⟩
abbrev main_call1_v0 : Ref sig .tc := ⟨.hbm, 61, rfl⟩
abbrev main_call1_v1 : Ref sig .tc := ⟨.hbm, 62, rfl⟩
abbrev main_call1_v2 : Ref sig .tc := ⟨.hbm, 63, rfl⟩
abbrev main_v33 : Ref sig .tc := ⟨.hbm, 64, rfl⟩
abbrev main_cst_3 : Ref sig .tc := ⟨.hbm, 65, rfl⟩
abbrev main_call2_v0 : Ref sig .tc := ⟨.hbm, 66, rfl⟩
abbrev main_call2_v1 : Ref sig .tc := ⟨.hbm, 67, rfl⟩
abbrev main_call2_v2 : Ref sig .tc := ⟨.hbm, 68, rfl⟩
abbrev main_v34 : Ref sig .tc := ⟨.hbm, 69, rfl⟩
abbrev main_v35 : Ref sig .tc := ⟨.hbm, 70, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_stg18_0 : Ref sig .tc := ⟨.vmem, 34, rfl⟩
abbrev cc0_stg18_1 : Ref sig .tc := ⟨.vmem, 35, rfl⟩
abbrev cc0_stg19_0 : Ref sig .tc := ⟨.vmem, 36, rfl⟩
abbrev cc0_stg19_1 : Ref sig .tc := ⟨.vmem, 37, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32
abbrev cc0_sem17_0 : DmaSem sig := 33
abbrev cc0_sem17_1 : DmaSem sig := 34
abbrev cc0_sem18_0 : DmaSem sig := 35
abbrev cc0_sem18_1 : DmaSem sig := 36
abbrev cc0_sem19_0 : DmaSem sig := 37
abbrev cc0_sem19_1 : DmaSem sig := 38

abbrev nD : Nat := 1
abbrev τ : Topo := Topo.v7x

variable {F : FTy → Type} [FloatOps F]

abbrev grid0 : Pipeline.Grid := ⟨2, ![8, 16], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c4_i32 : BitVec 32 := 4#32
  let c0_i32_0 : BitVec 32 := 0#32
  ![v3.toNat, c4_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c4_i32 : BitVec 32 := 4#32
  let c0_i32 : BitVec 32 := 0#32
  ![v1.toNat, c4_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.addi arg1 c1_i32
  let c15_i32 : BitVec 32 := 15#32
  let v2 : BitVec 32 := Scalar.minsi v1 c15_i32
  let v3 : BitVec 32 := Scalar.addi v0 v2
  let c4_i32 : BitVec 32 := 4#32
  let c0_i32 : BitVec 32 := 0#32
  ![v3.toNat, c4_i32.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c5_i32 : BitVec 32 := 5#32
  let c0_i32_0 : BitVec 32 := 0#32
  ![v3.toNat, c5_i32.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c5_i32 : BitVec 32 := 5#32
  let c0_i32 : BitVec 32 := 0#32
  ![v1.toNat, c5_i32.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.addi arg1 c1_i32
  let c15_i32 : BitVec 32 := 15#32
  let v2 : BitVec 32 := Scalar.minsi v1 c15_i32
  let v3 : BitVec 32 := Scalar.addi v0 v2
  let c5_i32 : BitVec 32 := 5#32
  let c0_i32 : BitVec 32 := 0#32
  ![v3.toNat, c5_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c4_i32 : BitVec 32 := 4#32
  let c0_i32_0 : BitVec 32 := 0#32
  ![v0.toNat, c4_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c5_i32 : BitVec 32 := 5#32
  let c0_i32_0 : BitVec 32 := 0#32
  ![v0.toNat, c5_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_13 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_14 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_15 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_16 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c15_i32 : BitVec 32 := 15#32
  let v1 : BitVec 32 := Scalar.minsi v0 c15_i32
  let c0_i32 : BitVec 32 := 0#32
  let c0_i32_0 : BitVec 32 := 0#32
  ![v1.toNat, c0_i32.toNat]

def cc0_transform_17 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c15_i32 : BitVec 32 := 15#32
  let v1 : BitVec 32 := Scalar.minsi v0 c15_i32
  let c0_i32 : BitVec 32 := 0#32
  let c0_i32_0 : BitVec 32 := 0#32
  ![v1.toNat, c0_i32.toNat]

def cc0_transform_18 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c15_i32 : BitVec 32 := 15#32
  let v1 : BitVec 32 := Scalar.minsi v0 c15_i32
  let c0_i32 : BitVec 32 := 0#32
  let c0_i32_0 : BitVec 32 := 0#32
  ![v1.toNat, c0_i32.toNat]

def cc0_transform_19 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S128x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S128x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true]

abbrev stage0_15 : Fin 2 → Memref sig .tc .vmem S128x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![false, true]

abbrev stage0_16 : Fin 2 → Memref sig .tc .vmem S128x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![false, true]

abbrev stage0_17 : Fin 2 → Memref sig .tc .vmem S128x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![false, true]

abbrev stage0_18 : Fin 2 → Memref sig .tc .vmem S128x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![false, true]

abbrev stage0_19 : Fin 2 → Memref sig .tc .vmem S128x2048 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S16384x3072 : Shape := ⟨2, ![16384, 3072]⟩
abbrev S2048x3072 : Shape := ⟨2, ![2048, 3072]⟩
abbrev S16 : Shape := ⟨1, ![16]⟩
abbrev S4x4x1x1 : Shape := ⟨4, ![4, 4, 1, 1]⟩
abbrev S8x2048x3072 : Shape := ⟨3, ![8, 2048, 3072]⟩
abbrev S8x2048x2048 : Shape := ⟨3, ![8, 2048, 2048]⟩
abbrev S8x2048x512 : Shape := ⟨3, ![8, 2048, 512]⟩
abbrev S32 : Shape := ⟨1, ![32]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x128 : Shape := ⟨2, ![2048, 128]⟩
abbrev S8x2048x16x128 : Shape := ⟨4, ![8, 2048, 16, 128]⟩
abbrev S8x2048x16x32 : Shape := ⟨4, ![8, 2048, 16, 32]⟩
abbrev S2048x1x128 : Shape := ⟨3, ![2048, 1, 128]⟩
abbrev S1x2048x1x128 : Shape := ⟨4, ![1, 2048, 1, 128]⟩
abbrev S8x2048x4x128 : Shape := ⟨4, ![8, 2048, 4, 128]⟩
abbrev S8x2048x4x32 : Shape := ⟨4, ![8, 2048, 4, 32]⟩
abbrev S8x256x3072 : Shape := ⟨3, ![8, 256, 3072]⟩
abbrev S8x256x1024 : Shape := ⟨3, ![8, 256, 1024]⟩
abbrev S8x256x512 : Shape := ⟨3, ![8, 256, 512]⟩
abbrev S8x256x4x128 : Shape := ⟨4, ![8, 256, 4, 128]⟩
abbrev S8x16x128x4x4x128 : Shape := ⟨6, ![8, 16, 128, 4, 4, 128]⟩
abbrev S8x2304x4x128 : Shape := ⟨4, ![8, 2304, 4, 128]⟩
abbrev S8x18x128x4x128 : Shape := ⟨5, ![8, 18, 128, 4, 128]⟩
abbrev S8x16x128x4x128 : Shape := ⟨5, ![8, 16, 128, 4, 128]⟩
abbrev S8x16x384x4x128 : Shape := ⟨5, ![8, 16, 384, 4, 128]⟩
abbrev S8x16x4x384x128x4 : Shape := ⟨6, ![8, 16, 4, 384, 128, 4]⟩
abbrev S8x16x4x4x128x384 : Shape := ⟨6, ![8, 16, 4, 4, 128, 384]⟩
abbrev S128 : Shape := ⟨1, ![128]⟩
abbrev S128x1 : Shape := ⟨2, ![128, 1]⟩
abbrev S384 : Shape := ⟨1, ![384]⟩
abbrev S1x384 : Shape := ⟨2, ![1, 384]⟩
abbrev S128x384 : Shape := ⟨2, ![128, 384]⟩
abbrev S16x1x1 : Shape := ⟨3, ![16, 1, 1]⟩
abbrev S1x1x384 : Shape := ⟨3, ![1, 1, 384]⟩
abbrev S16x1x384 : Shape := ⟨3, ![16, 1, 384]⟩
abbrev S1x128x384 : Shape := ⟨3, ![1, 128, 384]⟩
abbrev S16x128x384 : Shape := ⟨3, ![16, 128, 384]⟩
abbrev S1x16x1x1x128x384 : Shape := ⟨6, ![1, 16, 1, 1, 128, 384]⟩
abbrev S8x4x256x16x128x4 : Shape := ⟨6, ![8, 4, 256, 16, 128, 4]⟩
abbrev S8x16x4x4x128x256 : Shape := ⟨6, ![8, 16, 4, 4, 128, 256]⟩
abbrev S8x16x4x4x128x640 : Shape := ⟨6, ![8, 16, 4, 4, 128, 640]⟩
abbrev S8x16x4x4x128 : Shape := ⟨5, ![8, 16, 4, 4, 128]⟩
abbrev S8x16x4x4x128x1 : Shape := ⟨6, ![8, 16, 4, 4, 128, 1]⟩
abbrev S1x1x4x4x1x1 : Shape := ⟨6, ![1, 1, 4, 4, 1, 1]⟩
abbrev S8x16x4x128x4x128 : Shape := ⟨6, ![8, 16, 4, 128, 4, 128]⟩
abbrev S8x4x128x16x4x128 : Shape := ⟨6, ![8, 4, 128, 16, 4, 128]⟩
abbrev S16384x2048 : Shape := ⟨2, ![16384, 2048]⟩

abbrev nBuf : Space → Nat
  | .hbm => 176
  | .vmem => 0
  | .smem => 0
  | _ => 0

abbrev hbmTy0_0 (i : Nat) : BufTy := match i % 128 with
  | 0 => ⟨S16384x3072, .f32⟩
  | 1 => ⟨S2048x3072, .f32⟩
  | 2 => ⟨S16, .f32⟩
  | 3 => ⟨S4x4x1x1, .f32⟩
  | 4 => ⟨S8x2048x3072, .f32⟩
  | 5 => ⟨S8x2048x2048, .f32⟩
  | 6 => ⟨S8x2048x512, .f32⟩
  | 7 => ⟨S8x2048x512, .f32⟩
  | 8 => ⟨S32, .i32⟩
  | 9 => ⟨S32x64, .i32⟩
  | 10 => ⟨S2048, .i32⟩
  | 11 => ⟨S2048, .f32⟩
  | 12 => ⟨S64, .i32⟩
  | 13 => ⟨S1x64, .i32⟩
  | 14 => ⟨S32x64, .i32⟩
  | 15 => ⟨S2048, .i32⟩
  | 16 => ⟨S2048, .f32⟩
  | 17 => ⟨S32, .f32⟩
  | 18 => ⟨S32, .f32⟩
  | 19 => ⟨S_, .f32⟩
  | 20 => ⟨S32, .f32⟩
  | 21 => ⟨S32, .f32⟩
  | 22 => ⟨S_, .f32⟩
  | 23 => ⟨S32, .f32⟩
  | 24 => ⟨S32, .f32⟩
  | 25 => ⟨S2048x1, .f32⟩
  | 26 => ⟨S1x32, .f32⟩
  | 27 => ⟨S2048x32, .f32⟩
  | 28 => ⟨S2048x32, .f32⟩
  | 29 => ⟨S2048x32, .f32⟩
  | 30 => ⟨S2048x1, .f32⟩
  | 31 => ⟨S1x32, .f32⟩
  | 32 => ⟨S2048x32, .f32⟩
  | 33 => ⟨S2048x32, .f32⟩
  | 34 => ⟨S2048x32, .f32⟩
  | 35 => ⟨S2048x128, .f32⟩
  | 36 => ⟨S2048x128, .f32⟩
  | 37 => ⟨S2048x128, .f32⟩
  | 38 => ⟨S8x2048x16x128, .f32⟩
  | 39 => ⟨S8x2048x16x32, .f32⟩
  | 40 => ⟨S8x2048x16x32, .f32⟩
  | 41 => ⟨S8x2048x16x32, .f32⟩
  | 42 => ⟨S8x2048x16x32, .f32⟩
  | 43 => ⟨S8x2048x16x32, .f32⟩
  | 44 => ⟨S8x2048x16x32, .f32⟩
  | 45 => ⟨S8x2048x16x128, .f32⟩
  | 46 => ⟨S2048x1x128, .f32⟩
  | 47 => ⟨S1x2048x1x128, .f32⟩
  | 48 => ⟨S8x2048x16x128, .f32⟩
  | 49 => ⟨S8x2048x16x128, .f32⟩
  | 50 => ⟨S2048x1x128, .f32⟩
  | 51 => ⟨S1x2048x1x128, .f32⟩
  | 52 => ⟨S8x2048x16x128, .f32⟩
  | 53 => ⟨S8x2048x16x128, .f32⟩
  | 54 => ⟨S8x2048x16x128, .f32⟩
  | 55 => ⟨S8x2048x4x128, .f32⟩
  | 56 => ⟨S8x2048x4x32, .f32⟩
  | 57 => ⟨S8x2048x4x32, .f32⟩
  | 58 => ⟨S8x2048x4x32, .f32⟩
  | 59 => ⟨S8x2048x4x32, .f32⟩
  | 60 => ⟨S8x2048x4x32, .f32⟩
  | 61 => ⟨S8x2048x4x32, .f32⟩
  | 62 => ⟨S8x2048x4x128, .f32⟩
  | 63 => ⟨S2048x1x128, .f32⟩
  | 64 => ⟨S1x2048x1x128, .f32⟩
  | 65 => ⟨S8x2048x4x128, .f32⟩
  | 66 => ⟨S8x2048x4x128, .f32⟩
  | 67 => ⟨S2048x1x128, .f32⟩
  | 68 => ⟨S1x2048x1x128, .f32⟩
  | 69 => ⟨S8x2048x4x128, .f32⟩
  | 70 => ⟨S8x2048x4x128, .f32⟩
  | 71 => ⟨S8x2048x4x128, .f32⟩
  | 72 => ⟨S8x2048x4x128, .f32⟩
  | 73 => ⟨S8x256x3072, .f32⟩
  | 74 => ⟨S8x256x1024, .f32⟩
  | 75 => ⟨S8x256x512, .f32⟩
  | 76 => ⟨S8x256x512, .f32⟩
  | 77 => ⟨S8x256x4x128, .f32⟩
  | 78 => ⟨S8x256x4x128, .f32⟩
  | 79 => ⟨S8x16x128x4x4x128, .f32⟩
  | 80 => ⟨S_, .f32⟩
  | 81 => ⟨S8x2304x4x128, .f32⟩
  | 82 => ⟨S8x18x128x4x128, .f32⟩
  | 83 => ⟨S8x16x128x4x128, .f32⟩
  | 84 => ⟨S8x16x128x4x128, .f32⟩
  | 85 => ⟨S8x16x128x4x128, .f32⟩
  | 86 => ⟨S8x16x384x4x128, .f32⟩
  | 87 => ⟨S_, .f32⟩
  | 88 => ⟨S8x2304x4x128, .f32⟩
  | 89 => ⟨S8x18x128x4x128, .f32⟩
  | 90 => ⟨S8x16x128x4x128, .f32⟩
  | 91 => ⟨S8x16x128x4x128, .f32⟩
  | 92 => ⟨S8x16x128x4x128, .f32⟩
  | 93 => ⟨S8x16x384x4x128, .f32⟩
  | 94 => ⟨S8x16x4x384x128x4, .f32⟩
  | 95 => ⟨S8x16x4x4x128x384, .f32⟩
  | 96 => ⟨S_, .f32⟩
  | 97 => ⟨S8x16x4x4x128x384, .f32⟩
  | 98 => ⟨S8x16x4x4x128x384, .f32⟩
  | 99 => ⟨S128, .i32⟩
  | 100 => ⟨S128x1, .i32⟩
  | 101 => ⟨S384, .i32⟩
  | 102 => ⟨S1x384, .i32⟩
  | 103 => ⟨S128x384, .i32⟩
  | 104 => ⟨S128x384, .i32⟩
  | 105 => ⟨S128x384, .i32⟩
  | 106 => ⟨S_, .i32⟩
  | 107 => ⟨S128x384, .i32⟩
  | 108 => ⟨S128x384, .i32⟩
  | 109 => ⟨S128x384, .i32⟩
  | 110 => ⟨S_, .i32⟩
  | 111 => ⟨S128x384, .i32⟩
  | 112 => ⟨S128x384, .i1⟩
  | 113 => ⟨S16, .i32⟩
  | 114 => ⟨S16x1x1, .i32⟩
  | 115 => ⟨S_, .i32⟩
  | 116 => ⟨S16x1x1, .i32⟩
  | 117 => ⟨S16x1x1, .i32⟩
  | 118 => ⟨S_, .i32⟩
  | 119 => ⟨S16x1x1, .i32⟩
  | 120 => ⟨S16x1x1, .i32⟩
  | 121 => ⟨S1x1x384, .i32⟩
  | 122 => ⟨S16x1x384, .i32⟩
  | 123 => ⟨S16x1x384, .i32⟩
  | 124 => ⟨S16x1x384, .i32⟩
  | 125 => ⟨S1x128x384, .i1⟩
  | 126 => ⟨S_, .i32⟩
  | 127 => ⟨S16x1x384, .i32⟩
  | _ => ⟨S16384x3072, .f32⟩

abbrev hbmTy0_1 (i : Nat) : BufTy := match i % 128 with
  | 0 => ⟨S16x1x384, .i1⟩
  | 1 => ⟨S16x128x384, .i1⟩
  | 2 => ⟨S16x128x384, .i1⟩
  | 3 => ⟨S16x128x384, .i1⟩
  | 4 => ⟨S_, .i32⟩
  | 5 => ⟨S16x1x384, .i32⟩
  | 6 => ⟨S16x1x384, .i1⟩
  | 7 => ⟨S16x128x384, .i1⟩
  | 8 => ⟨S16x128x384, .i1⟩
  | 9 => ⟨S1x16x1x1x128x384, .i1⟩
  | 10 => ⟨S8x16x4x4x128x384, .i1⟩
  | 11 => ⟨S_, .f32⟩
  | 12 => ⟨S8x16x4x4x128x384, .f32⟩
  | 13 => ⟨S8x16x4x4x128x384, .f32⟩
  | 14 => ⟨S8x4x256x16x128x4, .f32⟩
  | 15 => ⟨S8x16x4x4x128x256, .f32⟩
  | 16 => ⟨S_, .f32⟩
  | 17 => ⟨S8x16x4x4x128x256, .f32⟩
  | 18 => ⟨S8x16x4x4x128x256, .f32⟩
  | 19 => ⟨S8x16x4x4x128x640, .f32⟩
  | 20 => ⟨S_, .f32⟩
  | 21 => ⟨S8x16x4x4x128, .f32⟩
  | 22 => ⟨S8x16x4x4x128x1, .f32⟩
  | 23 => ⟨S1x1x4x4x1x1, .f32⟩
  | 24 => ⟨S8x16x4x4x128x1, .f32⟩
  | 25 => ⟨S8x16x4x4x128x1, .f32⟩
  | 26 => ⟨S8x16x4x4x128x640, .f32⟩
  | 27 => ⟨S8x16x4x4x128x640, .f32⟩
  | 28 => ⟨S8x16x4x4x128x640, .f32⟩
  | 29 => ⟨S_, .f32⟩
  | 30 => ⟨S8x16x4x4x128, .f32⟩
  | 31 => ⟨S8x16x4x4x128x1, .f32⟩
  | 32 => ⟨S1x1x4x4x1x1, .f32⟩
  | 33 => ⟨S8x16x4x4x128x1, .f32⟩
  | 34 => ⟨S8x16x4x4x128x1, .f32⟩
  | 35 => ⟨S8x16x4x4x128x1, .f32⟩
  | 36 => ⟨S8x16x4x4x128x1, .f32⟩
  | 37 => ⟨S8x16x4x4x128x640, .f32⟩
  | 38 => ⟨S8x16x4x4x128x640, .f32⟩
  | 39 => ⟨S8x16x4x4x128x384, .f32⟩
  | 40 => ⟨S8x16x4x4x128x256, .f32⟩
  | 41 => ⟨S8x16x4x128x4x128, .f32⟩
  | 42 => ⟨S8x16x128x4x4x128, .f32⟩
  | 43 => ⟨S8x4x128x16x4x128, .f32⟩
  | 44 => ⟨S8x16x128x4x4x128, .f32⟩
  | 45 => ⟨S8x16x128x4x4x128, .f32⟩
  | 46 => ⟨S16384x2048, .f32⟩
  | 47 => ⟨S16384x2048, .bf16⟩
  | _ => ⟨S16384x3072, .f32⟩

abbrev hbmTy (i : Nat) : BufTy := match i / 128 with
  | 0 => hbmTy0_0 i
  | 1 => hbmTy0_1 i
  | _ => ⟨S16384x3072, .f32⟩

abbrev bufTy : (tb : Table) → Fin (tcTables nBuf tb) → BufTy
  | .hbm, ⟨i, _⟩ => hbmTy i
  | _, _ => ⟨S16384x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst : Ref sig .tc := ⟨.hbm, 19, rfl⟩
abbrev main_v16 : Ref sig .tc := ⟨.hbm, 20, rfl⟩
abbrev main_v17 : Ref sig .tc := ⟨.hbm, 21, rfl⟩
abbrev main_cst_0 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_v69 : Ref sig .tc := ⟨.hbm, 74, rfl⟩
abbrev main_v70 : Ref sig .tc := ⟨.hbm, 75, rfl⟩
abbrev main_v71 : Ref sig .tc := ⟨.hbm, 76, rfl⟩
abbrev main_v72 : Ref sig .tc := ⟨.hbm, 77, rfl⟩
abbrev main_v73 : Ref sig .tc := ⟨.hbm, 78, rfl⟩
abbrev main_v74 : Ref sig .tc := ⟨.hbm, 79, rfl⟩
abbrev main_cst_1 : Ref sig .tc := ⟨.hbm, 80, rfl⟩
abbrev main_v75 : Ref sig .tc := ⟨.hbm, 81, rfl⟩
abbrev main_v76 : Ref sig .tc := ⟨.hbm, 82, rfl⟩
abbrev main_v77 : Ref sig .tc := ⟨.hbm, 83, rfl⟩
abbrev main_v78 : Ref sig .tc := ⟨.hbm, 84, rfl⟩
abbrev main_v79 : Ref sig .tc := ⟨.hbm, 85, rfl⟩
abbrev main_v80 : Ref sig .tc := ⟨.hbm, 86, rfl⟩
abbrev main_cst_2 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_v87 : Ref sig .tc := ⟨.hbm, 94, rfl⟩
abbrev main_v88 : Ref sig .tc := ⟨.hbm, 95, rfl⟩
abbrev main_cst_3 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_v94 : Ref sig .tc := ⟨.hbm, 102, rfl⟩
abbrev main_v95 : Ref sig .tc := ⟨.hbm, 103, rfl⟩
abbrev main_v96 : Ref sig .tc := ⟨.hbm, 104, rfl⟩
abbrev main_v97 : Ref sig .tc := ⟨.hbm, 105, rfl⟩
abbrev main_c : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_c_4 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_c_5 : Ref sig .tc := ⟨.hbm, 115, rfl⟩
abbrev main_v105 : Ref sig .tc := ⟨.hbm, 116, rfl⟩
abbrev main_v106 : Ref sig .tc := ⟨.hbm, 117, rfl⟩
abbrev main_c_6 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_c_7 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_v117 : Ref sig .tc := ⟨.hbm, 130, rfl⟩
abbrev main_v118 : Ref sig .tc := ⟨.hbm, 131, rfl⟩
abbrev main_c_8 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩
abbrev main_v122 : Ref sig .tc := ⟨.hbm, 136, rfl⟩
abbrev main_v123 : Ref sig .tc := ⟨.hbm, 137, rfl⟩
abbrev main_v124 : Ref sig .tc := ⟨.hbm, 138, rfl⟩
abbrev main_cst_9 : Ref sig .tc := ⟨.hbm, 139, rfl⟩
abbrev main_v125 : Ref sig .tc := ⟨.hbm, 140, rfl⟩
abbrev main_v126 : Ref sig .tc := ⟨.hbm, 141, rfl⟩
abbrev main_v127 : Ref sig .tc := ⟨.hbm, 142, rfl⟩
abbrev main_v128 : Ref sig .tc := ⟨.hbm, 143, rfl⟩
abbrev main_cst_10 : Ref sig .tc := ⟨.hbm, 144, rfl⟩
abbrev main_v129 : Ref sig .tc := ⟨.hbm, 145, rfl⟩
abbrev main_v130 : Ref sig .tc := ⟨.hbm, 146, rfl⟩
abbrev main_v131 : Ref sig .tc := ⟨.hbm, 147, rfl⟩
abbrev main_cst_11 : Ref sig .tc := ⟨.hbm, 148, rfl⟩
abbrev main_v132 : Ref sig .tc := ⟨.hbm, 149, rfl⟩
abbrev main_v133 : Ref sig .tc := ⟨.hbm, 150, rfl⟩
abbrev main_v134 : Ref sig .tc := ⟨.hbm, 151, rfl⟩
abbrev main_v135 : Ref sig .tc := ⟨.hbm, 152, rfl⟩
abbrev main_v136 : Ref sig .tc := ⟨.hbm, 153, rfl⟩
abbrev main_v137 : Ref sig .tc := ⟨.hbm, 154, rfl⟩
abbrev main_v138 : Ref sig .tc := ⟨.hbm, 155, rfl⟩
abbrev main_v139 : Ref sig .tc := ⟨.hbm, 156, rfl⟩
abbrev main_cst_12 : Ref sig .tc := ⟨.hbm, 157, rfl⟩
abbrev main_v140 : Ref sig .tc := ⟨.hbm, 158, rfl⟩
abbrev main_v141 : Ref sig .tc := ⟨.hbm, 159, rfl⟩
abbrev main_v142 : Ref sig .tc := ⟨.hbm, 160, rfl⟩
abbrev main_v143 : Ref sig .tc := ⟨.hbm, 161, rfl⟩
abbrev main_v144 : Ref sig .tc := ⟨.hbm, 162, rfl⟩
abbrev main_v145 : Ref sig .tc := ⟨.hbm, 163, rfl⟩
abbrev main_v146 : Ref sig .tc := ⟨.hbm, 164, rfl⟩
abbrev main_v147 : Ref sig .tc := ⟨.hbm, 165, rfl⟩
abbrev main_v148 : Ref sig .tc := ⟨.hbm, 166, rfl⟩
abbrev main_v149 : Ref sig .tc := ⟨.hbm, 167, rfl⟩
abbrev main_v150 : Ref sig .tc := ⟨.hbm, 168, rfl⟩
abbrev main_v151 : Ref sig .tc := ⟨.hbm, 169, rfl⟩
abbrev main_v152 : Ref sig .tc := ⟨.hbm, 170, rfl⟩
abbrev main_v153 : Ref sig .tc := ⟨.hbm, 171, rfl⟩
abbrev main_v154 : Ref sig .tc := ⟨.hbm, 172, rfl⟩
abbrev main_v155 : Ref sig .tc := ⟨.hbm, 173, rfl⟩
abbrev main_v156 : Ref sig .tc := ⟨.hbm, 174, rfl⟩
abbrev main_v157 : Ref sig .tc := ⟨.hbm, 175, rfl⟩

abbrev nD : Nat := 1
abbrev τ : Topo := Topo.v7x

variable {F : FTy → Type} [FloatOps F]
-- ==== Kernel2.lean ====
abbrev S16384x2048 : Shape := ⟨2, ![16384, 2048]⟩
abbrev S2048x3072 : Shape := ⟨2, ![2048, 3072]⟩
abbrev S16384x3072 : Shape := ⟨2, ![16384, 3072]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S2048x3072, .bf16⟩
  | .hbm, ⟨2, _⟩ => ⟨S16384x3072, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S16384x2048 : Shape := ⟨2, ![16384, 2048]⟩
abbrev S2048x3072 : Shape := ⟨2, ![2048, 3072]⟩
abbrev S8x2048x2048 : Shape := ⟨3, ![8, 2048, 2048]⟩
abbrev S8x2048x3072 : Shape := ⟨3, ![8, 2048, 3072]⟩
abbrev S16384x3072 : Shape := ⟨2, ![16384, 3072]⟩

abbrev nBuf : Space → Nat
  | .hbm => 5
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x3072, .bf16⟩
  | .hbm, ⟨2, _⟩ => ⟨S8x2048x2048, .bf16⟩
  | .hbm, ⟨3, _⟩ => ⟨S8x2048x3072, .f32⟩
  | .hbm, ⟨4, _⟩ => ⟨S16384x3072, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel3.lean ====
abbrev S16384x2048 : Shape := ⟨2, ![16384, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .bf16⟩
  | .hbm, ⟨2, _⟩ => ⟨S16384x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S16384x2048 : Shape := ⟨2, ![16384, 2048]⟩
abbrev S2048x2048 : Shape := ⟨2, ![2048, 2048]⟩
abbrev S8x2048x2048 : Shape := ⟨3, ![8, 2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .bf16⟩
  | .hbm, ⟨2, _⟩ => ⟨S8x2048x2048, .bf16⟩
  | .hbm, ⟨3, _⟩ => ⟨S8x2048x2048, .f32⟩
  | .hbm, ⟨4, _⟩ => ⟨S16384x2048, .f32⟩
  | .hbm, ⟨5, _⟩ => ⟨S16384x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel4.lean ====
abbrev S16384x2048 : Shape := ⟨2, ![16384, 2048]⟩
abbrev S2048x2048 : Shape := ⟨2, ![2048, 2048]⟩
abbrev S16x1x12288 : Shape := ⟨3, ![16, 1, 12288]⟩
abbrev S1024x2048 : Shape := ⟨2, ![1024, 2048]⟩
abbrev S2048x1024 : Shape := ⟨2, ![2048, 1024]⟩
abbrev S1024x1024 : Shape := ⟨2, ![1024, 1024]⟩
abbrev S1x1x1024 : Shape := ⟨3, ![1, 1, 1024]⟩
abbrev S1x1024 : Shape := ⟨2, ![1, 1024]⟩

abbrev nBuf : Space → Nat
  | .hbm => 5
  | .vmem => 10
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .bf16⟩
  | .hbm, ⟨2, _⟩ => ⟨S16384x2048, .f32⟩
  | .hbm, ⟨3, _⟩ => ⟨S16x1x12288, .f32⟩
  | .hbm, ⟨4, _⟩ => ⟨S16384x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1x1024, .f32⟩
  | .local _ .vmem, ⟨7, _⟩ => ⟨S1x1x1024, .f32⟩
  | .local _ .vmem, ⟨8, _⟩ => ⟨S1024x1024, .f32⟩
  | .local _ .vmem, ⟨9, _⟩ => ⟨S1024x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let v17 : BitVec 32 := Scalar.addi c4_i32 arg1
  let c0_i32_4 : BitVec 32 := 0#32
  let c0_i32_5 : BitVec 32 := 0#32
  ![v16.toNat, c0_i32_4.toNat, v17.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference4Ideal.lean ====
abbrev S16384x2048 : Shape := ⟨2, ![16384, 2048]⟩
abbrev S2048x2048 : Shape := ⟨2, ![2048, 2048]⟩
abbrev S16x1x12288 : Shape := ⟨3, ![16, 1, 12288]⟩
abbrev S8x2048x2048 : Shape := ⟨3, ![8, 2048, 2048]⟩
abbrev S8x1x12288 : Shape := ⟨3, ![8, 1, 12288]⟩
abbrev S8x1x2048 : Shape := ⟨3, ![8, 1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .bf16⟩
  | .hbm, ⟨2, _⟩ => ⟨S16384x2048, .f32⟩
  | .hbm, ⟨3, _⟩ => ⟨S16x1x12288, .f32⟩
  | .hbm, ⟨4, _⟩ => ⟨S8x2048x2048, .bf16⟩
  | .hbm, ⟨5, _⟩ => ⟨S8x2048x2048, .f32⟩
  | .hbm, ⟨6, _⟩ => ⟨S8x1x12288, .f32⟩
  | .hbm, ⟨7, _⟩ => ⟨S8x1x2048, .f32⟩
  | .hbm, ⟨8, _⟩ => ⟨S8x1x2048, .f32⟩
  | .hbm, ⟨9, _⟩ => ⟨S8x1x2048, .f32⟩
  | .hbm, ⟨10, _⟩ => ⟨S8x1x2048, .f32⟩
  | .hbm, ⟨11, _⟩ => ⟨S8x1x2048, .f32⟩
  | .hbm, ⟨12, _⟩ => ⟨S8x1x2048, .f32⟩
  | .hbm, ⟨13, _⟩ => ⟨S8x2048x2048, .f32⟩
  | .hbm, ⟨14, _⟩ => ⟨S8x2048x2048, .f32⟩
  | .hbm, ⟨15, _⟩ => ⟨S8x2048x2048, .f32⟩
  | .hbm, ⟨16, _⟩ => ⟨S8x2048x2048, .f32⟩
  | .hbm, ⟨17, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== Kernel5.lean ====
abbrev S16384x2048 : Shape := ⟨2, ![16384, 2048]⟩
abbrev S2048x6144 : Shape := ⟨2, ![2048, 6144]⟩
abbrev S3x6144 : Shape := ⟨2, ![3, 6144]⟩
abbrev S6144 : Shape := ⟨1, ![6144]⟩
abbrev S1x6144 : Shape := ⟨2, ![1, 6144]⟩
abbrev S16384x6144 : Shape := ⟨2, ![16384, 6144]⟩
abbrev S2048x2048 : Shape := ⟨2, ![2048, 2048]⟩
abbrev S2048x256 : Shape := ⟨2, ![2048, 256]⟩
abbrev S3x256 : Shape := ⟨2, ![3, 256]⟩
abbrev S1x256 : Shape := ⟨2, ![1, 256]⟩

abbrev nBuf : Space → Nat
  | .hbm => 6
  | .vmem => 10
  | .smem => 0
  | _ => 0

abbrev bufTy : (tb : Table) → Fin (tcTables nBuf tb) → BufTy
  | .hbm, ⟨0, _⟩ => ⟨S16384x2048, .bf16⟩
  | .hbm, ⟨1, _⟩ => ⟨S2048x6144, .bf16⟩
  | .hbm, ⟨2, _⟩ => ⟨S3x6144, .f32⟩
  | .hbm, ⟨3, _⟩ => ⟨S6144, .f32⟩
  | .hbm, ⟨4, _⟩ => ⟨S1x6144, .f32⟩
  | .hbm, ⟨5, _⟩ => ⟨S16384x6144, .f32⟩
  | .local _ .vmem, ⟨0, _⟩ => ⟨S2048x2048, .bf16⟩
  | .local _ .vmem, ⟨1, _⟩ => ⟨S2048x2048, .bf16⟩
  | .local _ .vmem, ⟨2, _⟩ => ⟨S2048x256, .bf16⟩
  | .local _ .vmem, ⟨3, _⟩ => ⟨S2048x256, .bf16⟩
  | .local _ .vmem, ⟨4, _⟩ => ⟨S3x256, .f32⟩
  | .local _ .vmem, ⟨5, _⟩ => ⟨S3x256, .f32⟩
  | .local _ .vmem, ⟨6, _⟩ => ⟨S1x256, .f32⟩
  | .local _ .vmem, ⟨7, _⟩ => ⟨S1x256, .f32⟩
  | .local _ .vmem, ⟨8, _⟩ => ⟨S2048x256, .f32⟩
  | .local _ .vmem, ⟨9, _⟩ => ⟨S2048x256, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 24], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S3x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference5Ideal.lean ====
abbrev S16384x2048 : Shape := ⟨2, ![16384, 2048]⟩
abbrev S2048x6144 : Shape := ⟨2, ![2048, 6144]⟩
abbrev S3x6144 : Shape := ⟨2, ![3, 6144]⟩
abbrev S6144 : Shape := ⟨1, ![6144]⟩
abbrev S8x2048x2048 : Shape := ⟨3, ![8, 2048, 2048]⟩
abbrev S8x2048x6144 : Shape := ⟨3, ![8, 2048, 6144]⟩
abbrev S_ : Shape := ⟨0, ![]⟩
abbrev S8x2050x6144 : Shape := ⟨3, ![8, 2050, 6144]⟩
abbrev S1x6144 : Shape := ⟨2, ![1, 6144]⟩
abbrev S1x1x6144 : Shape := ⟨3, ![1, 1, 6144]⟩
abbrev S16384x6144 : Shape := ⟨2, ![16384, 6144]⟩

abbrev nBuf : Space → Nat
  | .hbm => 32
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x6144, .bf16⟩
  | .hbm, ⟨2, _⟩ => ⟨S3x6144, .f32⟩
  | .hbm, ⟨3, _⟩ => ⟨S6144, .f32⟩
  | .hbm, ⟨4, _⟩ => ⟨S8x2048x2048, .bf16⟩
  | .hbm, ⟨5, _⟩ => ⟨S8x2048x6144, .f32⟩
  | .hbm, ⟨6, _⟩ => ⟨S_, .f32⟩
  | .hbm, ⟨7, _⟩ => ⟨S8x2050x6144, .f32⟩
  | .hbm, ⟨8, _⟩ => ⟨S8x2048x6144, .f32⟩
  | .hbm, ⟨9, _⟩ => ⟨S1x6144, .f32⟩
  | .hbm, ⟨10, _⟩ => ⟨S6144, .f32⟩
  | .hbm, ⟨11, _⟩ => ⟨S1x1x6144, .f32⟩
  | .hbm, ⟨12, _⟩ => ⟨S8x2048x6144, .f32⟩
  | .hbm, ⟨13, _⟩ => ⟨S8x2048x6144, .f32⟩
  | .hbm, ⟨14, _⟩ => ⟨S1x1x6144, .f32⟩
  | .hbm, ⟨15, _⟩ => ⟨S8x2048x6144, .f32⟩
  | .hbm, ⟨16, _⟩ => ⟨S8x2048x6144, .f32⟩
  | .hbm, ⟨17, _⟩ => ⟨S8x2048x6144, .f32⟩
  | .hbm, ⟨18, _⟩ => ⟨S1x6144, .f32⟩
  | .hbm, ⟨19, _⟩ => ⟨S6144, .f32⟩
  | .hbm, ⟨20, _⟩ => ⟨S1x1x6144, .f32⟩
  | .hbm, ⟨21, _⟩ => ⟨S8x2048x6144, .f32⟩
  | .hbm, ⟨22, _⟩ => ⟨S8x2048x6144, .f32⟩
  | .hbm, ⟨23, _⟩ => ⟨S8x2048x6144, .f32⟩
  | .hbm, ⟨24, _⟩ => ⟨S8x2048x6144, .f32⟩
  | .hbm, ⟨25, _⟩ => ⟨S1x6144, .f32⟩
  | .hbm, ⟨26, _⟩ => ⟨S6144, .f32⟩
  | .hbm, ⟨27, _⟩ => ⟨S1x1x6144, .f32⟩
  | .hbm, ⟨28, _⟩ => ⟨S8x2048x6144, .f32⟩
  | .hbm, ⟨29, _⟩ => ⟨S8x2048x6144, .f32⟩
  | .hbm, ⟨30, _⟩ => ⟨S8x2048x6144, .f32⟩
  | .hbm, ⟨31, _⟩ => ⟨S16384x6144, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩

abbrev nD : Nat := 1
abbrev τ : Topo := Topo.v7x

variable {F : FTy → Type} [FloatOps F]
-- ==== Kernel6.lean ====
abbrev S16384x2048 : Shape := ⟨2, ![16384, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S8x2048x2048 : Shape := ⟨3, ![8, 2048, 2048]⟩

abbrev nBuf : Space → Nat
  | .hbm => 5
  | .vmem => 5
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S1x2048, .f32⟩
  | .hbm, ⟨3, _⟩ => ⟨S16384x2048, .f32⟩
  | .hbm, ⟨4, _⟩ => ⟨S8x2048x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference6Ideal.lean ====
abbrev S16384x2048 : Shape := ⟨2, ![16384, 2048]⟩
abbrev S2048 : Shape := ⟨1, ![2048]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S8x2048x2048, .f32⟩
  | .hbm, ⟨3, _⟩ => ⟨S8x2048x2048, .f32⟩
  | .hbm, ⟨4, _⟩ => ⟨S_, .f32⟩
  | .hbm, ⟨5, _⟩ => ⟨S8x2048, .f32⟩
  | .hbm, ⟨6, _⟩ => ⟨S8x2048x1, .f32⟩
  | .hbm, ⟨7, _⟩ => ⟨S_, .f32⟩
  | .hbm, ⟨8, _⟩ => ⟨S8x2048x1, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S8x2048x1, .f32⟩
  | .hbm, ⟨14, _⟩ => ⟨S8x2048x2048, .f32⟩
  | .hbm, ⟨15, _⟩ => ⟨S8x2048x2048, .f32⟩
  | .hbm, ⟨16, _⟩ => ⟨S1x1x2048, .f32⟩
  | .hbm, ⟨17, _⟩ => ⟨S8x2048x2048, .f32⟩
  | .hbm, ⟨18, _⟩ => ⟨S8x2048x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel7.lean ====
abbrev S16384x2048 : Shape := ⟨2, ![16384, 2048]⟩
abbrev S2048 : Shape := ⟨1, ![2048]⟩
abbrev S16x1x12288 : Shape := ⟨3, ![16, 1, 12288]⟩
abbrev S1x2048 : Shape := ⟨2, ![1, 2048]⟩
abbrev S256x2048 : Shape := ⟨2, ![256, 2048]⟩
abbrev S1x1x2048 : Shape := ⟨3, ![1, 1, 2048]⟩
abbrev S256 : Shape := ⟨1, ![256]⟩
abbrev S256x1 : Shape := ⟨2, ![256, 1]⟩

abbrev nBuf : Space → Nat
  | .hbm => 5
  | .vmem => 9
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S16x1x12288, .f32⟩
  | .hbm, ⟨3, _⟩ => ⟨S1x2048, .f32⟩
  | .hbm, ⟨4, _⟩ => ⟨S16384x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S256x2048, .bf16⟩
  | .local _ .vmem, ⟨8, _⟩ => ⟨S256x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c1_i32_5 : BitVec 32 := 1#32
  let c0_i32_6 : BitVec 32 := 0#32
  ![v16.toNat, c0_i32_4.toNat, c1_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference7Ideal.lean ====
abbrev S16384x2048 : Shape := ⟨2, ![16384, 2048]⟩
abbrev S2048 : Shape := ⟨1, ![2048]⟩
abbrev S16x1x12288 : Shape := ⟨3, ![16, 1, 12288]⟩
abbrev S8x1x12288 : Shape := ⟨3, ![8, 1, 12288]⟩
abbrev S8x1x2048 : Shape := ⟨3, ![8, 1, 2048]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩

abbrev nBuf : Space → Nat
  | .hbm => 36
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S16x1x12288, .f32⟩
  | .hbm, ⟨3, _⟩ => ⟨S8x1x12288, .f32⟩
  | .hbm, ⟨4, _⟩ => ⟨S8x1x2048, .f32⟩
  | .hbm, ⟨5, _⟩ => ⟨S8x1x2048, .f32⟩
  | .hbm, ⟨6, _⟩ => ⟨S8x1x2048, .f32⟩
  | .hbm, ⟨7, _⟩ => ⟨S8x1x2048, .f32⟩
  | .hbm, ⟨8, _⟩ => ⟨S8x1x2048, .f32⟩
  | .hbm, ⟨9, _⟩ => ⟨S8x1x2048, .f32⟩
  | .hbm, ⟨10, _⟩ => ⟨S8x2048x2048, .f32⟩
  | .hbm, ⟨11, _⟩ => ⟨S8x2048x2048, .f32⟩
  | .hbm, ⟨12, _⟩ => ⟨S_, .f32⟩
  | .hbm, ⟨13, _⟩ => ⟨S8x2048, .f32⟩
  | .hbm, ⟨14, _⟩ => ⟨S8x2048x1, .f32⟩
  | .hbm, ⟨15, _⟩ => ⟨S_, .f32⟩
  | .hbm, ⟨16, _⟩ => ⟨S8x2048x1, .f32⟩
  | .hbm, ⟨17, _⟩ => ⟨S8x2048x1, .f32⟩
  | .hbm, ⟨18, _⟩ => ⟨S_, .f32⟩
  | .hbm, ⟨19, _⟩ => ⟨S8x2048x1, .f32⟩
  | .hbm, ⟨20, _⟩ => ⟨S8x2048x1, .f32⟩
  | .hbm, ⟨21, _⟩ => ⟨S8x2048x1, .f32⟩
  | .hbm, ⟨22, _⟩ => ⟨S8x2048x2048, .f32⟩
  | .hbm, ⟨23, _⟩ => ⟨S8x2048x2048, .f32⟩
  | .hbm, ⟨24, _⟩ => ⟨S1x1x2048, .f32⟩
  | .hbm, ⟨25, _⟩ => ⟨S8x2048x2048, .f32⟩
  | .hbm, ⟨26, _⟩ => ⟨S8x2048x2048, .f32⟩
  | .hbm, ⟨27, _⟩ => ⟨S_, .f32⟩
  | .hbm, ⟨28, _⟩ => ⟨S8x1x2048, .f32⟩
  | .hbm, ⟨29, _⟩ => ⟨S8x1x2048, .f32⟩
  | .hbm, ⟨30, _⟩ => ⟨S8x2048x2048, .f32⟩
  | .hbm, ⟨31, _⟩ => ⟨S8x2048x2048, .f32⟩
  | .hbm, ⟨32, _⟩ => ⟨S8x2048x2048, .f32⟩
  | .hbm, ⟨33, _⟩ => ⟨S8x2048x2048, .f32⟩
  | .hbm, ⟨34, _⟩ => ⟨S16384x2048, .f32⟩
  | .hbm, ⟨35, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩

abbrev nD : Nat := 1
abbrev τ : Topo := Topo.v7x

variable {F : FTy → Type} [FloatOps F]
-- ==== Kernel8.lean ====
abbrev S16x2048 : Shape := ⟨2, ![16, 2048]⟩
abbrev S4x2048x12288 : Shape := ⟨3, ![4, 2048, 12288]⟩
abbrev S4x12288 : Shape := ⟨2, ![4, 12288]⟩
abbrev S4x1x12288 : Shape := ⟨3, ![4, 1, 12288]⟩
abbrev S4x16x12288 : Shape := ⟨3, ![4, 16, 12288]⟩
abbrev S1x2048x1024 : Shape := ⟨3, ![1, 2048, 1024]⟩
abbrev S1x1x1024 : Shape := ⟨3, ![1, 1, 1024]⟩
abbrev S1x16x1024 : Shape := ⟨3, ![1, 16, 1024]⟩
abbrev S2048x1024 : Shape := ⟨2, ![2048, 1024]⟩
abbrev S16x1024 : Shape := ⟨2, ![16, 1024]⟩
abbrev S1x1024 : Shape := ⟨2, ![1, 1024]⟩
abbrev S4x16x1x12288 : Shape := ⟨4, ![4, 16, 1, 12288]⟩

abbrev nBuf : Space → Nat
  | .hbm => 6
  | .vmem => 7
  | .smem => 0
  | _ => 0

abbrev bufTy : (tb : Table) → Fin (tcTables nBuf tb) → BufTy
  | .hbm, ⟨0, _⟩ => ⟨S16x2048, .f32⟩
  | .hbm, ⟨1, _⟩ => ⟨S4x2048x12288, .f32⟩
  | .hbm, ⟨2, _⟩ => ⟨S4x12288, .f32⟩
  | .hbm, ⟨3, _⟩ => ⟨S4x1x12288, .f32⟩
  | .hbm, ⟨4, _⟩ => ⟨S4x16x12288, .f32⟩
  | .hbm, ⟨5, _⟩ => ⟨S4x16x1x12288, .f32⟩
  | .local _ .vmem, ⟨0, _⟩ => ⟨S16x2048, .f32⟩
  | .local _ .vmem, ⟨1, _⟩ => ⟨S1x2048x1024, .f32⟩
  | .local _ .vmem, ⟨2, _⟩ => ⟨S1x2048x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x16x1024, .f32⟩
  | .local _ .vmem, ⟨6, _⟩ => ⟨S1x16x1024, .f32⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference8Ideal.lean ====
abbrev S16x2048 : Shape := ⟨2, ![16, 2048]⟩
abbrev S4x2048x12288 : Shape := ⟨3, ![4, 2048, 12288]⟩
abbrev S4x12288 : Shape := ⟨2, ![4, 12288]⟩
abbrev S_ : Shape := ⟨0, ![]⟩
abbrev S16x1x2048 : Shape := ⟨3, ![16, 1, 2048]⟩
abbrev S1x2048x12288 : Shape := ⟨3, ![1, 2048, 12288]⟩
abbrev S2048x12288 : Shape := ⟨2, ![2048, 12288]⟩
abbrev S16x1x12288 : Shape := ⟨3, ![16, 1, 12288]⟩
abbrev S1x12288 : Shape := ⟨2, ![1, 12288]⟩
abbrev S12288 : Shape := ⟨1, ![12288]⟩
abbrev S1x1x12288 : Shape := ⟨3, ![1, 1, 12288]⟩
abbrev S1x16x1x12288 : Shape := ⟨4, ![1, 16, 1, 12288]⟩
abbrev S4x16x1x12288 : Shape := ⟨4, ![4, 16, 1, 12288]⟩

abbrev nBuf : Space → Nat
  | .hbm => 50
  | .vmem => 0
  | .smem => 0
  | _ => 0

abbrev bufTy : (tb : Table) → Fin (tcTables nBuf tb) → BufTy
  | .hbm, ⟨0, _⟩ => ⟨S16x2048, .f32⟩
  | .hbm, ⟨1, _⟩ => ⟨S4x2048x12288, .f32⟩
  | .hbm, ⟨2, _⟩ => ⟨S4x12288, .f32⟩
  | .hbm, ⟨3, _⟩ => ⟨S16x2048, .f32⟩
  | .hbm, ⟨4, _⟩ => ⟨S16x2048, .f32⟩
  | .hbm, ⟨5, _⟩ => ⟨S_, .f32⟩
  | .hbm, ⟨6, _⟩ => ⟨S16x2048, .f32⟩
  | .hbm, ⟨7, _⟩ => ⟨S16x2048, .f32⟩
  | .hbm, ⟨8, _⟩ => ⟨S_, .f32⟩
  | .hbm, ⟨9, _⟩ => ⟨S16x2048, .f32⟩
  | .hbm, ⟨10, _⟩ => ⟨S16x2048, .f32⟩
  | .hbm, ⟨11, _⟩ => ⟨S16x2048, .f32⟩
  | .hbm, ⟨12, _⟩ => ⟨S16x1x2048, .f32⟩
  | .hbm, ⟨13, _⟩ => ⟨S1x2048x12288, .f32⟩
  | .hbm, ⟨14, _⟩ => ⟨S2048x12288, .f32⟩
  | .hbm, ⟨15, _⟩ => ⟨S16x1x12288, .f32⟩
  | .hbm, ⟨16, _⟩ => ⟨S1x12288, .f32⟩
  | .hbm, ⟨17, _⟩ => ⟨S12288, .f32⟩
  | .hbm, ⟨18, _⟩ => ⟨S1x1x12288, .f32⟩
  | .hbm, ⟨19, _⟩ => ⟨S16x1x12288, .f32⟩
  | .hbm, ⟨20, _⟩ => ⟨S16x1x12288, .f32⟩
  | .hbm, ⟨21, _⟩ => ⟨S1x2048x12288, .f32⟩
  | .hbm, ⟨22, _⟩ => ⟨S2048x12288, .f32⟩
  | .hbm, ⟨23, _⟩ => ⟨S16x1x12288, .f32⟩
  | .hbm, ⟨24, _⟩ => ⟨S1x12288, .f32⟩
  | .hbm, ⟨25, _⟩ => ⟨S12288, .f32⟩
  | .hbm, ⟨26, _⟩ => ⟨S1x1x12288, .f32⟩
  | .hbm, ⟨27, _⟩ => ⟨S16x1x12288, .f32⟩
  | .hbm, ⟨28, _⟩ => ⟨S16x1x12288, .f32⟩
  | .hbm, ⟨29, _⟩ => ⟨S1x2048x12288, .f32⟩
  | .hbm, ⟨30, _⟩ => ⟨S2048x12288, .f32⟩
  | .hbm, ⟨31, _⟩ => ⟨S16x1x12288, .f32⟩
  | .hbm, ⟨32, _⟩ => ⟨S1x12288, .f32⟩
  | .hbm, ⟨33, _⟩ => ⟨S12288, .f32⟩
  | .hbm, ⟨34, _⟩ => ⟨S1x1x12288, .f32⟩
  | .hbm, ⟨35, _⟩ => ⟨S16x1x12288, .f32⟩
  | .hbm, ⟨36, _⟩ => ⟨S16x1x12288, .f32⟩
  | .hbm, ⟨37, _⟩ => ⟨S1x2048x12288, .f32⟩
  | .hbm, ⟨38, _⟩ => ⟨S2048x12288, .f32⟩
  | .hbm, ⟨39, _⟩ => ⟨S16x1x12288, .f32⟩
  | .hbm, ⟨40, _⟩ => ⟨S1x12288, .f32⟩
  | .hbm, ⟨41, _⟩ => ⟨S12288, .f32⟩
  | .hbm, ⟨42, _⟩ => ⟨S1x1x12288, .f32⟩
  | .hbm, ⟨43, _⟩ => ⟨S16x1x12288, .f32⟩
  | .hbm, ⟨44, _⟩ => ⟨S16x1x12288, .f32⟩
  | .hbm, ⟨45, _⟩ => ⟨S1x16x1x12288, .f32⟩
  | .hbm, ⟨46, _⟩ => ⟨S1x16x1x12288, .f32⟩
  | .hbm, ⟨47, _⟩ => ⟨S1x16x1x12288, .f32⟩
  | .hbm, ⟨48, _⟩ => ⟨S1x16x1x12288, .f32⟩
  | .hbm, ⟨49, _⟩ => ⟨S4x16x1x12288, .f32⟩
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩

abbrev nD : Nat := 1
abbrev τ : Topo := Topo.v7x

variable {F : FTy → Type} [FloatOps F]
-- ==== Kernel9.lean ====
abbrev S33x64 : Shape := ⟨2, ![33, 64]⟩
abbrev S64 : Shape := ⟨1, ![64]⟩
abbrev S2x64x64 : Shape := ⟨3, ![2, 64, 64]⟩
abbrev S2x64 : Shape := ⟨2, ![2, 64]⟩
abbrev S_ : Shape := ⟨0, ![]⟩
abbrev S128x64 : Shape := ⟨2, ![128, 64]⟩
abbrev S1 : Shape := ⟨1, ![1]⟩
abbrev S1x64 : Shape := ⟨2, ![1, 64]⟩
abbrev S2x1x64 : Shape := ⟨3, ![2, 1, 64]⟩
abbrev S2048x64 : Shape := ⟨2, ![2048, 64]⟩
abbrev S2048x128 : Shape := ⟨2, ![2048, 128]⟩
abbrev S1x64x64 : Shape := ⟨3, ![1, 64, 64]⟩
abbrev S64x64 : Shape := ⟨2, ![64, 64]⟩
abbrev S1x1x64 : Shape := ⟨3, ![1, 1, 64]⟩

abbrev nBuf : Space → Nat
  | .hbm => 12
  | .vmem => 5
  | .smem => 0
  | _ => 0

abbrev bufTy : (tb : Table) → Fin (tcTables nBuf tb) → BufTy
  | .hbm, ⟨0, _⟩ => ⟨S33x64, .f32⟩
  | .hbm, ⟨1, _⟩ => ⟨S64, .f32⟩
  | .hbm, ⟨2, _⟩ => ⟨S2x64x64, .f32⟩
  | .hbm, ⟨3, _⟩ => ⟨S2x64, .f32⟩
  | .hbm, ⟨4, _⟩ => ⟨S_, .f32⟩
  | .hbm, ⟨5, _⟩ => ⟨S128x64, .f32⟩
  | .hbm, ⟨6, _⟩ => ⟨S_, .i32⟩
  | .hbm, ⟨7, _⟩ => ⟨S1, .i32⟩
  | .hbm, ⟨8, _⟩ => ⟨S128x64, .f32⟩
  | .hbm, ⟨9, _⟩ => ⟨S1x64, .f32⟩
  | .hbm, ⟨10, _⟩ => ⟨S2x1x64, .f32⟩
  | .hbm, ⟨11, _⟩ => ⟨S2048x64, .f32⟩
  | .local _ .vmem, ⟨0, _⟩ => ⟨S128x64, .f32⟩
  | .local _ .vmem, ⟨1, _⟩ => ⟨S1x64, .f32⟩
  | .local _ .vmem, ⟨2, _⟩ => ⟨S2x64x64, .f32⟩
  | .local _ .vmem, ⟨3, _⟩ => ⟨S2x1x64, .f32⟩
  | .local _ .vmem, ⟨4, _⟩ => ⟨S2048x64, .f32⟩
  | _, _ => ⟨S33x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S128x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Reference9Ideal.lean ====
abbrev S33x64 : Shape := ⟨2, ![33, 64]⟩
abbrev S64 : Shape := ⟨1, ![64]⟩
abbrev S2x64x64 : Shape := ⟨3, ![2, 64, 64]⟩
abbrev S2x64 : Shape := ⟨2, ![2, 64]⟩
abbrev S2048 : Shape := ⟨1, ![2048]⟩
abbrev S_ : Shape := ⟨0, ![]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S2048x33 : Shape := ⟨2, ![2048, 33]⟩
abbrev S2048x64 : Shape := ⟨2, ![2048, 64]⟩
abbrev S1x64 : Shape := ⟨2, ![1, 64]⟩
abbrev S1x64x64 : Shape := ⟨3, ![1, 64, 64]⟩
abbrev S64x64 : Shape := ⟨2, ![64, 64]⟩

abbrev nBuf : Space → Nat
  | .hbm => 50
  | .vmem => 0
  | .smem => 0
  | _ => 0

abbrev bufTy : (tb : Table) → Fin (tcTables nBuf tb) → BufTy
  | .hbm, ⟨0, _⟩ => ⟨S33x64, .f32⟩
  | .hbm, ⟨1, _⟩ => ⟨S64, .f32⟩
  | .hbm, ⟨2, _⟩ => ⟨S2x64x64, .f32⟩
  | .hbm, ⟨3, _⟩ => ⟨S2x64, .f32⟩
  | .hbm, ⟨4, _⟩ => ⟨S2048, .f32⟩
  | .hbm, ⟨5, _⟩ => ⟨S_, .f32⟩
  | .hbm, ⟨6, _⟩ => ⟨S2048, .f32⟩
  | .hbm, ⟨7, _⟩ => ⟨S2048, .f32⟩
  | .hbm, ⟨8, _⟩ => ⟨S16, .f32⟩
  | .hbm, ⟨9, _⟩ => ⟨S_, .f32⟩
  | .hbm, ⟨10, _⟩ => ⟨S16, .f32⟩
  | .hbm, ⟨11, _⟩ => ⟨S16, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S1x16, .f32⟩
  | .hbm, ⟨17, _⟩ => ⟨S2048x16, .f32⟩
  | .hbm, ⟨18, _⟩ => ⟨S2048x16, .f32⟩
  | .hbm, ⟨19, _⟩ => ⟨S2048x16, .f32⟩
  | .hbm, ⟨20, _⟩ => ⟨S_, .f32⟩
  | .hbm, ⟨21, _⟩ => ⟨S2048x16, .f32⟩
  | .hbm, ⟨22, _⟩ => ⟨S2048x16, .f32⟩
  | .hbm, ⟨23, _⟩ => ⟨S2048x1, .f32⟩
  | .hbm, ⟨24, _⟩ => ⟨S2048x16, .f32⟩
  | .hbm, ⟨25, _⟩ => ⟨S2048x16, .f32⟩
  | .hbm, ⟨26, _⟩ => ⟨S2048x33, .f32⟩
  | .hbm, ⟨27, _⟩ => ⟨S2048x64, .f32⟩
  | .hbm, ⟨28, _⟩ => ⟨S1x64, .f32⟩
  | .hbm, ⟨29, _⟩ => ⟨S2048x64, .f32⟩
  | .hbm, ⟨30, _⟩ => ⟨S2048x64, .f32⟩
  | .hbm, ⟨31, _⟩ => ⟨S2048x64, .f32⟩
  | .hbm, ⟨32, _⟩ => ⟨S1x64x64, .f32⟩
  | .hbm, ⟨33, _⟩ => ⟨S64x64, .f32⟩
  | .hbm, ⟨34, _⟩ => ⟨S2048x64, .f32⟩
  | .hbm, ⟨35, _⟩ => ⟨S1x64, .f32⟩
  | .hbm, ⟨36, _⟩ => ⟨S64, .f32⟩
  | .hbm, ⟨37, _⟩ => ⟨S1x64, .f32⟩
  | .hbm, ⟨38, _⟩ => ⟨S2048x64, .f32⟩
  | .hbm, ⟨39, _⟩ => ⟨S2048x64, .f32⟩
  | .hbm, ⟨40, _⟩ => ⟨S2048x64, .f32⟩
  | .hbm, ⟨41, _⟩ => ⟨S1x64x64, .f32⟩
  | .hbm, ⟨42, _⟩ => ⟨S64x64, .f32⟩
  | .hbm, ⟨43, _⟩ => ⟨S2048x64, .f32⟩
  | .hbm, ⟨44, _⟩ => ⟨S1x64, .f32⟩
  | .hbm, ⟨45, _⟩ => ⟨S64, .f32⟩
  | .hbm, ⟨46, _⟩ => ⟨S1x64, .f32⟩
  | .hbm, ⟨47, _⟩ => ⟨S2048x64, .f32⟩
  | .hbm, ⟨48, _⟩ => ⟨S2048x64, .f32⟩
  | .hbm, ⟨49, _⟩ => ⟨S2048x64, .f32⟩
  | _, _ => ⟨S33x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩

abbrev nD : Nat := 1
abbrev τ : Topo := Topo.v7x

variable {F : FTy → Type} [FloatOps F]
-- ==== Kernel10.lean ====
abbrev S2048x3072 : Shape := ⟨2, ![2048, 3072]⟩
abbrev S16 : Shape := ⟨1, ![16]⟩
abbrev S2048x2048 : Shape := ⟨2, ![2048, 2048]⟩
abbrev S256x2048 : Shape := ⟨2, ![256, 2048]⟩
abbrev S256x512 : Shape := ⟨2, ![256, 512]⟩
abbrev S256x128 : Shape := ⟨2, ![256, 128]⟩
abbrev S1024x128 : Shape := ⟨2, ![1024, 128]⟩
abbrev S1024x256 : Shape := ⟨2, ![1024, 256]⟩
abbrev S1024x1 : Shape := ⟨2, ![1024, 1]⟩
abbrev S1 : Shape := ⟨1, ![1]⟩
abbrev S1024 : Shape := ⟨1, ![1024]⟩

abbrev nBuf : Space → Nat
  | .hbm => 3
  | .vmem => 8
  | .smem => 1
  | _ => 0

abbrev bufTy : (tb : Table) → Fin (tcTables nBuf tb) → BufTy
  | .hbm, ⟨0, _⟩ => ⟨S2048x3072, .f32⟩
  | .hbm, ⟨1, _⟩ => ⟨S16, .f32⟩
  | .hbm, ⟨2, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x2048, .bf16⟩
  | .local _ .vmem, ⟨7, _⟩ => ⟨S256x2048, .bf16⟩
  | .local _ .smem, ⟨0, _⟩ => ⟨S16, .f32⟩
  | _, _ => ⟨S2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference10Ideal.lean ====
abbrev S2048x3072 : Shape := ⟨2, ![2048, 3072]⟩
abbrev S16 : Shape := ⟨1, ![16]⟩
abbrev S4x4x1x1 : Shape := ⟨4, ![4, 4, 1, 1]⟩
abbrev S8x256x3072 : Shape := ⟨3, ![8, 256, 3072]⟩
abbrev S8x256x1024 : Shape := ⟨3, ![8, 256, 1024]⟩
abbrev S8x256x512 : Shape := ⟨3, ![8, 256, 512]⟩
abbrev S8x256x4x128 : Shape := ⟨4, ![8, 256, 4, 128]⟩
abbrev S8x256x2048 : Shape := ⟨3, ![8, 256, 2048]⟩
abbrev S8x256x4x4x128 : Shape := ⟨5, ![8, 256, 4, 4, 128]⟩
abbrev S8x4x256x256x4 : Shape := ⟨5, ![8, 4, 256, 256, 4]⟩
abbrev S8x4x4x256x256 : Shape := ⟨5, ![8, 4, 4, 256, 256]⟩
abbrev S_ : Shape := ⟨0, ![]⟩
abbrev S8x4x4x256 : Shape := ⟨4, ![8, 4, 4, 256]⟩
abbrev S8x4x4x256x1 : Shape := ⟨5, ![8, 4, 4, 256, 1]⟩
abbrev S1x4x4x1x1 : Shape := ⟨5, ![1, 4, 4, 1, 1]⟩
abbrev S8x4x128x4x256 : Shape := ⟨5, ![8, 4, 128, 4, 256]⟩
abbrev S2048x2048 : Shape := ⟨2, ![2048, 2048]⟩

abbrev nBuf : Space → Nat
  | .hbm => 39
  | .vmem => 0
  | .smem => 0
  | _ => 0

abbrev bufTy : (tb : Table) → Fin (tcTables nBuf tb) → BufTy
  | .hbm, ⟨0, _⟩ => ⟨S2048x3072, .f32⟩
  | .hbm, ⟨1, _⟩ => ⟨S16, .f32⟩
  | .hbm, ⟨2, _⟩ => ⟨S4x4x1x1, .f32⟩
  | .hbm, ⟨3, _⟩ => ⟨S8x256x3072, .f32⟩
  | .hbm, ⟨4, _⟩ => ⟨S8x256x1024, .f32⟩
  | .hbm, ⟨5, _⟩ => ⟨S8x256x512, .f32⟩
  | .hbm, ⟨6, _⟩ => ⟨S8x256x512, .f32⟩
  | .hbm, ⟨7, _⟩ => ⟨S8x256x4x128, .f32⟩
  | .hbm, ⟨8, _⟩ => ⟨S8x256x4x128, .f32⟩
  | .hbm, ⟨9, _⟩ => ⟨S8x256x2048, .f32⟩
  | .hbm, ⟨10, _⟩ => ⟨S8x256x4x4x128, .f32⟩
  | .hbm, ⟨11, _⟩ => ⟨S8x4x256x256x4, .f32⟩
  | .hbm, ⟨12, _⟩ => ⟨S8x4x4x256x256, .f32⟩
  | .hbm, ⟨13, _⟩ => ⟨S_, .f32⟩
  | .hbm, ⟨14, _⟩ => ⟨S8x4x4x256x256, .f32⟩
  | .hbm, ⟨15, _⟩ => ⟨S8x4x4x256x256, .f32⟩
  | .hbm, ⟨16, _⟩ => ⟨S_, .f32⟩
  | .hbm, ⟨17, _⟩ => ⟨S8x4x4x256, .f32⟩
  | .hbm, ⟨18, _⟩ => ⟨S8x4x4x256x1, .f32⟩
  | .hbm, ⟨19, _⟩ => ⟨S1x4x4x1x1, .f32⟩
  | .hbm, ⟨20, _⟩ => ⟨S8x4x4x256x1, .f32⟩
  | .hbm, ⟨21, _⟩ => ⟨S8x4x4x256x1, .f32⟩
  | .hbm, ⟨22, _⟩ => ⟨S8x4x4x256x256, .f32⟩
  | .hbm, ⟨23, _⟩ => ⟨S8x4x4x256x256, .f32⟩
  | .hbm, ⟨24, _⟩ => ⟨S8x4x4x256x256, .f32⟩
  | .hbm, ⟨25, _⟩ => ⟨S_, .f32⟩
  | .hbm, ⟨26, _⟩ => ⟨S8x4x4x256, .f32⟩
  | .hbm, ⟨27, _⟩ => ⟨S8x4x4x256x1, .f32⟩
  | .hbm, ⟨28, _⟩ => ⟨S1x4x4x1x1, .f32⟩
  | .hbm, ⟨29, _⟩ => ⟨S8x4x4x256x1, .f32⟩
  | .hbm, ⟨30, _⟩ => ⟨S8x4x4x256x1, .f32⟩
  | .hbm, ⟨31, _⟩ => ⟨S8x4x4x256x1, .f32⟩
  | .hbm, ⟨32, _⟩ => ⟨S8x4x4x256x1, .f32⟩
  | .hbm, ⟨33, _⟩ => ⟨S8x4x4x256x256, .f32⟩
  | .hbm, ⟨34, _⟩ => ⟨S8x4x4x256x256, .f32⟩
  | .hbm, ⟨35, _⟩ => ⟨S8x4x128x4x256, .f32⟩
  | .hbm, ⟨36, _⟩ => ⟨S8x256x4x4x128, .f32⟩
  | .hbm, ⟨37, _⟩ => ⟨S2048x2048, .f32⟩
  | .hbm, ⟨38, _⟩ => ⟨S2048x2048, .bf16⟩
  | _, _ => ⟨S2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst_1 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩

abbrev nD : Nat := 1
abbrev τ : Topo := Topo.v7x

variable {F : FTy → Type} [FloatOps F]
-- ==== Proof.WordFrame.lean ====
/- The attention kernel's frame on machine words: the body's run at every grid point and the whole pipeline's run from it. Nothing
is said of what the output holds; its window is one that the pipeline's data leaves unnamed. -/
module

public import proofs.«01_k».proof.Proof.WordRun
public import Idealize.ShloMosaic.Lib.Claim

@[expose] public section

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The windows of which nothing is said: the output's. -/
def open0 : Fin 20 → Bool := fun w => w.val == 19

/-- What the pipeline's windows hold after each grid point: an input its own block, the output something. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => X0_1 m c t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, h⟩ => Pipeline.Dat.unnamed (cfg := cfg0) ⟨19, h⟩ t
    | ⟨_ + 20, h⟩ => absurd h (Nat.not_lt.2 (Nat.le_add_left _ _))
  Φ _ := Pipeline.ΦA spec0 c
  q w := Pipeline.shareOf spec0 w
  owed _ := 0

/-- Every window's array starts as the region finds it. -/
theorem A_eq (c : Dev nD) (w : Fin cfg0.W) : (dats m 0 c).A w = V m c (Pipeline.arrRef spec0 w) := by
  dsimp only [dats]

/-! ## The body obligation, at a generic point -/

/-- What the body is handed at a grid point: its staging buffers, the inputs filled. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare d))

/-- What the body gives back: the inputs as they were, the output buffer with something in it. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ (∃ d, owns (c : Thread nD τ) (ms0_19 t) fullShare d))

set_option maxHeartbeats 2000000 in
/-- The body at a grid point leads from the one to the other. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0_of m (dats m 0 c) (A_eq m c 0) (fun _ => by dsimp only [dats]),
    before0_1_of m (dats m 0 c) (A_eq m c 1) (fun _ => by dsimp only [dats]),
    before0_2_of m (dats m 0 c) (A_eq m c 2) (fun _ => by dsimp only [dats]),
    before0_3_of m (dats m 0 c) (A_eq m c 3) (fun _ => by dsimp only [dats]),
    before0_4_of m (dats m 0 c) (A_eq m c 4) (fun _ => by dsimp only [dats]),
    before0_5_of m (dats m 0 c) (A_eq m c 5) (fun _ => by dsimp only [dats]),
    before0_6_of m (dats m 0 c) (A_eq m c 6) (fun _ => by dsimp only [dats]),
    before0_7_of m (dats m 0 c) (A_eq m c 7) (fun _ => by dsimp only [dats]),
    before0_8_of m (dats m 0 c) (A_eq m c 8) (fun _ => by dsimp only [dats]),
    before0_9_of m (dats m 0 c) (A_eq m c 9) (fun _ => by dsimp only [dats]),
    before0_10_of m (dats m 0 c) (A_eq m c 10) (fun _ => by dsimp only [dats]),
    before0_11_of m (dats m 0 c) (A_eq m c 11) (fun _ => by dsimp only [dats]),
    before0_12_of m (dats m 0 c) (A_eq m c 12) (fun _ => by dsimp only [dats]),
    before0_13_of m (dats m 0 c) (A_eq m c 13) (fun _ => by dsimp only [dats]),
    before0_14_of m (dats m 0 c) (A_eq m c 14) (fun _ => by dsimp only [dats]),
    before0_15_of m (dats m 0 c) (A_eq m c 15) (fun _ => by dsimp only [dats]),
    before0_16_of m (dats m 0 c) (A_eq m c 16) (fun _ => by dsimp only [dats]),
    before0_17_of m (dats m 0 c) (A_eq m c 17) (fun _ => by dsimp only [dats]),
    before0_18_of m (dats m 0 c) (A_eq m c 18) (fun _ => by dsimp only [dats])]
  rw [show (dats m 0 c).Φ t.succ = (dats m 0 c).Φ t.castSucc from rfl,
    show (dats m 0 c).owesAt () t.succ = (dats m 0 c).owesAt () t.castSucc from rfl]
  dsimp only [dats]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  iapply ((wordRun c (grid0.coords t) _ _ _ _ _ _ _ _ _ _ _ _ _ _ _ _ _ _ _ _ _ _ _ _ _ _ _ _ _ _ _ _ _ _ _ _ _ _ _ _ (iblk m c 0 t) (X0_1 m c t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexists _; iexact H19
  iintro ⟨H0, H1, H2, H3, H4, H5, H6, H7, H8, H9, H10, H11, H12, H13, H14, H15, H16, H17, H18, H19⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

/-- The grid point's step is the kernel's body at that point's coordinates and staging buffers. -/
theorem defs₀_row (t : Fin cfg0.N) :
    defs₀ (F := F) .tc cfg0.body (cfg0.bodyArgs t (cfg0.slots t)) = bodyAt0 t := by
  unfold defs₀; rw [Defs.onTc_tc]

/-- The body meets what the pipeline asks of it at every grid point. -/
theorem body_obligation (c : Dev nD) : BodyObligation (dats (F := F) m 0 c) (defs₀ (F := F)) Variants.none () Set.univ open0 := fun t => by
  rw [bigSep_W0, bigSep_W0, defs₀_row]
  exact triple_restated (sound_body m c t) rfl .rfl fun _ => .rfl

/-! ## The run and the frame -/

-- `θ_run_frame_forget_shared`'s implicit arguments are found by unifying its conclusion with this one, which takes unfolding plain
-- definitions in a metavariable's type
set_option backward.isDefEq.respectTransparency.types false in
/-- The whole program runs to its end, its input arrays as they were and every counter at zero. -/
theorem run_main_quiescent : θ_run defs (onTc (τ := τ) (main (F := F))) (s₀ m ρ) (fun r => (Pipeline.RDat.FramePost (cfgs 0) (fun c => (dats m 0 c).toRForget open0) (V m)) r ∧ r.2.sem = fun _ => 0) :=
  Pipeline.θ_run_frame_forget_shared (Q' := _) cfgs (dats m) (0 : Fin 1) launch₀0 defs₀ Variants.none open0 m ρ main
    (hbody := fun c => (body_obligation m c).loose) (hq := fun _ _ _ => rfl)
    (howed := fun _ _ => rfl) (V := V m) (hmain := hmain m Variants.none) (hA := A_eq m) (hΦ := fun _ _ => rfl)

/-- The same without the counters. -/
theorem run_main : θ_run defs (onTc (τ := τ) (main (F := F))) (s₀ m ρ) (Pipeline.RDat.FramePost (cfgs 0) (fun c => (dats m 0 c).toRForget open0) (V m)) :=
  (θ_run defs _ _).mono (fun _ h => h.1) (run_main_quiescent m ρ)

/-- The arguments end as they were, for any data of the pipeline that starts from the region's arrays. -/
theorem kept (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(Pipeline.RDat.FramePost.arr_in h c 7 rfl).trans ((hA c 7).trans (V_main_arg0 m c)),
      (Pipeline.RDat.FramePost.arr_in h c 9 rfl).trans ((hA c 9).trans (V_main_arg1 m c)),
      (Pipeline.RDat.FramePost.arr_in h c 0 rfl).trans ((hA c 0).trans (V_main_arg2 m c))⟩) h

/-- The arguments end as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  kept m ρ (fun c => (dats m 0 c).toRForget open0) (A_eq m) (run_main m ρ)

/-- The kernel's frame: it ends, its arguments are unchanged and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel.Attn

end
-- ==== Proof.BodyRun.lean ====
/- One run of the attention kernel's body. The statement names every staging buffer and what it holds; the stored pieces are
what the run itself finds, and the later modules read them. The budget is raised because the stored terms are long. -/
module

public import proofs.«01_k».proof.Proof.Gen.KernelIdeal.Frame.Runs

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
/-- Running the kernel's body once, on staging buffers that hold the blocks `x0 … x18`: it ends, gives the input buffers back as
they were, and leaves in the output buffer the list of pieces that this value carries (found by the run). -/
noncomputable def bodyRun (c : Dev nD) (i : grid0.Coords) (arg2 : Memref sig .tc .smem S16 .f32) (harg2 : arg2.IsWhole) (arg3 : Memref sig .tc .vmem S128x2048 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S128x512 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S128x512 .f32) (harg9 : arg9.IsWhole) (arg10 : Memref sig .tc .vmem S256x512 .f32) (harg10 : arg10.IsWhole) (arg11 : Memref sig .tc .vmem S256x512 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (arg19 : Memref sig .tc .vmem S128x128 .f32) (harg19 : arg19.IsWhole) (arg20 : Memref sig .tc .vmem S128x128 .f32) (harg20 : arg20.IsWhole) (arg21 : Memref sig .tc .vmem S128x2048 .bf16) (harg21 : arg21.IsWhole)
    (x0 : Vec F S16 .f32) (x1 : Vec F S128x2048 .f32) (x2 : Vec F S128x512 .f32) (x3 : Vec F S128x512 .f32) (x4 : Vec F S128x512 .f32) (x5 : Vec F S128x512 .f32) (x6 : Vec F S128x512 .f32) (x7 : Vec F S128x512 .f32) (x8 : Vec F S256x512 .f32) (x9 : Vec F S256x512 .f32) (x10 : Vec F S128x128 .f32) (x11 : Vec F S128x128 .f32) (x12 : Vec F S128x128 .f32) (x13 : Vec F S128x128 .f32) (x14 : Vec F S128x128 .f32) (x15 : Vec F S128x128 .f32) (x16 : Vec F S128x128 .f32) (x17 : Vec F S128x128 .f32) (x18 : Vec F S128x128 .f32) :
    { L19 : List (View.Piece (Elt F) S128x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ (∃ d, owns (c : Thread nD τ) arg21 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ (∃ f, arg21.view.loc (c : Thread nD τ) ↦[arg21.view.set]{fullShare} arg21.view.writes (Elt F) f L19)) -∗ K ⟨⟩))
          ⊢ wp frame (wpE (defs₀ (F := F)) Variants.none c none) E (cc0_attn_lat i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, fun E K => ?run⟩
  case run =>
    simp only [cc0_attn_lat_eq_skeleton]; unfold cc0_attn_lat_skel
    simp only [k0_part17_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d19, %f19, -, H19⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]
    · iexists _; isplitr; · ipureintro; exact harg20.read_unread _
      iexact H18
    iexists _; iexact H19

end Cert.KernelIdeal.Attn

end
-- ==== Proof.BodyFrame.lean ====
/- The attention kernel's frame: the body's run at every grid point, the blocks it leaves, and the whole pipeline's run from them.
The stored block is kept as the list of pieces that the body's run found; `Pieces` says what they are. -/
module

public import proofs.«01_k».proof.Proof.BodyRun
public import Idealize.ShloMosaic.Lib.Claim

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- Every place of the output block is written by some piece. -/
theorem stored_cover (c : Dev nD) (i : grid0.Coords) (arg2 : Memref sig .tc .smem S16 .f32) (harg2 : arg2.IsWhole) (arg3 : Memref sig .tc .vmem S128x2048 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S128x512 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S128x512 .f32) (harg9 : arg9.IsWhole) (arg10 : Memref sig .tc .vmem S256x512 .f32) (harg10 : arg10.IsWhole) (arg11 : Memref sig .tc .vmem S256x512 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (arg19 : Memref sig .tc .vmem S128x128 .f32) (harg19 : arg19.IsWhole) (arg20 : Memref sig .tc .vmem S128x128 .f32) (harg20 : arg20.IsWhole) (arg21 : Memref sig .tc .vmem S128x2048 .bf16) (harg21 : arg21.IsWhole)
    (x0 : Vec F S16 .f32) (x1 : Vec F S128x2048 .f32) (x2 : Vec F S128x512 .f32) (x3 : Vec F S128x512 .f32) (x4 : Vec F S128x512 .f32) (x5 : Vec F S128x512 .f32) (x6 : Vec F S128x512 .f32) (x7 : Vec F S128x512 .f32) (x8 : Vec F S256x512 .f32) (x9 : Vec F S256x512 .f32) (x10 : Vec F S128x128 .f32) (x11 : Vec F S128x128 .f32) (x12 : Vec F S128x128 .f32) (x13 : Vec F S128x128 .f32) (x14 : Vec F S128x128 .f32) (x15 : Vec F S128x128 .f32) (x16 : Vec F S128x128 .f32) (x17 : Vec F S128x128 .f32) (x18 : Vec F S128x128 .f32) (y : S128x2048.Idx) :
    ∃ pc ∈ (bodyRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 x16 x17 x18).1, y ∈ pc.1.set :=
  View.cover_of_tiledL (bodyRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 x16 x17 x18).1 S128x128.size (by sl_kernel_rfl) y

/-- The block that one run of the body leaves in the output's staging buffer, from the blocks it was handed. -/
def stored (c : Dev nD) (i : grid0.Coords) (arg2 : Memref sig .tc .smem S16 .f32) (harg2 : arg2.IsWhole) (arg3 : Memref sig .tc .vmem S128x2048 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S128x512 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S128x512 .f32) (harg9 : arg9.IsWhole) (arg10 : Memref sig .tc .vmem S256x512 .f32) (harg10 : arg10.IsWhole) (arg11 : Memref sig .tc .vmem S256x512 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (arg19 : Memref sig .tc .vmem S128x128 .f32) (harg19 : arg19.IsWhole) (arg20 : Memref sig .tc .vmem S128x128 .f32) (harg20 : arg20.IsWhole) (arg21 : Memref sig .tc .vmem S128x2048 .bf16) (harg21 : arg21.IsWhole)
    (x0 : Vec F S16 .f32) (x1 : Vec F S128x2048 .f32) (x2 : Vec F S128x512 .f32) (x3 : Vec F S128x512 .f32) (x4 : Vec F S128x512 .f32) (x5 : Vec F S128x512 .f32) (x6 : Vec F S128x512 .f32) (x7 : Vec F S128x512 .f32) (x8 : Vec F S256x512 .f32) (x9 : Vec F S256x512 .f32) (x10 : Vec F S128x128 .f32) (x11 : Vec F S128x128 .f32) (x12 : Vec F S128x128 .f32) (x13 : Vec F S128x128 .f32) (x14 : Vec F S128x128 .f32) (x15 : Vec F S128x128 .f32) (x16 : Vec F S128x128 .f32) (x17 : Vec F S128x128 .f32) (x18 : Vec F S128x128 .f32) : Vec F S128x2048 .bf16 :=
  VO0_19.read (Elt F) (VO0_19.writes (Elt F) VO0_19.junk (bodyRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 x16 x17 x18).1)

/-! ## What the outputs hold after each point -/

/-- The block that grid point `t` leaves, from the arrays' blocks at that point. -/
def outAt (c : Dev nD) (t : Fin cfg0.N) : Vec F S128x2048 .bf16 :=
  stored c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (iblk m c 0 t) (X0_1 m c t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)

/-! ## The pipeline's proof data -/

/-- What the pipeline's windows hold after each grid point: an input its own block, the output the block just stored. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => X0_1 m c t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => (outAt m c t)
    | ⟨_ + 20, h⟩ => absurd h (Nat.not_lt.2 (Nat.le_add_left _ _))
  Φ _ := Pipeline.ΦA spec0 c
  q w := Pipeline.shareOf spec0 w
  owed _ := 0

/-- Every window's array starts as the region finds it. -/
theorem A_eq (c : Dev nD) (w : Fin cfg0.W) : (dats m 0 c).A w = V m c (Pipeline.arrRef spec0 w) := by
  dsimp only [dats]

/-! ## The body obligation, at a generic point -/

/-- What the body is handed at a grid point: its staging buffers, the inputs filled. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d)))

/-- What the body gives back: the inputs as they were, the output buffer with this point's block. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t))

set_option maxHeartbeats 2000000 in
/-- The body at a grid point leads from the one to the other. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0_of m (dats m 0 c) (A_eq m c 0) (fun _ => by dsimp only [dats]),
    before0_1_of m (dats m 0 c) (A_eq m c 1) (fun _ => by dsimp only [dats]),
    before0_2_of m (dats m 0 c) (A_eq m c 2) (fun _ => by dsimp only [dats]),
    before0_3_of m (dats m 0 c) (A_eq m c 3) (fun _ => by dsimp only [dats]),
    before0_4_of m (dats m 0 c) (A_eq m c 4) (fun _ => by dsimp only [dats]),
    before0_5_of m (dats m 0 c) (A_eq m c 5) (fun _ => by dsimp only [dats]),
    before0_6_of m (dats m 0 c) (A_eq m c 6) (fun _ => by dsimp only [dats]),
    before0_7_of m (dats m 0 c) (A_eq m c 7) (fun _ => by dsimp only [dats]),
    before0_8_of m (dats m 0 c) (A_eq m c 8) (fun _ => by dsimp only [dats]),
    before0_9_of m (dats m 0 c) (A_eq m c 9) (fun _ => by dsimp only [dats]),
    before0_10_of m (dats m 0 c) (A_eq m c 10) (fun _ => by dsimp only [dats]),
    before0_11_of m (dats m 0 c) (A_eq m c 11) (fun _ => by dsimp only [dats]),
    before0_12_of m (dats m 0 c) (A_eq m c 12) (fun _ => by dsimp only [dats]),
    before0_13_of m (dats m 0 c) (A_eq m c 13) (fun _ => by dsimp only [dats]),
    before0_14_of m (dats m 0 c) (A_eq m c 14) (fun _ => by dsimp only [dats]),
    before0_15_of m (dats m 0 c) (A_eq m c 15) (fun _ => by dsimp only [dats]),
    before0_16_of m (dats m 0 c) (A_eq m c 16) (fun _ => by dsimp only [dats]),
    before0_17_of m (dats m 0 c) (A_eq m c 17) (fun _ => by dsimp only [dats]),
    before0_18_of m (dats m 0 c) (A_eq m c 18) (fun _ => by dsimp only [dats])]
  rw [show (dats m 0 c).Φ t.succ = (dats m 0 c).Φ t.castSucc from rfl,
    show (dats m 0 c).owesAt () t.succ = (dats m 0 c).owesAt () t.castSucc from rfl]
  dsimp only [dats]
  unfold outAt
  unfold stored
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  iapply ((bodyRun c (grid0.coords t) _ _ _ _ _ _ _ _ _ _ _ _ _ _ _ _ _ _ _ _ _ _ _ _ _ _ _ _ _ _ _ _ _ _ _ _ _ _ _ _ (iblk m c 0 t) (X0_1 m c t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexists _; iexact H19
  iintro ⟨H0, H1, H2, H3, H4, H5, H6, H7, H8, H9, H10, H11, H12, H13, H14, H15, H16, H17, H18, ⟨%e19, H19⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  unfold owns; iexists _; isplitr
  swap; · iexact H19
  ipureintro; exact View.read_writes_of_cover _ _ _ _ _ (stored_cover c _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The grid point's step is the kernel's body at that point's coordinates and staging buffers. -/
theorem defs₀_row (t : Fin cfg0.N) :
    defs₀ (F := F) .tc cfg0.body (cfg0.bodyArgs t (cfg0.slots t)) = bodyAt0 t := by
  unfold defs₀; rw [Defs.onTc_tc]

/-- The body meets what the pipeline asks of it at every grid point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_shared`'s implicit arguments are found by unifying its conclusion with this one, which takes unfolding plain
-- definitions in a metavariable's type
set_option backward.isDefEq.respectTransparency.types false in
/-- The whole program runs to its end, its arrays as the pipeline leaves them and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The kernel's frame: it ends, its arguments are unchanged and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.KernelIdeal.Attn

end
-- ==== Proof.Vocab.lean ====
/- The attention kernel's body in its own words: the scores, the softmax and the values of one key/value head, as a function of
what the body loads, and the sixteen tiles it stores. -/
module

public import proofs.«01_k».proof.Proof.BodyFrame

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic

variable {F : FTy → Type} [FloatOps F] [Named F]

/-- What one body finds in its input buffers, cut by cut: a sink logit at a position, a 128-lane cut of the query rows, of the
three key and three value rows, of the context's keys and values, and the nine rope tables (this block's, the previous and the
next one's, each as cosine, sine of the upper half, sine of the lower half). -/
structure Loads (F : FTy → Type) where
  sink : (o : ℕ) → (∀ a, (![o] : Fin 1 → ℕ) a + S1.size a ≤ S16.size a) → Elt F .f32
  q : (o : ℕ) → (∀ a, (![0, o] : Fin 2 → ℕ) a + S128x128.size a ≤ S128x2048.size a) → Vec F S128x128 .f32
  kp : (o : ℕ) → (∀ a, (![0, o] : Fin 2 → ℕ) a + S128x128.size a ≤ S128x512.size a) → Vec F S128x128 .f32
  kc : (o : ℕ) → (∀ a, (![0, o] : Fin 2 → ℕ) a + S128x128.size a ≤ S128x512.size a) → Vec F S128x128 .f32
  kn : (o : ℕ) → (∀ a, (![0, o] : Fin 2 → ℕ) a + S128x128.size a ≤ S128x512.size a) → Vec F S128x128 .f32
  vp : (o : ℕ) → (∀ a, (![0, o] : Fin 2 → ℕ) a + S128x128.size a ≤ S128x512.size a) → Vec F S128x128 .f32
  vc : (o : ℕ) → (∀ a, (![0, o] : Fin 2 → ℕ) a + S128x128.size a ≤ S128x512.size a) → Vec F S128x128 .f32
  vn : (o : ℕ) → (∀ a, (![0, o] : Fin 2 → ℕ) a + S128x128.size a ≤ S128x512.size a) → Vec F S128x128 .f32
  kx : (o : ℕ) → (∀ a, (![0, o] : Fin 2 → ℕ) a + S256x128.size a ≤ S256x512.size a) → Vec F S256x128 .f32
  vx : (o : ℕ) → (∀ a, (![0, o] : Fin 2 → ℕ) a + S256x128.size a ≤ S256x512.size a) → Vec F S256x128 .f32
  cosC : Vec F S128x128 .f32
  upC : Vec F S128x128 .f32
  dnC : Vec F S128x128 .f32
  cosP : Vec F S128x128 .f32
  upP : Vec F S128x128 .f32
  dnP : Vec F S128x128 .f32
  cosN : Vec F S128x128 .f32
  upN : Vec F S128x128 .f32
  dnN : Vec F S128x128 .f32

/-- The three-block window of one head's keys, roped. -/
def keys (L : Loads F) (h : ℕ) (hh : h < 4) : FVec F S384x128 .bf16 :=
  k0_pay16 L.cosC L.upC L.dnC L.cosP L.upP L.dnP L.cosN L.upN L.dnN
    (L.kp (128 * h) (by intro a; fin_cases a <;> simp [S128x128, S128x512] <;> omega))
    (L.kc (128 * h) (by intro a; fin_cases a <;> simp [S128x128, S128x512] <;> omega))
    (L.kn (128 * h) (by intro a; fin_cases a <;> simp [S128x128, S128x512] <;> omega))

/-- The three-block window of one head's values. -/
def vals (L : Loads F) (h : ℕ) (hh : h < 4) : FVec F S384x128 .bf16 :=
  k0_pay17
    (L.vp (128 * h) (by intro a; fin_cases a <;> simp [S128x128, S128x512] <;> omega))
    (L.vc (128 * h) (by intro a; fin_cases a <;> simp [S128x128, S128x512] <;> omega))
    (L.vn (128 * h) (by intro a; fin_cases a <;> simp [S128x128, S128x512] <;> omega))

/-- A head's columns fit in the block of queries. -/
theorem fitsQ (h g : ℕ) (hh : h < 4) (hg : g < 4) :
    ∀ a, (![0, 512 * h + 128 * g] : Fin 2 → ℕ) a + S128x128.size a ≤ S128x2048.size a := by
  intro a; fin_cases a <;> simp [S128x128, S128x2048] <;> omega

/-- A head's columns fit in the context's block. -/
theorem fitsX (h : ℕ) (hh : h < 4) : ∀ a, (![0, 128 * h] : Fin 2 → ℕ) a + S256x128.size a ≤ S256x512.size a := by
  intro a; fin_cases a <;> simp [S256x128, S256x512] <;> omega

/-- A head's sink is one of the sixteen. -/
theorem fitsS (h g : ℕ) (hh : h < 4) (hg : g < 4) : ∀ a, (![4 * h + g] : Fin 1 → ℕ) a + S1.size a ≤ S16.size a := by
  intro a; fin_cases a; simp [S1, S16]; omega

/-- Which of the window's keys a query row may see. -/
def mask (i : grid0.Coords) : IVec S512x384 1 := k0_pay15 (k0_pay12 i) k0_pay13 (k0_pay14 i)

/-- The scores of the four query groups of one head against the window. -/
def scoresW (i : grid0.Coords) (L : Loads F) (h : ℕ) (hh : h < 4) : FVec F S512x384 .f32 :=
  k0_pay21 L.cosC L.upC L.dnC (mask i) (keys L h hh)
    (L.q (512 * h + 128 * 0) (fitsQ h 0 hh (by omega))) (L.q (512 * h + 128 * 1) (fitsQ h 1 hh (by omega)))
    (L.q (512 * h + 128 * 2) (fitsQ h 2 hh (by omega))) (L.q (512 * h + 128 * 3) (fitsQ h 3 hh (by omega)))

/-- The scores of the four query groups of one head against the context. -/
def scoresC (L : Loads F) (h : ℕ) (hh : h < 4) : FVec F S512x256 .f32 :=
  k0_pay22 (k0_pay18 (L.kx (128 * h) (fitsX h hh)))
    (k0_pay20 L.cosC L.upC L.dnC
      (L.q (512 * h + 128 * 0) (fitsQ h 0 hh (by omega))) (L.q (512 * h + 128 * 1) (fitsQ h 1 hh (by omega)))
      (L.q (512 * h + 128 * 2) (fitsQ h 2 hh (by omega))) (L.q (512 * h + 128 * 3) (fitsQ h 3 hh (by omega))))

/-- One head's attention, all four query groups. -/
def head (i : grid0.Coords) (L : Loads F) (h : ℕ) (hh : h < 4) : FVec F S512x128 .f32 :=
  k0_pay27 (vals L h hh) (k0_pay19 (L.vx (128 * h) (fitsX h hh))) (scoresW i L h hh) (scoresC L h hh)
    (k0_pay24 (L.sink (4 * h + 0) (fitsS h 0 hh (by omega))) (L.sink (4 * h + 1) (fitsS h 1 hh (by omega)))
      (L.sink (4 * h + 2) (fitsS h 2 hh (by omega))))
    k0_pay25 (k0_pay26 (L.sink (4 * h + 3) (fitsS h 3 hh (by omega))))

/-- A query's rows fit in the four queries stacked. -/
theorem fitsG (g : ℕ) (hg : g < 4) : S512x128.Slices ![128 * g, 0] S128x128 :=
  ⟨rfl, by intro a; fin_cases a <;> simp [S128x128, S512x128] <;> omega⟩

/-- The tile stored for group `g` of head `h`. -/
def tile (i : grid0.Coords) (L : Loads F) (h g : ℕ) (hh : h < 4) (hg : g < 4) : FVec F S128x128 .bf16 :=
  truncf .bf16 (extractStridedSlice S128x128 ![128 * g, 0] (head i L h hh) (fitsG g hg)) bitsLt_bf16_f32

/-- The store of group `g` of head `h`: its tile, in its 128 columns. -/
def piece (i : grid0.Coords) (L : Loads F) (h g : ℕ) (hh : h < 4) (hg : g < 4) : View.Piece (Elt F) S128x2048 .bf16 :=
  ⟨Rect.unit ![0, 512 * h + 128 * g] S128x128.size (fitsQ h g hh hg), tile i L h g hh hg⟩

/-- The four stores of one head, last first. -/
def pieces4 (i : grid0.Coords) (L : Loads F) (h : ℕ) (hh : h < 4) : List (View.Piece (Elt F) S128x2048 .bf16) :=
  [piece i L h 3 hh (by omega), piece i L h 2 hh (by omega), piece i L h 1 hh (by omega), piece i L h 0 hh (by omega)]

/-- All sixteen stores, last first. -/
def pieces (i : grid0.Coords) (L : Loads F) : List (View.Piece (Elt F) S128x2048 .bf16) :=
  pieces4 i L 3 (by omega) ++ (pieces4 i L 2 (by omega) ++ (pieces4 i L 1 (by omega) ++ pieces4 i L 0 (by omega)))

end Cert.KernelIdeal.Attn

end
-- ==== Proof.Pieces.lean ====
/- The sixteen tiles the body's run stores are the tiles of the body's own words. -/
module

public import proofs.«01_k».proof.Proof.Vocab
public import Idealize.ShloMosaic.Lib.Pipeline.Value

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic

variable {F : FTy → Type} [FloatOps F] [Named F]

/-- What a body reads out of staging buffers holding `x0 … x18`, cut by cut, through the buffers. -/
def readLoads (arg2 : Memref sig .tc .smem S16 .f32) (harg2 : arg2.IsWhole) (arg3 : Memref sig .tc .vmem S128x2048 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S128x512 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S128x512 .f32) (harg9 : arg9.IsWhole) (arg10 : Memref sig .tc .vmem S256x512 .f32) (harg10 : arg10.IsWhole) (arg11 : Memref sig .tc .vmem S256x512 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (arg19 : Memref sig .tc .vmem S128x128 .f32) (harg19 : arg19.IsWhole) (arg20 : Memref sig .tc .vmem S128x128 .f32) (harg20 : arg20.IsWhole)
    (x0 : Vec F S16 .f32) (x1 : Vec F S128x2048 .f32) (x2 : Vec F S128x512 .f32) (x3 : Vec F S128x512 .f32) (x4 : Vec F S128x512 .f32) (x5 : Vec F S128x512 .f32) (x6 : Vec F S128x512 .f32) (x7 : Vec F S128x512 .f32) (x8 : Vec F S256x512 .f32) (x9 : Vec F S256x512 .f32) (x10 : Vec F S128x128 .f32) (x11 : Vec F S128x128 .f32) (x12 : Vec F S128x128 .f32) (x13 : Vec F S128x128 .f32) (x14 : Vec F S128x128 .f32) (x15 : Vec F S128x128 .f32) (x16 : Vec F S128x128 .f32) (x17 : Vec F S128x128 .f32) (x18 : Vec F S128x128 .f32) : Loads F where
  sink o h := View.readAt (Elt F) arg2.view (Rect.unit (s := S16) ![o] S1.size h).toLoadRect (harg2.unread x0) (Shape.Idx.first (by show 0 < S1.numel; rw [numel1_S1]; omega))
  q o h := View.readAt (Elt F) arg3.view (Rect.unit (s := S128x2048) ![0, o] S128x128.size h).toLoadRect (harg3.unread x1)
  kp o h := View.readAt (Elt F) arg4.view (Rect.unit (s := S128x512) ![0, o] S128x128.size h).toLoadRect (harg4.unread x2)
  kc o h := View.readAt (Elt F) arg5.view (Rect.unit (s := S128x512) ![0, o] S128x128.size h).toLoadRect (harg5.unread x3)
  kn o h := View.readAt (Elt F) arg6.view (Rect.unit (s := S128x512) ![0, o] S128x128.size h).toLoadRect (harg6.unread x4)
  vp o h := View.readAt (Elt F) arg7.view (Rect.unit (s := S128x512) ![0, o] S128x128.size h).toLoadRect (harg7.unread x5)
  vc o h := View.readAt (Elt F) arg8.view (Rect.unit (s := S128x512) ![0, o] S128x128.size h).toLoadRect (harg8.unread x6)
  vn o h := View.readAt (Elt F) arg9.view (Rect.unit (s := S128x512) ![0, o] S128x128.size h).toLoadRect (harg9.unread x7)
  kx o h := View.readAt (Elt F) arg10.view (Rect.unit (s := S256x512) ![0, o] S256x128.size h).toLoadRect (harg10.unread x8)
  vx o h := View.readAt (Elt F) arg11.view (Rect.unit (s := S256x512) ![0, o] S256x128.size h).toLoadRect (harg11.unread x9)
  cosC := shapeCast S128x128 (View.readAt (Elt F) arg12.view (Rect.unit (s := S128x128) ![0, 0] S128x128.size inb_S128x128_S128x128_0_0).toLoadRect (harg12.unread x10)) shapeCasts_S128x128_S128x128
  upC := shapeCast S128x128 (View.readAt (Elt F) arg13.view (Rect.unit (s := S128x128) ![0, 0] S128x128.size inb_S128x128_S128x128_0_0).toLoadRect (harg13.unread x11)) shapeCasts_S128x128_S128x128
  dnC := shapeCast S128x128 (View.readAt (Elt F) arg14.view (Rect.unit (s := S128x128) ![0, 0] S128x128.size inb_S128x128_S128x128_0_0).toLoadRect (harg14.unread x12)) shapeCasts_S128x128_S128x128
  cosP := shapeCast S128x128 (View.readAt (Elt F) arg15.view (Rect.unit (s := S128x128) ![0, 0] S128x128.size inb_S128x128_S128x128_0_0).toLoadRect (harg15.unread x13)) shapeCasts_S128x128_S128x128
  upP := shapeCast S128x128 (View.readAt (Elt F) arg16.view (Rect.unit (s := S128x128) ![0, 0] S128x128.size inb_S128x128_S128x128_0_0).toLoadRect (harg16.unread x14)) shapeCasts_S128x128_S128x128
  dnP := shapeCast S128x128 (View.readAt (Elt F) arg17.view (Rect.unit (s := S128x128) ![0, 0] S128x128.size inb_S128x128_S128x128_0_0).toLoadRect (harg17.unread x15)) shapeCasts_S128x128_S128x128
  cosN := shapeCast S128x128 (View.readAt (Elt F) arg18.view (Rect.unit (s := S128x128) ![0, 0] S128x128.size inb_S128x128_S128x128_0_0).toLoadRect (harg18.unread x16)) shapeCasts_S128x128_S128x128
  upN := shapeCast S128x128 (View.readAt (Elt F) arg19.view (Rect.unit (s := S128x128) ![0, 0] S128x128.size inb_S128x128_S128x128_0_0).toLoadRect (harg19.unread x17)) shapeCasts_S128x128_S128x128
  dnN := shapeCast S128x128 (View.readAt (Elt F) arg20.view (Rect.unit (s := S128x128) ![0, 0] S128x128.size inb_S128x128_S128x128_0_0).toLoadRect (harg20.unread x18)) shapeCasts_S128x128_S128x128

/-- The same cuts, of the contents themselves. -/
def loads (x0 : Vec F S16 .f32) (x1 : Vec F S128x2048 .f32) (x2 : Vec F S128x512 .f32) (x3 : Vec F S128x512 .f32) (x4 : Vec F S128x512 .f32) (x5 : Vec F S128x512 .f32) (x6 : Vec F S128x512 .f32) (x7 : Vec F S128x512 .f32) (x8 : Vec F S256x512 .f32) (x9 : Vec F S256x512 .f32) (x10 : Vec F S128x128 .f32) (x11 : Vec F S128x128 .f32) (x12 : Vec F S128x128 .f32) (x13 : Vec F S128x128 .f32) (x14 : Vec F S128x128 .f32) (x15 : Vec F S128x128 .f32) (x16 : Vec F S128x128 .f32) (x17 : Vec F S128x128 .f32) (x18 : Vec F S128x128 .f32) : Loads F where
  sink o h := View.ld x0 (Rect.unit (s := S16) ![o] S1.size h) (Shape.Idx.first (by show 0 < S1.numel; rw [numel1_S1]; omega))
  q o h := View.ld x1 (Rect.unit (s := S128x2048) ![0, o] S128x128.size h)
  kp o h := View.ld x2 (Rect.unit (s := S128x512) ![0, o] S128x128.size h)
  kc o h := View.ld x3 (Rect.unit (s := S128x512) ![0, o] S128x128.size h)
  kn o h := View.ld x4 (Rect.unit (s := S128x512) ![0, o] S128x128.size h)
  vp o h := View.ld x5 (Rect.unit (s := S128x512) ![0, o] S128x128.size h)
  vc o h := View.ld x6 (Rect.unit (s := S128x512) ![0, o] S128x128.size h)
  vn o h := View.ld x7 (Rect.unit (s := S128x512) ![0, o] S128x128.size h)
  kx o h := View.ld x8 (Rect.unit (s := S256x512) ![0, o] S256x128.size h)
  vx o h := View.ld x9 (Rect.unit (s := S256x512) ![0, o] S256x128.size h)
  cosC := x10
  upC := x11
  dnC := x12
  cosP := x13
  upP := x14
  dnP := x15
  cosN := x16
  upN := x17
  dnN := x18

set_option maxHeartbeats 4000000 in
/-- The run's pieces, read through the staging buffers. -/
theorem run_pieces_read (c : Dev nD) (i : grid0.Coords) (arg2 : Memref sig .tc .smem S16 .f32) (harg2 : arg2.IsWhole) (arg3 : Memref sig .tc .vmem S128x2048 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S128x512 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S128x512 .f32) (harg9 : arg9.IsWhole) (arg10 : Memref sig .tc .vmem S256x512 .f32) (harg10 : arg10.IsWhole) (arg11 : Memref sig .tc .vmem S256x512 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (arg19 : Memref sig .tc .vmem S128x128 .f32) (harg19 : arg19.IsWhole) (arg20 : Memref sig .tc .vmem S128x128 .f32) (harg20 : arg20.IsWhole) (arg21 : Memref sig .tc .vmem S128x2048 .bf16) (harg21 : arg21.IsWhole)
    (x0 : Vec F S16 .f32) (x1 : Vec F S128x2048 .f32) (x2 : Vec F S128x512 .f32) (x3 : Vec F S128x512 .f32) (x4 : Vec F S128x512 .f32) (x5 : Vec F S128x512 .f32) (x6 : Vec F S128x512 .f32) (x7 : Vec F S128x512 .f32) (x8 : Vec F S256x512 .f32) (x9 : Vec F S256x512 .f32) (x10 : Vec F S128x128 .f32) (x11 : Vec F S128x128 .f32) (x12 : Vec F S128x128 .f32) (x13 : Vec F S128x128 .f32) (x14 : Vec F S128x128 .f32) (x15 : Vec F S128x128 .f32) (x16 : Vec F S128x128 .f32) (x17 : Vec F S128x128 .f32) (x18 : Vec F S128x128 .f32) :
    (bodyRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 x16 x17 x18).1 = pieces i (readLoads arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 x14 x15 x16 x17 x18) := by
  unfold bodyRun
  dsimp only
  sl_unfold_words
  dsimp only [pieces, pieces4, piece, tile, head, scoresW, scoresC, mask, keys, vals, readLoads, List.cons_append, List.nil_append,
    k0_pay12, k0_pay13, k0_pay14, k0_pay15, k0_pay16, k0_pay17, k0_pay18, k0_pay19, k0_pay20, k0_pay21, k0_pay22, k0_pay23, k0_pay24,
    k0_pay25, k0_pay26, k0_pay27]
  rfl

set_option maxHeartbeats 4000000 in
/-- A cut read through a buffer is the cut of its contents. -/
theorem readLoads_eq (arg2 : Memref sig .tc .smem S16 .f32) (harg2 : arg2.IsWhole) (arg3 : Memref sig .tc .vmem S128x2048 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S128x512 .f32) (harg6 : arg6.IsWhole) (arg7 : Memref sig .tc .vmem S128x512 .f32) (harg7 : arg7.IsWhole) (arg8 : Memref sig .tc .vmem S128x512 .f32) (harg8 : arg8.IsWhole) (arg9 : Memref sig .tc .vmem S128x512 .f32) (harg9 : arg9.IsWhole) (arg10 : Memref sig .tc .vmem S256x512 .f32) (harg10 : arg10.IsWhole) (arg11 : Memref sig .tc .vmem S256x512 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (arg19 : Memref sig .tc .vmem S128x128 .f32) (harg19 : arg19.IsWhole) (arg20 : Memref sig .tc .vmem S128x128 .f32) (harg20 : arg20.IsWhole)
    (x0 : Vec F S16 .f32) (x1 : Vec F S128x2048 .f32) (x2 : Vec F S128x512 .f32) (x3 : Vec F S128x512 .f32) (x4 : Vec F S128x512 .f32) (x5 : Vec F S128x512 .f32) (x6 : Vec F S128x512 .f32) (x7 : Vec F S128x512 .f32) (x8 : Vec F S256x512 .f32) (x9 : Vec F S256x512 .f32) (x10 : Vec F S128x128 .f32) (x11 : Vec F S128x128 .f32) (x12 : Vec F S128x128 .f32) (x13 : Vec F S128x128 .f32) (x14 : Vec F S128x128 .f32) (x15 : Vec F S128x128 .f32) (x16 : Vec F S128x128 .f32) (x17 : Vec F S128x128 .f32) (x18 : Vec F S128x128 .f32) :
    readLoads arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 x14 x15 x16 x17 x18 = loads x0 x1 x2 x3 x4 x5 x6 x7 x8 x9 x10 x11 x12 x13 x14 x15 x16 x17 x18 := by
  unfold readLoads loads
  simp only [View.readAt_eq_ld, Memref.IsWhole.read_unread, shapeCast_self]
  have e : (![0, 0] : Fin 2 → ℕ) = fun _ => 0 := by funext a; fin_cases a <;> rfl
  congr 1 <;> exact (shapeCast_self _ _).trans (View.ld_unit_zero (S := S128x128) (off := ![0, 0]) e _ _)

/-- The loads of one grid point. -/
def loadsAt (m : (ℓ : Loc nD τ sig) → Buf (Elt F) ℓ) (c : Dev nD) (t : Fin cfg0.N) : Loads F :=
  loads (iblk m c 0 t) (X0_1 m c t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)

/-- The block a grid point leaves is the one its sixteen tiles make up. -/
theorem outAt_eq (m : (ℓ : Loc nD τ sig) → Buf (Elt F) ℓ) (c : Dev nD) (t : Fin cfg0.N) :
    outAt m c t = View.canon (pieces (grid0.coords t) (loadsAt m c t)) := by
  have hp := (run_pieces_read c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (iblk m c 0 t) (X0_1 m c t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)).trans (congrArg (pieces _) (readLoads_eq (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (iblk m c 0 t) (X0_1 m c t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)))
  have hc := stored_cover c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (iblk m c 0 t) (X0_1 m c t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)
  unfold outAt stored
  rw [View.read_writes_eq_canon _ _ _ hc, hp]
  rfl

/-- Some tile covers every place of the block. -/
theorem pieces_cover (i : grid0.Coords) (L : Loads F) (y : S128x2048.Idx) : ∃ p ∈ pieces i L, y ∈ p.1.set :=
  View.cover_of_tiledL (pieces i L) S128x128.size (by sl_kernel_rfl) y

end Cert.KernelIdeal.Attn

end
-- ==== Proof.Softmax.lean ====
/- The softmax of one row with a sink, in the two orders in which it is computed: the kernel normalises the window's and the
   context's parts apart and multiplies by one over the sum; the reference lays the two parts end to end and divides. -/
module

public import Idealize.ShloMosaic.Lib.Pointwise

@[expose] public section

noncomputable section

namespace Cert.Attention

open Idealize.ShloMosaic

/-- `x` is a real number: neither infinity. -/
def IsReal (x : EReal) : Prop := x ≠ ⊥ ∧ x ≠ ⊤

/-- A real extended number is a real number. -/
theorem isReal_iff {x : EReal} : IsReal x ↔ ∃ r : ℝ, x = r := by
  constructor
  · rintro ⟨h1, h2⟩; exact ⟨x.toReal, (EReal.coe_toReal h2 h1).symm⟩
  · rintro ⟨r, rfl⟩; exact ⟨EReal.coe_ne_bot r, EReal.coe_ne_top r⟩

/-- A real number is real. -/
theorem isReal_coe (r : ℝ) : IsReal (r : EReal) := isReal_iff.2 ⟨r, rfl⟩
/-- Zero is real. -/
theorem isReal_zero : IsReal (0 : EReal) := isReal_coe 0

/-- Products of reals are real. -/
theorem IsReal.mul {x y : EReal} (hx : IsReal x) (hy : IsReal y) : IsReal (x * y) := by
  obtain ⟨a, rfl⟩ := isReal_iff.1 hx; obtain ⟨b, rfl⟩ := isReal_iff.1 hy
  exact isReal_iff.2 ⟨a * b, (EReal.coe_mul a b).symm⟩

/-- Sums of two reals are real. -/
theorem IsReal.add {x y : EReal} (hx : IsReal x) (hy : IsReal y) : IsReal (x + y) := by
  obtain ⟨a, rfl⟩ := isReal_iff.1 hx; obtain ⟨b, rfl⟩ := isReal_iff.1 hy
  exact isReal_iff.2 ⟨a + b, (EReal.coe_add a b).symm⟩

/-- Negatives of reals are real. -/
theorem IsReal.neg {x : EReal} (hx : IsReal x) : IsReal (-x) := by
  obtain ⟨a, rfl⟩ := isReal_iff.1 hx
  exact isReal_iff.2 ⟨-a, (EReal.coe_neg a).symm⟩

/-- Finite sums of reals are real. -/
theorem IsReal.sum {n : ℕ} (f : Fin n → EReal) (h : ∀ k, IsReal (f k)) : IsReal (∑ k, f k) :=
  Finset.sum_induction f IsReal (fun _ _ => IsReal.add) isReal_zero fun k _ => h k

/-- The exponential is not negative. -/
theorem exp_nonneg (x : EReal) : 0 ≤ Ideal.exp x := by
  induction x with
  | bot => exact le_rfl
  | top => exact le_top
  | coe r => exact EReal.coe_nonneg.2 (Real.exp_pos r).le

/-- The exponential of a real is positive. -/
theorem exp_pos_of_real {x : EReal} (h : IsReal x) : 0 < Ideal.exp x := by
  obtain ⟨r, rfl⟩ := isReal_iff.1 h
  exact EReal.coe_pos.2 (Real.exp_pos r)

/-- The largest of `n` scores (minus infinity of none). -/
def top {n : ℕ} (f : Fin n → EReal) : EReal := Finset.univ.fold max ⊥ f

/-- Every value is at most the largest. -/
theorem le_top' {n : ℕ} (f : Fin n → EReal) (k : Fin n) : f k ≤ top f :=
  Finset.le_sup (f := f) (Finset.mem_univ k)

/-- The largest is at most every bound. -/
theorem top_le {n : ℕ} (f : Fin n → EReal) (b : EReal) (h : ∀ k, f k ≤ b) : top f ≤ b :=
  Finset.sup_le fun k _ => h k

/-- The largest of values below plus infinity is below it. -/
theorem top_ne_top {n : ℕ} (f : Fin n → EReal) (h : ∀ k, f k ≠ ⊤) : top f ≠ ⊤ :=
  ((Finset.sup_lt_iff (f := f) (s := Finset.univ) (a := ⊤) bot_lt_top).2 fun k _ => lt_top_iff_ne_top.2 (h k)).ne

/-- The two parts of a row end to end. -/
def both (sw : Fin 384 → EReal) (sc : Fin 256 → EReal) (k : Fin 640) : EReal :=
  if h : k.val < 384 then sw ⟨k.val, h⟩ else sc ⟨k.val - 384, by have := k.isLt; omega⟩

/-- The largest of the joined scores is the larger of the two largest. -/
theorem top_both (sw : Fin 384 → EReal) (sc : Fin 256 → EReal) : top (both sw sc) = max (top sw) (top sc) := by
  refine le_antisymm (top_le _ _ fun k => ?_) (max_le (top_le _ _ fun k => ?_) (top_le _ _ fun k => ?_))
  · unfold both; split
    · exact (le_top' sw _).trans (le_max_left _ _)
    · exact (le_top' sc _).trans (le_max_right _ _)
  · have h := le_top' (both sw sc) ⟨k.val, by have := k.isLt; omega⟩
    rwa [both, dif_pos (show k.val < 384 from k.isLt)] at h
  · have h := le_top' (both sw sc) ⟨k.val + 384, by have := k.isLt; omega⟩
    rw [both, dif_neg (by simp)] at h
    simpa using h

/-- The row's maximum, with the sink. -/
def rowMax (sw : Fin 384 → EReal) (sc : Fin 256 → EReal) (sink : EReal) : EReal := max (max (top sw) (top sc)) sink

/-- The sum that normalises the row. -/
def rowSum (sw : Fin 384 → EReal) (sc : Fin 256 → EReal) (sink : EReal) : EReal :=
  (∑ k, Ideal.exp (sw k - rowMax sw sc sink)) + (∑ k, Ideal.exp (sc k - rowMax sw sc sink))
    + Ideal.exp (sink - rowMax sw sc sink)

/-- One output element as the kernel computes it. -/
def attK (sw : Fin 384 → EReal) (sc : Fin 256 → EReal) (sink : EReal) (vw : Fin 384 → EReal) (vc : Fin 256 → EReal) : EReal :=
  (∑ k, Ideal.exp (sw k - rowMax sw sc sink) * Ideal.div 1 (rowSum sw sc sink) * vw k)
    + ∑ k, Ideal.exp (sc k - rowMax sw sc sink) * Ideal.div 1 (rowSum sw sc sink) * vc k

/-- One output element as the reference computes it. -/
def attR (sw : Fin 384 → EReal) (sc : Fin 256 → EReal) (sink : EReal) (vw : Fin 384 → EReal) (vc : Fin 256 → EReal) : EReal :=
  (∑ k, vw k * Ideal.div (Ideal.exp (sw k - rowMax sw sc sink)) (rowSum sw sc sink))
    + ∑ k, vc k * Ideal.div (Ideal.exp (sc k - rowMax sw sc sink)) (rowSum sw sc sink)

section
variable (sw : Fin 384 → EReal) (sc : Fin 256 → EReal) (sink : EReal)
  (hsw : ∀ k, sw k ≠ ⊤) (hsc : ∀ k, IsReal (sc k)) (hsink : sink ≠ ⊤)
include hsw hsc hsink

/-- The row maximum is real. -/
theorem rowMax_real : IsReal (rowMax sw sc sink) := by
  constructor
  · intro h
    have h0 : sc 0 ≤ rowMax sw sc sink := (le_top' sc 0).trans ((le_max_right _ _).trans (le_max_left _ _))
    rw [h] at h0
    exact (hsc 0).1 (le_bot_iff.1 h0)
  · refine (max_lt (max_lt ?_ ?_) (lt_top_iff_ne_top.2 hsink)).ne
    · exact lt_top_iff_ne_top.2 (top_ne_top sw hsw)
    · exact lt_top_iff_ne_top.2 (top_ne_top sc fun k => (hsc k).2)

/-- The normaliser is not zero. -/
theorem rowSum_ne_zero : rowSum sw sc sink ≠ 0 := by
  have hm := rowMax_real sw sc sink hsw hsc hsink
  have h0 : 0 < Ideal.exp (sc 0 - rowMax sw sc sink) := exp_pos_of_real (by
    rw [sub_eq_add_neg]; exact (hsc 0).add hm.neg)
  have h1 : Ideal.exp (sc 0 - rowMax sw sc sink) ≤ ∑ k, Ideal.exp (sc k - rowMax sw sc sink) :=
    Finset.single_le_sum (f := fun k => Ideal.exp (sc k - rowMax sw sc sink)) (fun k _ => exp_nonneg _) (Finset.mem_univ 0)
  have h2 : 0 < rowSum sw sc sink := by
    refine (h0.trans_le h1).trans_le ?_
    unfold rowSum
    refine le_add_of_le_of_nonneg (le_add_of_nonneg_of_le (Finset.sum_nonneg fun k _ => exp_nonneg _) le_rfl) (exp_nonneg _)
  exact h2.ne'

/-- The two orders agree when no score is plus infinity and the context's scores are real; under the mask (a score of minus
infinity) the two may even read different values. -/
theorem attK_eq_attR (vw vw' : Fin 384 → EReal) (vc : Fin 256 → EReal) (hv : ∀ k, sw k = ⊥ ∨ vw k = vw' k) :
    attK sw sc sink vw vc = attR sw sc sink vw' vc := by
  have hm := rowMax_real sw sc sink hsw hsc hsink
  have hd := rowSum_ne_zero sw sc sink hsw hsc hsink
  unfold attK attR
  refine congrArg₂ (· + ·) (Finset.sum_congr rfl fun k _ => ?_) (Finset.sum_congr rfl fun k _ => ?_)
  · rw [Ideal.div, if_neg hd, Ideal.div, if_neg hd, one_mul, mul_comm (vw' k)]
    rcases hv k with h | h
    · have e : Ideal.exp (sw k - rowMax sw sc sink) = 0 := by
        rw [h, EReal.bot_sub]; rfl
      rw [e, zero_mul, zero_mul, zero_mul]
    · rw [h]
  · rw [Ideal.div, if_neg hd, Ideal.div, if_neg hd, one_mul, mul_comm (vc k)]
end

end Cert.Attention

end
-- ==== Proof.Spec.lean ====
/- The attention of one output element in plain words, over arrays read at natural-number coordinates: the rotated queries and
   keys, the band mask, the scores of the window and of the context, and the sink. Both programs are shown to compute it. -/
module

public import proofs.«01_k».proof.Proof.Softmax

@[expose] public section

noncomputable section

namespace Cert.Attention

open Idealize.ShloMosaic

/-- The matrix `x` at row `r` and column `c` (zero outside). -/
def at2 {R C : ℕ} (x : (⟨2, ![R, C]⟩ : Shape).Idx → EReal) (r c : ℕ) : EReal :=
  if h : r < R ∧ c < C then x (ix2 ⟨r, h.1⟩ ⟨c, h.2⟩) else 0

/-- The matrix at an index with both coordinates in range. -/
theorem at2_ix2 {R C : ℕ} (x : (⟨2, ![R, C]⟩ : Shape).Idx → EReal) (r : Fin R) (c : Fin C) :
    x (ix2 r c) = at2 x r.val c.val := by
  unfold at2; rw [dif_pos ⟨r.isLt, c.isLt⟩]

/-- The same, with the coordinates given by equations. -/
theorem at2_of {R C : ℕ} (x : (⟨2, ![R, C]⟩ : Shape).Idx → EReal) (r c r' c' : ℕ) (hr : r < R) (hc : c < C)
    (er : r = r') (ec : c = c') : x (ix2 ⟨r, hr⟩ ⟨c, hc⟩) = at2 x r' c' := by
  subst er; subst ec; exact at2_ix2 x _ _

/-- The vector `x` at `r` (zero outside). -/
def at1 {R : ℕ} (x : (⟨1, ![R]⟩ : Shape).Idx → EReal) (r : ℕ) : EReal := if h : r < R then x (ix1 ⟨r, h⟩) else 0

/-- The vector at an index in range. -/
theorem at1_of {R : ℕ} (x : (⟨1, ![R]⟩ : Shape).Idx → EReal) (r r' : ℕ) (hr : r < R) (er : r = r') :
    x (ix1 ⟨r, hr⟩) = at1 x r' := by
  subst er; unfold at1; rw [dif_pos hr]

/-- The quarter turn of rotary embedding, on each half of the head by itself. -/
def rot (x : ℕ → EReal) (d : ℕ) : EReal := if d % 64 < 32 then -x (d + 32) else x (d - 32)

/-- Rotary embedding with cosines `c` and sines `s`. -/
def rope (x c s : ℕ → EReal) (d : ℕ) : EReal := x d * c d + rot x d * s d

/-- The scale of the scores. -/
def scale : EReal := Ideal.ofBits .f32 0x3DB504F3#32

/-- The bit that says whether key `k` of block `n`'s window is seen from query `a`: near enough, and inside the sequence. -/
def seen (n a k : ℕ) : BitVec 1 :=
  IntOp.andi (IntOp.andi
    (IntOp.cmpi .sle (IntOp.absi (IntOp.subi (IntOp.subi (BitVec.ofNat 32 k) (BitVec.ofNat 32 a)) 128#32)) 128#32)
    (IntOp.cmpi .sge (IntOp.addi (IntOp.muli (IntOp.subi (BitVec.ofNat 32 n) 1#32) 128#32) (BitVec.ofNat 32 k)) 0#32))
    (IntOp.cmpi .slt (IntOp.addi (IntOp.muli (IntOp.subi (BitVec.ofNat 32 n) 1#32) 128#32) (BitVec.ofNat 32 k)) 2048#32)

section
variable (Q X : ℕ → ℕ → EReal) (S : ℕ → EReal) (C N : ℕ → ℕ → EReal)

/-- The rotated query of batch `b`, position `l`, head `h`. -/
def qv (b l h : ℕ) : ℕ → EReal := rope (fun d => Q (b * 2048 + l) (h * 128 + d)) (C l) (N l)

/-- The rotated key of batch `b`, position `l`, key head `h`. -/
def kv (b l h : ℕ) : ℕ → EReal := rope (fun d => Q (b * 2048 + l) (2048 + h * 128 + d)) (C l) (N l)

/-- The value of batch `b`, position `l`, key head `h`. -/
def vv (b l h d : ℕ) : EReal := Q (b * 2048 + l) (2560 + h * 128 + d)

/-- The score of key `k` of the window of block `n`, from query `a` of group `g`; the keys not seen score minus infinity. -/
def scoreW (b n h g a : ℕ) (k : Fin 384) : EReal :=
  Scalar.select (seen n a k.val)
    ((∑ d : Fin 128, qv Q C N b (n * 128 + a) (h * 4 + g) d.val * kv Q C N b (n * 128 + k.val - 128) h d.val) * scale) ⊥

/-- The score of key `k` of the context. -/
def scoreC (b n h g a : ℕ) (k : Fin 256) : EReal :=
  (∑ d : Fin 128, qv Q C N b (n * 128 + a) (h * 4 + g) d.val * X (b * 256 + k.val) (2048 + h * 128 + d.val)) * scale

/-- The output of batch `b`, position `n * 128 + a`, head `h * 4 + g`, coordinate `d`, in the reference's order. -/
def out (b n h g a d : ℕ) : EReal :=
  attR (scoreW Q C N b n h g a) (scoreC Q X C N b n h g a) (S (h * 4 + g))
    (fun k => vv Q b (n * 128 + k.val - 128) h d) (fun k => X (b * 256 + k.val) (2560 + h * 128 + d))
end

end Cert.Attention

end
-- ==== Proof.KernelHead.lean ====
/- One key/value head of the kernel's body, element by element, over the extended reals: its output is the attention of the
specification. -/
module

public import proofs.«01_k».proof.Proof.Vocab
public import proofs.«01_k».proof.Proof.Spec
public import Idealize.ShloMosaic.Lib.Pointwise

@[expose] public section

set_option maxRecDepth 16384

noncomputable section

namespace Cert.KernelIdeal.Attn

open Cert.KernelIdeal Cert.KernelIdeal.Gen Cert.Attention
open Idealize.ShloMosaic

/-- Rotary embedding as the kernel computes it: two rolls of the row, and a table for each half. -/
def ropeK (x c u d : ℕ → EReal) (e : ℕ) : EReal :=
  x e * c e + x ((e + 128 - 96) % 128) * u e + x ((e + 128 - 32) % 128) * d e

/-- The kernel's two half tables make the quarter turn. -/
theorem ropeK_eq (x c u d s : ℕ → EReal) (hu : ∀ e, e < 128 → u e = if e % 64 < 32 then -s e else 0)
    (hd : ∀ e, e < 128 → d e = if e % 64 < 32 then 0 else s e) (e : ℕ) (he : e < 128) :
    ropeK x c u d e = rope x c s e := by
  unfold ropeK rope rot
  rw [hu e he, hd e he]
  by_cases h : e % 64 < 32
  · rw [if_pos h, if_pos h, if_pos h, mul_zero, add_zero, show (e + 128 - 96) % 128 = e + 32 by omega, mul_neg, neg_mul]
  · rw [if_neg h, if_neg h, if_neg h, mul_zero, add_zero, show (e + 128 - 32) % 128 = e - 32 by omega]

/-- A key of the window that is seen lies inside the sequence: not before its start, -/
theorem sge_pos : ∀ (n : Fin 16) (k : Fin 384), IntOp.cmpi .sge (IntOp.addi (IntOp.muli (IntOp.subi (BitVec.ofNat 32 n.val) 1#32) 128#32) (BitVec.ofNat 32 k.val)) 0#32 = 1#1 →
    128 ≤ n.val * 128 + k.val := by decide +kernel

/-- nor after its end. -/
theorem slt_pos : ∀ (n : Fin 16) (k : Fin 384), IntOp.cmpi .slt (IntOp.addi (IntOp.muli (IntOp.subi (BitVec.ofNat 32 n.val) 1#32) 128#32) (BitVec.ofNat 32 k.val)) 2048#32 = 1#1 →
    n.val * 128 + k.val < 2176 := by decide +kernel

/-- A conjunction of bits that is one has both bits one. -/
theorem andi_one : ∀ x y : BitVec 1, IntOp.andi x y = 1#1 → x = 1#1 ∧ y = 1#1 := by decide

/-- A key that is seen lies inside the sequence. -/
theorem seen_pos (n a k : ℕ) (hn : n < 16) (hk : k < 384) (h : seen n a k = 1#1) :
    128 ≤ n * 128 + k ∧ n * 128 + k < 2176 := by
  obtain ⟨h1, h2⟩ := andi_one _ _ h
  obtain ⟨_, h3⟩ := andi_one _ _ h1
  exact ⟨sge_pos ⟨n, hn⟩ ⟨k, hk⟩ h3, slt_pos ⟨n, hn⟩ ⟨k, hk⟩ h2⟩

/-- The row of a query inside its group. -/
theorem row_in_group : ∀ r : Fin 512, IntOp.andi (BitVec.ofNat 32 r.val) 127#32 = BitVec.ofNat 32 (r.val % 128) := by
  decide +kernel

/-- The kernel's mask is the specification's. -/
theorem mask_apply (i : grid0.Coords) (r : Fin 512) (k : Fin 384) :
    mask i (ix2 r k) = seen (i 1).val (r.val % 128) k.val := by
  have e := row_in_group r
  unfold mask
  pointwise [k0_pay15, k0_pay14, k0_pay13, k0_pay12]
  rw [e]
  rfl

/-- A row's group. -/
theorem group_apply (r : Fin 512) : k0_pay23 (ix2 r 0) = BitVec.ofNat 32 (r.val / 128) := by
  unfold k0_pay23
  pointwise
  revert r
  decide +kernel

/-- What the cuts hold, in terms of the call's operands: `Q` the packed queries, keys and values, `X` the context's, `S` the
sinks, `C`, `U`, `D` the three rope tables; `b` is the batch, `n` the block, `pb` and `nb` the blocks loaded before and after. -/
structure Holds (L : Loads Ideal) (Q X : ℕ → ℕ → EReal) (S : ℕ → EReal) (C U D : ℕ → ℕ → EReal) (b n pb nb : ℕ) : Prop where
  sink : ∀ o h, L.sink o h = S o
  q : ∀ o h (r c : Fin 128), L.q o h (ix2 r c) = Q (b * 2048 + n * 128 + r.val) (o + c.val)
  kp : ∀ o h (r c : Fin 128), L.kp o h (ix2 r c) = Q (b * 2048 + pb * 128 + r.val) (2048 + o + c.val)
  kc : ∀ o h (r c : Fin 128), L.kc o h (ix2 r c) = Q (b * 2048 + n * 128 + r.val) (2048 + o + c.val)
  kn : ∀ o h (r c : Fin 128), L.kn o h (ix2 r c) = Q (b * 2048 + nb * 128 + r.val) (2048 + o + c.val)
  vp : ∀ o h (r c : Fin 128), L.vp o h (ix2 r c) = Q (b * 2048 + pb * 128 + r.val) (2560 + o + c.val)
  vc : ∀ o h (r c : Fin 128), L.vc o h (ix2 r c) = Q (b * 2048 + n * 128 + r.val) (2560 + o + c.val)
  vn : ∀ o h (r c : Fin 128), L.vn o h (ix2 r c) = Q (b * 2048 + nb * 128 + r.val) (2560 + o + c.val)
  kx : ∀ o h (r : Fin 256) (c : Fin 128), L.kx o h (ix2 r c) = X (b * 256 + r.val) (2048 + o + c.val)
  vx : ∀ o h (r : Fin 256) (c : Fin 128), L.vx o h (ix2 r c) = X (b * 256 + r.val) (2560 + o + c.val)
  cosC : ∀ r c : Fin 128, L.cosC (ix2 r c) = C (n * 128 + r.val) c.val
  upC : ∀ r c : Fin 128, L.upC (ix2 r c) = U (n * 128 + r.val) c.val
  dnC : ∀ r c : Fin 128, L.dnC (ix2 r c) = D (n * 128 + r.val) c.val
  cosP : ∀ r c : Fin 128, L.cosP (ix2 r c) = C (pb * 128 + r.val) c.val
  upP : ∀ r c : Fin 128, L.upP (ix2 r c) = U (pb * 128 + r.val) c.val
  dnP : ∀ r c : Fin 128, L.dnP (ix2 r c) = D (pb * 128 + r.val) c.val
  cosN : ∀ r c : Fin 128, L.cosN (ix2 r c) = C (nb * 128 + r.val) c.val
  upN : ∀ r c : Fin 128, L.upN (ix2 r c) = U (nb * 128 + r.val) c.val
  dnN : ∀ r c : Fin 128, L.dnN (ix2 r c) = D (nb * 128 + r.val) c.val

section
variable {L : Loads Ideal} {Q X : ℕ → ℕ → EReal} {S : ℕ → EReal} {C U D N : ℕ → ℕ → EReal} {b n pb nb : ℕ}
  (H : Holds L Q X S C U D b n pb nb)
  (hU : ∀ l e, e < 128 → U l e = if e % 64 < 32 then -N l e else 0)
  (hD : ∀ l e, e < 128 → D l e = if e % 64 < 32 then 0 else N l e)
  (hn : n < 16) (hp : 1 ≤ n → pb = n - 1) (hq : n ≤ 14 → nb = n + 1)

/-- Two rotations of equal rows by equal tables agree. -/
theorem rope_congr (x x' c c' s s' : ℕ → EReal) (hx : x = x') (hc : c = c') (hs : s = s') (e : ℕ) :
    rope x c s e = rope x' c' s' e := by subst hx hc hs; rfl

include H hU hD hn hp hq in
/-- A key of the window, rotated, wherever the key lies inside the sequence. -/
theorem keys_apply (h : ℕ) (hh : h < 4) (k : Fin 384) (e : Fin 128) (h1 : 128 ≤ n * 128 + k.val) (h2 : n * 128 + k.val < 2176) :
    keys L h hh (ix2 k e) = kv Q C N b (n * 128 + k.val - 128) h e.val := by
  unfold keys
  pointwise [k0_pay16]
  have key : ∀ l r : ℕ, b * 2048 + l = r →
      ropeK (fun d => Q r (2048 + 128 * h + d)) (C l) (U l) (D l) e.val = kv Q C N b l h e.val := by
    intro l r hr
    subst hr
    rw [ropeK_eq _ _ _ _ (N l) (hU l) (hD l) e.val e.isLt]
    unfold kv
    rw [mul_comm 128 h]
  have hk := k.isLt
  by_cases c1 : k.val < 128
  · rw [dif_pos c1]
    simp only [H.kp, H.cosP, H.upP, H.dnP]
    have := hp (by omega)
    rw [← key (n * 128 + k.val - 128) (b * 2048 + pb * 128 + k.val) (by omega), show n * 128 + k.val - 128 = pb * 128 + k.val by omega]
    rfl
  rw [dif_neg c1]
  by_cases c2 : k.val - 128 < 128
  · rw [dif_pos c2]
    simp only [H.kc, H.cosC, H.upC, H.dnC]
    rw [← key (n * 128 + k.val - 128) (b * 2048 + n * 128 + (k.val - 128)) (by omega), show n * 128 + k.val - 128 = n * 128 + (k.val - 128) by omega]
    rfl
  · rw [dif_neg c2]
    simp only [H.kn, H.cosN, H.upN, H.dnN]
    have := hq (by omega)
    rw [← key (n * 128 + k.val - 128) (b * 2048 + nb * 128 + (k.val - 128 - 128)) (by omega), show n * 128 + k.val - 128 = nb * 128 + (k.val - 128 - 128) by omega]
    rfl

include H hn hp hq in
/-- A value of the window, wherever the key lies inside the sequence. -/
theorem vals_apply (h : ℕ) (hh : h < 4) (k : Fin 384) (e : Fin 128) (h1 : 128 ≤ n * 128 + k.val) (h2 : n * 128 + k.val < 2176) :
    vals L h hh (ix2 k e) = vv Q b (n * 128 + k.val - 128) h e.val := by
  unfold vals vv
  pointwise [k0_pay17]
  have hk := k.isLt
  by_cases c1 : k.val < 128
  · have := hp (by omega)
    rw [dif_pos c1, H.vp]; exact congrArg₂ Q (by dsimp only; omega) (by omega)
  rw [dif_neg c1]
  by_cases c2 : k.val - 128 < 128
  · rw [dif_pos c2, H.vc]; exact congrArg₂ Q (by dsimp only; omega) (by omega)
  · have := hq (by omega)
    rw [dif_neg c2, H.vn]; exact congrArg₂ Q (by dsimp only; omega) (by omega)

include H hU hD in
/-- A query row, rotated. -/
theorem query_apply (h : ℕ) (hh : h < 4) (r : Fin 512) (e : Fin 128) :
    (k0_pay20 L.cosC L.upC L.dnC
      (L.q (512 * h + 128 * 0) (fitsQ h 0 hh (by omega))) (L.q (512 * h + 128 * 1) (fitsQ h 1 hh (by omega)))
      (L.q (512 * h + 128 * 2) (fitsQ h 2 hh (by omega))) (L.q (512 * h + 128 * 3) (fitsQ h 3 hh (by omega)))) (ix2 r e)
      = qv Q C N b (n * 128 + r.val % 128) (h * 4 + r.val / 128) e.val := by
  pointwise [k0_pay20]
  have key : ∀ a o : ℕ, a = r.val % 128 → o = (h * 4 + r.val / 128) * 128 →
      ropeK (fun d => Q (b * 2048 + n * 128 + a) (o + d)) (C (n * 128 + a)) (U (n * 128 + a)) (D (n * 128 + a)) e.val
        = qv Q C N b (n * 128 + r.val % 128) (h * 4 + r.val / 128) e.val := by
    intro a o ha ho
    subst ha ho
    rw [ropeK_eq _ _ _ _ (N (n * 128 + r.val % 128)) (hU _) (hD _) e.val e.isLt]
    unfold qv
    rw [add_assoc]
  have hr := r.isLt
  simp only [H.q, H.cosC, H.upC, H.dnC]
  by_cases c1 : r.val < 128
  · rw [dif_pos c1]; exact key _ _ (by omega) (by omega)
  rw [dif_neg c1]
  by_cases c2 : r.val - 128 < 128
  · rw [dif_pos c2]; exact key _ _ (by omega) (by omega)
  rw [dif_neg c2]
  by_cases c3 : r.val - 128 - 128 < 128
  · rw [dif_pos c3]; exact key _ _ (by omega) (by omega)
  · rw [dif_neg c3]; exact key _ _ (by omega) (by omega)

/-- The named mask is minus infinity. -/
theorem mask_ideal : (Named.named κ "mask" 0xF149F2CA#32 : Ideal .f32) = (⊥ : EReal) :=
  IdealRules.named_const.ideal_named_scalar _ _ _ _ rfl

include H hU hD hn hp hq in
/-- The scores against the window. -/
theorem scoresW_apply (i : grid0.Coords) (hi : (i 1).val = n) (h : ℕ) (hh : h < 4) (r : Fin 512) (k : Fin 384) :
    scoresW i L h hh (ix2 r k) = scoreW Q C N b n h (r.val / 128) (r.val % 128) k := by
  have hm := mask_apply i r k
  have hq' := query_apply (N := N) H hU hD h hh r
  have hk' := keys_apply (N := N) H hU hD hn hp hq h hh k
  unfold scoresW scoreW k0_pay21
  generalize keys L h hh = K at *
  generalize k0_pay20 (F := Ideal) L.cosC L.upC L.dnC _ _ _ _ = Y at *
  generalize mask i = M at *
  pointwise
  rw [hm, hi, mask_ideal]
  by_cases hs : seen n (r.val % 128) k.val = 1#1
  · obtain ⟨h1, h2⟩ := seen_pos n _ k.val hn k.isLt hs
    simp only [hq', hk' _ h1 h2]
    rfl
  · have hs' : ¬ seen n (r.val % 128) k.val = 1 := hs
    unfold Scalar.select
    rw [if_neg hs', if_neg hs']

include H hU hD in
/-- The scores against the context. -/
theorem scoresC_apply (h : ℕ) (hh : h < 4) (r : Fin 512) (k : Fin 256) :
    scoresC L h hh (ix2 r k) = scoreC Q X C N b n h (r.val / 128) (r.val % 128) k := by
  have hq' := query_apply (N := N) H hU hD h hh r
  unfold scoresC scoreC k0_pay22 k0_pay18
  generalize k0_pay20 (F := Ideal) L.cosC L.upC L.dnC _ _ _ _ = Y at *
  pointwise
  simp only [hq', H.kx, mul_comm 128 h]
  rfl

include H in
/-- The sink of a row's group. -/
theorem sink_apply (h : ℕ) (hh : h < 4) (r : Fin 512) :
    select k0_pay25 (k0_pay26 (F := Ideal) (L.sink (4 * h + 3) (fitsS h 3 hh (by omega))))
      (k0_pay24 (L.sink (4 * h + 0) (fitsS h 0 hh (by omega))) (L.sink (4 * h + 1) (fitsS h 1 hh (by omega)))
      (L.sink (4 * h + 2) (fitsS h 2 hh (by omega)))) (ix2 r 0) = S (h * 4 + r.val / 128) := by
  have hg := group_apply r
  unfold k0_pay26 k0_pay24 k0_pay25
  generalize k0_pay23 = y at *
  pointwise
  rw [hg]
  simp only [H.sink]
  have hr : r.val / 128 < 4 := by have := r.isLt; omega
  generalize r.val / 128 = g at *
  interval_cases g <;> simp [Scalar.select, IntOp.cmpi, mul_comm 4 h]

/-- The kernel's minus infinity, written as a literal. -/
theorem negInf : Ideal.ofBits .f32 0xFF800000#32 = ⊥ := by simp [Ideal.ofBits, Ideal.ieee]

include H hU hD hn hp hq in
/-- One head's output, in the kernel's own order of operations. -/
theorem head_apply (i : grid0.Coords) (hi : (i 1).val = n) (h : ℕ) (hh : h < 4) (r : Fin 512) (d : Fin 128) :
    head i L h hh (ix2 r d) = attK (scoreW Q C N b n h (r.val / 128) (r.val % 128)) (scoreC Q X C N b n h (r.val / 128) (r.val % 128))
      (S (h * 4 + r.val / 128)) (fun k => vals L h hh (ix2 k d)) (fun k => X (b * 256 + k.val) (2560 + h * 128 + d.val)) := by
  have hw := scoresW_apply (N := N) H hU hD hn hp hq i hi h hh r
  have hc := scoresC_apply (N := N) H hU hD h hh r
  have hs := sink_apply H h hh r
  unfold head
  rw [← funext hw, ← funext hc, ← hs]
  have hx : (fun k : Fin 256 => X (b * 256 + k.val) (2560 + h * 128 + d.val)) =
      fun k => L.vx (128 * h) (fitsX h hh) (ix2 k d) := by
    funext k; rw [H.vx, mul_comm 128 h]
  rw [hx]
  clear hw hc hs hx
  generalize vals L h hh = V
  generalize L.vx (128 * h) (fitsX h hh) = W
  generalize scoresW i L h hh = A
  generalize scoresC L h hh = B
  generalize k0_pay24 (F := Ideal) _ _ _ = s1
  generalize k0_pay26 (F := Ideal) _ = s2
  generalize k0_pay25 = s3
  pointwise [k0_pay27, k0_pay19]
  rw [negInf]
  rfl

include H hU hD hn hp hq in
/-- One stored tile is the specification's output. -/
theorem tile_apply (i : grid0.Coords) (hi : (i 1).val = n) (h g : ℕ) (hh : h < 4) (hg : g < 4)
    (hW : ∀ a k, a < 128 → scoreW Q C N b n h g a k ≠ ⊤) (hC : ∀ a k, a < 128 → IsReal (scoreC Q X C N b n h g a k)) (hS : S (h * 4 + g) ≠ ⊤)
    (a d : Fin 128) : tile i L h g hh hg (ix2 a d) = out Q X S C N b n h g a.val d.val := by
  have e1 : (128 * g + a.val) / 128 = g := by have := a.isLt; omega
  have e2 : (128 * g + a.val) % 128 = a.val := by have := a.isLt; omega
  have hd := head_apply (N := N) H hU hD hn hp hq i hi h hh ⟨128 * g + a.val, by have := a.isLt; omega⟩ d
  dsimp only at hd
  rw [e1, e2] at hd
  have ht : tile i L h g hh hg (ix2 a d) = head i L h hh (ix2 ⟨128 * g + a.val, by have := a.isLt; omega⟩ d) := by
    unfold tile
    generalize head i L h hh = y
    pointwise
  rw [ht, hd]
  refine attK_eq_attR _ _ _ (hW a.val · a.isLt) (hC a.val · a.isLt) hS _ _ _ fun k => ?_
  by_cases hs : seen n a.val k.val = 1#1
  · right
    obtain ⟨h1, h2⟩ := seen_pos n _ k.val hn k.isLt hs
    exact vals_apply H hn hp hq h hh k d h1 h2
  · left
    exact if_neg hs

end

end Cert.KernelIdeal.Attn

end
-- ==== Proof.RefHeads.lean ====
/- The reference's rotated queries, rotated keys, values, and the padded windows of keys and values, read at an index. -/
module

public import proofs.«01_k».proof.Proof.Spec
public import proofs.«01_k».proof.Proof.Gen.ReferenceIdeal.Read

@[expose] public section
set_option maxRecDepth 16384
noncomputable section
namespace Cert.Attention
open Idealize.ShloMosaic Cert.ReferenceIdeal Cert.ReferenceIdeal.Read

/-- The table of cosines, by position and coordinate. -/
def cosR : ℕ → ℕ → EReal := at2 (R := 2048) (C := 128) (val_main_v31 (F := Ideal))
/-- The table of sines, by position and coordinate. -/
def sinR : ℕ → ℕ → EReal := at2 (R := 2048) (C := 128) (val_main_v32 (F := Ideal))

/-- The quarter turn, when the coordinates are cut in four pieces of 32. -/
theorem rot_pieces (x : ℕ → EReal) (d : Fin 128) (p : d.val < 32 → EReal) (q : ¬ d.val < 32 → d.val - 32 < 32 → EReal)
    (r : ¬ d.val < 32 → ¬ d.val - 32 < 32 → d.val - 32 - 32 < 32 → EReal)
    (s : ¬ d.val < 32 → ¬ d.val - 32 < 32 → ¬ d.val - 32 - 32 < 32 → EReal)
    (hp : ∀ h, p h = -x (32 + d.val)) (hq : ∀ h h', q h h' = x (d.val - 32))
    (hr : ∀ h h' h'', r h h' h'' = -x (96 + (d.val - 32 - 32))) (hs : ∀ h h' h'', s h h' h'' = x (64 + (d.val - 32 - 32 - 32))) :
    (if h1 : d.val < 32 then p h1 else if h2 : d.val - 32 < 32 then q h1 h2 else if h3 : d.val - 32 - 32 < 32 then r h1 h2 h3
      else s h1 h2 h3) = rot x d.val := by
  have hd := d.isLt
  unfold rot
  by_cases h1 : d.val < 32
  · rw [dif_pos h1, if_pos (by omega), hp h1, Nat.add_comm]
  rw [dif_neg h1]
  by_cases h2 : d.val - 32 < 32
  · rw [dif_pos h2, if_neg (by omega), hq h1 h2]
  rw [dif_neg h2]
  by_cases h3 : d.val - 32 - 32 < 32
  · rw [dif_pos h3, if_pos (by omega), hr h1 h2 h3]
    congr 2; omega
  · rw [dif_neg h3, if_neg (by omega), hs h1 h2 h3]
    congr 1; omega

/-- The reference's rotated queries. -/
theorem query_ref (x0 : FVec Ideal S16384x3072 .f32) (b : Fin 8) (l : Fin 2048) (h : Fin 16) (d : Fin 128) :
    val_main_v49 (F := Ideal) x0 (ix4 b l h d) = qv (at2 x0) cosR sinR b l h d := by
  have hd := d.isLt; have hl := l.isLt; have hh := h.isLt; have hb := b.isLt
  pointwise [val_main_v49, val_main_v48, val_main_v47, val_main_v46, val_main_v45, val_main_v44, val_main_v43, val_main_v42,
    val_main_v41, val_main_v40, val_main_v39, val_main_v38, val_main_v37, val_main_v36, val_main_v35, val_main_v34,
    val_main_v33, val_main_v2, val_main_v1]
  unfold qv rope
  refine congrArg₂ (· + ·) (congrArg₂ (· * ·) (at2_ix2 _ _ _) (at2_ix2 _ _ _)) (congrArg₂ (· * ·) ?_ (at2_ix2 _ _ _))
  refine rot_pieces (fun d => at2 x0 (b.val * 2048 + l.val) (h.val * 128 + d)) d _ _ _ _ ?_ ?_ ?_ ?_ <;> intros
  · exact congrArg Neg.neg (at2_of _ _ _ _ _ _ _ (by omega) (by omega))
  · exact at2_of _ _ _ _ _ _ _ (by omega) (by omega)
  · exact congrArg Neg.neg (at2_of _ _ _ _ _ _ _ (by omega) (by omega))
  · exact at2_of _ _ _ _ _ _ _ (by omega) (by omega)

/-- The reference's rotated keys. -/
theorem key_ref (x0 : FVec Ideal S16384x3072 .f32) (b : Fin 8) (l : Fin 2048) (h : Fin 4) (d : Fin 128) :
    val_main_v66 (F := Ideal) x0 (ix4 b l h d) = kv (at2 x0) cosR sinR b l h d := by
  have hd := d.isLt; have hl := l.isLt; have hh := h.isLt; have hb := b.isLt
  pointwise [val_main_v66, val_main_v65, val_main_v64, val_main_v63, val_main_v62, val_main_v61, val_main_v60, val_main_v59,
    val_main_v58, val_main_v57, val_main_v56, val_main_v55, val_main_v54, val_main_v53, val_main_v52, val_main_v51,
    val_main_v50, val_main_v3, val_main_v1]
  unfold kv rope
  refine congrArg₂ (· + ·) (congrArg₂ (· * ·) (at2_of _ _ _ _ _ _ _ (by omega) (by omega)) (at2_ix2 _ _ _)) (congrArg₂ (· * ·) ?_ (at2_ix2 _ _ _))
  refine rot_pieces (fun d => at2 x0 (b.val * 2048 + l.val) (2048 + h.val * 128 + d)) d _ _ _ _ ?_ ?_ ?_ ?_ <;> intros
  · exact congrArg Neg.neg (at2_of _ _ _ _ _ _ _ (by omega) (by omega))
  · exact at2_of _ _ _ _ _ _ _ (by omega) (by omega)
  · exact congrArg Neg.neg (at2_of _ _ _ _ _ _ _ (by omega) (by omega))
  · exact at2_of _ _ _ _ _ _ _ (by omega) (by omega)

/-- The reference's values. -/
theorem val_ref (x0 : FVec Ideal S16384x3072 .f32) (b : Fin 8) (l : Fin 2048) (h : Fin 4) (d : Fin 128) :
    val_main_v67 (F := Ideal) x0 (ix4 b l h d) = vv (at2 x0) b l h d := by
  have hd := d.isLt; have hl := l.isLt; have hh := h.isLt; have hb := b.isLt
  pointwise [val_main_v67, val_main_v4, val_main_v1]
  unfold vv
  exact at2_of _ _ _ _ _ _ _ (by omega) (by omega)

/-- The reference's context keys. -/
theorem ctxKey_ref (x1 : FVec Ideal S2048x3072 .f32) (b : Fin 8) (l : Fin 256) (h : Fin 4) (d : Fin 128) :
    val_main_v72 (F := Ideal) x1 (ix4 b l h d) = at2 x1 (b.val * 256 + l.val) (2048 + h.val * 128 + d.val) := by
  have hd := d.isLt; have hl := l.isLt; have hh := h.isLt; have hb := b.isLt
  pointwise [val_main_v72, val_main_v70, val_main_v69, val_main_v68]
  exact at2_of _ _ _ _ _ _ _ (by omega) (by omega)

/-- The reference's context values. -/
theorem ctxVal_ref (x1 : FVec Ideal S2048x3072 .f32) (b : Fin 8) (l : Fin 256) (h : Fin 4) (d : Fin 128) :
    val_main_v73 (F := Ideal) x1 (ix4 b l h d) = at2 x1 (b.val * 256 + l.val) (2560 + h.val * 128 + d.val) := by
  have hd := d.isLt; have hl := l.isLt; have hh := h.isLt; have hb := b.isLt
  pointwise [val_main_v73, val_main_v71, val_main_v69, val_main_v68]
  exact at2_of _ _ _ _ _ _ _ (by omega) (by omega)

end Cert.Attention
-- ==== Proof.Tables.lean ====
/- The three tables of rotary embedding the kernel is handed: its host lines compute the reference's cosines, and its sines cut
   in two by the quarter turn (the one signed and the other not, zero elsewhere). -/
module

public import proofs.«01_k».proof.Proof.RefHeads
public import proofs.«01_k».proof.Proof.Gen.KernelIdeal.Frame.Runs
public import Idealize.ShloMosaic.Lib.StableHlo.RunRead

@[expose] public section
set_option maxRecDepth 16384
noncomputable section
namespace Cert.KernelIdeal.Attn
open Idealize.ShloMosaic Idealize.ShloMosaic.TcCoe Cert.KernelIdeal Cert.KernelIdeal.Gen Cert.Attention

variable (m : (ℓ : Loc nD τ sig) → Buf (Elt Ideal) ℓ) (c : Dev nD)

/-- The kernel's table of cosines is the reference's. -/
theorem V_cos : V m c main_v26 = Cert.ReferenceIdeal.Read.val_main_v31 (F := Ideal) := by
  simp only [V, hostOps0, hostOps0_1, hostOps0_2, hostOps0_3, hostOps0_4, hostOps0_5, List.flatten_cons, List.flatten_nil, List.append_nil, List.cons_append,
      List.nil_append]
  after_reads_simp
  rfl

/-- The divisor of the remainder that the host lines take: 64, guarded against zero. -/
def sixtyFour : IVec S_ 32 := select (cmpi .eq (constantI S_ 32 64#32) (constantI S_ 32 0#32)) (constantI S_ 32 1#32) (constantI S_ 32 64#32)

/-- The coordinate modulo 64, as the machine's remainder. -/
def rem64 : IVec S128 32 := Host.remsi (iotaInDim S128 32 0) (broadcastInDim S128 ![] bcast_S_S128 sixtyFour)

/-- The coordinate modulo 64, the sign of the remainder corrected. -/
def mod64 : IVec S128 32 :=
  select (andi (cmpi .ne (cmpi .slt rem64 (broadcastInDim S128 ![] bcast_S_S128 (constantI S_ 32 0#32)))
      (broadcastInDim S128 ![] bcast_S_S128 (cmpi .slt sixtyFour (constantI S_ 32 0#32))))
    (cmpi .ne rem64 (broadcastInDim S128 ![] bcast_S_S128 (constantI S_ 32 0#32))))
    (addi rem64 (broadcastInDim S128 ![] bcast_S_S128 sixtyFour)) rem64

/-- Which coordinates are in the low quarter of their half. -/
def low : IVec S128 1 := cmpi .slt mod64 (broadcastInDim S128 ![] bcast_S_S128 (constantI S_ 32 32#32))

/-- The kernel's table of signed sines: minus the sines in the low quarter of each half, zero elsewhere. -/
theorem V_up : V m c main_v33 = select (broadcastInDim S2048x128 ![1] bcast_S128_S2048x128_1 low)
    (Host.negf (Cert.ReferenceIdeal.Read.val_main_v32 (F := Ideal))) (broadcastInDim S2048x128 ![] bcast_S_S2048x128 (constant (F := Ideal) S_ .f32 0x00000000#32)) := by
  simp only [V, hostOps0, hostOps0_1, hostOps0_2, hostOps0_3, hostOps0_4, hostOps0_5, List.flatten_cons, List.flatten_nil, List.append_nil, List.cons_append,
      List.nil_append]
  after_reads_simp
  rfl

/-- The kernel's other table of sines: zero in the low quarter of each half, the sines elsewhere. -/
theorem V_dn : V m c main_v34 = select (broadcastInDim S2048x128 ![1] bcast_S128_S2048x128_1 low)
    (broadcastInDim S2048x128 ![] bcast_S_S2048x128 (constant (F := Ideal) S_ .f32 0x00000000#32)) (Cert.ReferenceIdeal.Read.val_main_v32 (F := Ideal)) := by
  simp only [V, hostOps0, hostOps0_1, hostOps0_2, hostOps0_3, hostOps0_4, hostOps0_5, List.flatten_cons, List.flatten_nil, List.append_nil, List.cons_append,
      List.nil_append]
  after_reads_simp
  rfl

/-- The bit of the low quarter. -/
theorem low_apply (d : Fin 128) : low (ix1 d) = if d.val % 64 < 32 then 1#1 else 0#1 := by
  pointwise [low, mod64, rem64, sixtyFour]
  revert d; decide +kernel

/-- An entry of the table of signed sines. -/
theorem up_apply (l : Fin 2048) (d : Fin 128) : V m c main_v33 (ix2 l d) = if d.val % 64 < 32 then -sinR l d else 0 := by
  rw [V_up]
  have hl := low_apply d
  generalize low = w at hl ⊢
  unfold sinR
  rw [← at2_ix2]
  pointwise
  rw [hl]
  by_cases hd : d.val % 64 < 32
  · rw [if_pos hd, if_pos hd]; rfl
  · rw [if_neg hd, if_neg hd]; rfl

/-- An entry of the other table of sines. -/
theorem dn_apply (l : Fin 2048) (d : Fin 128) : V m c main_v34 (ix2 l d) = if d.val % 64 < 32 then 0 else sinR l d := by
  rw [V_dn]
  have hl := low_apply d
  generalize low = w at hl ⊢
  unfold sinR
  rw [← at2_ix2]
  pointwise
  rw [hl]
  by_cases hd : d.val % 64 < 32
  · rw [if_pos hd, if_pos hd]; rfl
  · rw [if_neg hd, if_neg hd]; rfl

end Cert.KernelIdeal.Attn
-- ==== Proof.Blocks.lean ====
/- The blocks that a grid point loads: where each sits in its array, so that the loads of a point are the rows and columns of
   the arguments that `Holds` names. -/
module

public import proofs.«01_k».proof.Proof.Pieces
public import proofs.«01_k».proof.Proof.KernelHead
public import proofs.«01_k».proof.Proof.Tables
public import Idealize.ShloMosaic.Lib.Pipeline.ValueKit

@[expose] public section
set_option maxRecDepth 16384
noncomputable section
namespace Cert.KernelIdeal.Attn
open Idealize.ShloMosaic Idealize.ShloMosaic.TcCoe Cert.KernelIdeal Cert.KernelIdeal.Gen Cert.Attention

/-- The matrix `x` at an index with the coordinates `r` and `c`. -/
theorem at2_idx {R C : ℕ} (x : (⟨2, ![R, C]⟩ : Shape).Idx → EReal) (j : (⟨2, ![R, C]⟩ : Shape).Idx) (r c : ℕ)
    (h0 : (j 0).val = r) (h1 : (j 1).val = c) : x j = at2 x r c := by
  subst h0; subst h1
  have e : j = ix2 (j 0) (j 1) := by funext a; fin_cases a <;> rfl
  exact (congrArg x e).trans (at2_ix2 x (j 0) (j 1))

/-- The block before block `n` (the first has none and takes itself). -/
def before (n : ℕ) : ℕ := n - 1
/-- The block after block `n` (the last takes itself). -/
def after (n : ℕ) : ℕ := min (n + 1) 15

/-- Every window's block, by the grid point's number: batch `t / 16`, block `t % 16`. -/
theorem idx : ∀ t : Fin cfg0.N, win0_0.index t = ![0] ∧ win0_1.index t = ![t.val / 16 * 16 + t.val % 16, 0]
    ∧ win0_2.index t = ![t.val / 16 * 16 + before (t.val % 16), 4] ∧ win0_3.index t = ![t.val / 16 * 16 + t.val % 16, 4]
    ∧ win0_4.index t = ![t.val / 16 * 16 + after (t.val % 16), 4] ∧ win0_5.index t = ![t.val / 16 * 16 + before (t.val % 16), 5]
    ∧ win0_6.index t = ![t.val / 16 * 16 + t.val % 16, 5] ∧ win0_7.index t = ![t.val / 16 * 16 + after (t.val % 16), 5]
    ∧ win0_8.index t = ![t.val / 16, 4] ∧ win0_9.index t = ![t.val / 16, 5]
    ∧ win0_10.index t = ![t.val % 16, 0] ∧ win0_11.index t = ![t.val % 16, 0] ∧ win0_12.index t = ![t.val % 16, 0]
    ∧ win0_13.index t = ![before (t.val % 16), 0] ∧ win0_14.index t = ![before (t.val % 16), 0]
    ∧ win0_15.index t = ![before (t.val % 16), 0] ∧ win0_16.index t = ![after (t.val % 16), 0]
    ∧ win0_17.index t = ![after (t.val % 16), 0] ∧ win0_18.index t = ![after (t.val % 16), 0]
    ∧ win0_19.index t = ![t.val / 16 * 16 + t.val % 16, 0] ∧ (grid0.coords t 1).val = t.val % 16 :=
  (by decide +kernel : ∀ t : Fin grid0.N, _)

variable (m : (ℓ : Loc nD τ sig) → Buf (Elt Ideal) ℓ) (c : Dev nD) (t : Fin cfg0.N)

/-- The queries, keys and values of the latents, as the program is handed them. -/
def Q : ℕ → ℕ → EReal := at2 (R := 16384) (C := 3072) (m ((c : Thread nD τ).loc main_arg0))
/-- The context's. -/
def X : ℕ → ℕ → EReal := at2 (R := 2048) (C := 3072) (m ((c : Thread nD τ).loc main_arg1))
/-- The sinks. -/
def S : ℕ → EReal := at1 (R := 16) (m ((c : Thread nD τ).loc main_arg2))

/-- The block of queries. -/
theorem blk1 (r : Fin 128) (e : Fin 2048) :
    (X0_1 m c t : FVec Ideal S128x2048 .f32) (ix2 r e) = Q m c (t.val / 16 * 2048 + (t.val % 16) * 128 + r.val) e.val := by
  unfold Q X0_1 Pipeline.Window.fill
  rw [dif_pos (moved0_1 t _), ← V_main_arg0 m c]
  refine (at2_idx (R := 16384) (C := 3072) (V m c main_arg0) (((cfg0.win 1).blk t).view.emb _) _ _ ?_ ?_) <;>
    (blk_simp [idx t]; try dsimp only; try omega)

/-- The block of keys before. -/
theorem blk2 (r : Fin 128) (e : Fin 512) :
    (iblk m c 2 t : FVec Ideal S128x512 .f32) (ix2 r e) = Q m c (t.val / 16 * 2048 + before (t.val % 16) * 128 + r.val) (2048 + e.val) := by
  unfold Q
  rw [← V_main_arg0 m c]
  refine (at2_idx (R := 16384) (C := 3072) (V m c main_arg0) (((cfg0.win 2).blk t).view.emb _) _ _ ?_ ?_) <;>
    (blk_simp [idx t]; try omega)

/-- The block of keys. -/
theorem blk3 (r : Fin 128) (e : Fin 512) :
    (iblk m c 3 t : FVec Ideal S128x512 .f32) (ix2 r e) = Q m c (t.val / 16 * 2048 + (t.val % 16) * 128 + r.val) (2048 + e.val) := by
  unfold Q
  rw [← V_main_arg0 m c]
  refine (at2_idx (R := 16384) (C := 3072) (V m c main_arg0) (((cfg0.win 3).blk t).view.emb _) _ _ ?_ ?_) <;>
    (blk_simp [idx t]; try omega)

/-- The block of keys after. -/
theorem blk4 (r : Fin 128) (e : Fin 512) :
    (iblk m c 4 t : FVec Ideal S128x512 .f32) (ix2 r e) = Q m c (t.val / 16 * 2048 + after (t.val % 16) * 128 + r.val) (2048 + e.val) := by
  unfold Q
  rw [← V_main_arg0 m c]
  refine (at2_idx (R := 16384) (C := 3072) (V m c main_arg0) (((cfg0.win 4).blk t).view.emb _) _ _ ?_ ?_) <;>
    (blk_simp [idx t]; try omega)

/-- The block of values before. -/
theorem blk5 (r : Fin 128) (e : Fin 512) :
    (iblk m c 5 t : FVec Ideal S128x512 .f32) (ix2 r e) = Q m c (t.val / 16 * 2048 + before (t.val % 16) * 128 + r.val) (2560 + e.val) := by
  unfold Q
  rw [← V_main_arg0 m c]
  refine (at2_idx (R := 16384) (C := 3072) (V m c main_arg0) (((cfg0.win 5).blk t).view.emb _) _ _ ?_ ?_) <;>
    (blk_simp [idx t]; try omega)

/-- The block of values. -/
theorem blk6 (r : Fin 128) (e : Fin 512) :
    (iblk m c 6 t : FVec Ideal S128x512 .f32) (ix2 r e) = Q m c (t.val / 16 * 2048 + (t.val % 16) * 128 + r.val) (2560 + e.val) := by
  unfold Q
  rw [← V_main_arg0 m c]
  refine (at2_idx (R := 16384) (C := 3072) (V m c main_arg0) (((cfg0.win 6).blk t).view.emb _) _ _ ?_ ?_) <;>
    (blk_simp [idx t]; try omega)

/-- The block of values after. -/
theorem blk7 (r : Fin 128) (e : Fin 512) :
    (iblk m c 7 t : FVec Ideal S128x512 .f32) (ix2 r e) = Q m c (t.val / 16 * 2048 + after (t.val % 16) * 128 + r.val) (2560 + e.val) := by
  unfold Q
  rw [← V_main_arg0 m c]
  refine (at2_idx (R := 16384) (C := 3072) (V m c main_arg0) (((cfg0.win 7).blk t).view.emb _) _ _ ?_ ?_) <;>
    (blk_simp [idx t]; try omega)

/-- The context's keys. -/
theorem blk8 (r : Fin 256) (e : Fin 512) :
    (iblk m c 8 t : FVec Ideal S256x512 .f32) (ix2 r e) = X m c (t.val / 16 * 256 + r.val) (2048 + e.val) := by
  unfold X
  rw [← V_main_arg1 m c]
  refine (at2_idx (R := 2048) (C := 3072) (V m c main_arg1) (((cfg0.win 8).blk t).view.emb _) _ _ ?_ ?_) <;>
    (blk_simp [idx t]; try omega)

/-- The context's values. -/
theorem blk9 (r : Fin 256) (e : Fin 512) :
    (iblk m c 9 t : FVec Ideal S256x512 .f32) (ix2 r e) = X m c (t.val / 16 * 256 + r.val) (2560 + e.val) := by
  unfold X
  rw [← V_main_arg1 m c]
  refine (at2_idx (R := 2048) (C := 3072) (V m c main_arg1) (((cfg0.win 9).blk t).view.emb _) _ _ ?_ ?_) <;>
    (blk_simp [idx t]; try omega)

/-- The table of cosines at the block's own positions. -/
theorem blk10 (r : Fin 128) (e : Fin 128) :
    (iblk m c 10 t : FVec Ideal S128x128 .f32) (ix2 r e) = at2 (R := 2048) (C := 128) (V m c main_v26) ((t.val % 16) * 128 + r.val) e.val := by
  refine (at2_idx (R := 2048) (C := 128) (V m c main_v26) (((cfg0.win 10).blk t).view.emb _) _ _ ?_ ?_) <;>
    (blk_simp [idx t]; try omega)

/-- The table of signed sines at the block's own positions. -/
theorem blk11 (r : Fin 128) (e : Fin 128) :
    (iblk m c 11 t : FVec Ideal S128x128 .f32) (ix2 r e) = at2 (R := 2048) (C := 128) (V m c main_v33) ((t.val % 16) * 128 + r.val) e.val := by
  refine (at2_idx (R := 2048) (C := 128) (V m c main_v33) (((cfg0.win 11).blk t).view.emb _) _ _ ?_ ?_) <;>
    (blk_simp [idx t]; try omega)

/-- The table of other sines at the block's own positions. -/
theorem blk12 (r : Fin 128) (e : Fin 128) :
    (iblk m c 12 t : FVec Ideal S128x128 .f32) (ix2 r e) = at2 (R := 2048) (C := 128) (V m c main_v34) ((t.val % 16) * 128 + r.val) e.val := by
  refine (at2_idx (R := 2048) (C := 128) (V m c main_v34) (((cfg0.win 12).blk t).view.emb _) _ _ ?_ ?_) <;>
    (blk_simp [idx t]; try omega)

/-- The table of cosines at the positions before. -/
theorem blk13 (r : Fin 128) (e : Fin 128) :
    (iblk m c 13 t : FVec Ideal S128x128 .f32) (ix2 r e) = at2 (R := 2048) (C := 128) (V m c main_v26) (before (t.val % 16) * 128 + r.val) e.val := by
  refine (at2_idx (R := 2048) (C := 128) (V m c main_v26) (((cfg0.win 13).blk t).view.emb _) _ _ ?_ ?_) <;>
    (blk_simp [idx t]; try omega)

/-- The table of signed sines at the positions before. -/
theorem blk14 (r : Fin 128) (e : Fin 128) :
    (iblk m c 14 t : FVec Ideal S128x128 .f32) (ix2 r e) = at2 (R := 2048) (C := 128) (V m c main_v33) (before (t.val % 16) * 128 + r.val) e.val := by
  refine (at2_idx (R := 2048) (C := 128) (V m c main_v33) (((cfg0.win 14).blk t).view.emb _) _ _ ?_ ?_) <;>
    (blk_simp [idx t]; try omega)

/-- The table of other sines at the positions before. -/
theorem blk15 (r : Fin 128) (e : Fin 128) :
    (iblk m c 15 t : FVec Ideal S128x128 .f32) (ix2 r e) = at2 (R := 2048) (C := 128) (V m c main_v34) (before (t.val % 16) * 128 + r.val) e.val := by
  refine (at2_idx (R := 2048) (C := 128) (V m c main_v34) (((cfg0.win 15).blk t).view.emb _) _ _ ?_ ?_) <;>
    (blk_simp [idx t]; try omega)

/-- The table of cosines at the positions after. -/
theorem blk16 (r : Fin 128) (e : Fin 128) :
    (iblk m c 16 t : FVec Ideal S128x128 .f32) (ix2 r e) = at2 (R := 2048) (C := 128) (V m c main_v26) (after (t.val % 16) * 128 + r.val) e.val := by
  refine (at2_idx (R := 2048) (C := 128) (V m c main_v26) (((cfg0.win 16).blk t).view.emb _) _ _ ?_ ?_) <;>
    (blk_simp [idx t]; try omega)

/-- The table of signed sines at the positions after. -/
theorem blk17 (r : Fin 128) (e : Fin 128) :
    (iblk m c 17 t : FVec Ideal S128x128 .f32) (ix2 r e) = at2 (R := 2048) (C := 128) (V m c main_v33) (after (t.val % 16) * 128 + r.val) e.val := by
  refine (at2_idx (R := 2048) (C := 128) (V m c main_v33) (((cfg0.win 17).blk t).view.emb _) _ _ ?_ ?_) <;>
    (blk_simp [idx t]; try omega)

/-- The table of other sines at the positions after. -/
theorem blk18 (r : Fin 128) (e : Fin 128) :
    (iblk m c 18 t : FVec Ideal S128x128 .f32) (ix2 r e) = at2 (R := 2048) (C := 128) (V m c main_v34) (after (t.val % 16) * 128 + r.val) e.val := by
  refine (at2_idx (R := 2048) (C := 128) (V m c main_v34) (((cfg0.win 18).blk t).view.emb _) _ _ ?_ ?_) <;>
    (blk_simp [idx t]; try omega)

/-- The sinks. -/
theorem blk0 (o : Fin 16) : (iblk m c 0 t : FVec Ideal S16 .f32) (ix1 o) = S m c o.val := by
  unfold S
  rw [← V_main_arg2 m c]
  show V m c main_arg2 (((cfg0.win 0).blk t).view.emb (ix1 o)) = _
  have e : ((cfg0.win 0).blk t).view.emb (ix1 o) = ix1 (n0 := 16) ⟨o.val, o.isLt⟩ := by
    funext a
    apply Fin.ext
    fin_cases a
    blk_simp [idx t]
  exact (congrArg (V m c main_arg2) e).trans (at1_of _ _ _ _ rfl)

/-- A cut of columns, read at an index. -/
theorem cut_apply {R C W : ℕ} (x : FVec Ideal ⟨2, ![R, C]⟩ .f32) (o : ℕ)
    (h : ∀ a, (![0, o] : Fin 2 → ℕ) a + (![R, W] : Fin 2 → ℕ) a ≤ (⟨2, ![R, C]⟩ : Shape).size a)
    (r : Fin R) (e : Fin W) : View.ld (S := ⟨2, ![R, C]⟩) (Val := Elt Ideal) (e' := .f32) x (Rect.unit (s := ⟨2, ![R, C]⟩) ![0, o] ![R, W] h) (ix2 r e)
      = x (ix2 r ⟨o + e.val, (Nat.add_lt_add_left e.isLt o).trans_le (h 1)⟩) := by
  refine View.ld_unit_apply_of (S := ⟨2, ![R, C]⟩) (Val := Elt Ideal) (e := .f32) x _ _ h _ _ fun a => ?_
  match a with
  | ⟨0, _⟩ => exact (Nat.zero_add _).symm
  | ⟨1, _⟩ => rfl

/-- A head's columns of the keys before. -/
theorem load_kp (o : ℕ) (h) (r e : Fin 128) :
    (loadsAt m c t).kp o h (ix2 r e) = Q m c (t.val / 16 * 2048 + before (t.val % 16) * 128 + r.val) (2048 + o + e.val) := by
  rw [Nat.add_assoc 2048]
  exact (cut_apply (R := 128) (C := 512) (W := 128) (iblk m c 2 t) o h r e).trans (blk2 m c t r _)

/-- A head's columns of the keys. -/
theorem load_kc (o : ℕ) (h) (r e : Fin 128) :
    (loadsAt m c t).kc o h (ix2 r e) = Q m c (t.val / 16 * 2048 + (t.val % 16) * 128 + r.val) (2048 + o + e.val) := by
  rw [Nat.add_assoc 2048]
  exact (cut_apply (R := 128) (C := 512) (W := 128) (iblk m c 3 t) o h r e).trans (blk3 m c t r _)

/-- A head's columns of the keys after. -/
theorem load_kn (o : ℕ) (h) (r e : Fin 128) :
    (loadsAt m c t).kn o h (ix2 r e) = Q m c (t.val / 16 * 2048 + after (t.val % 16) * 128 + r.val) (2048 + o + e.val) := by
  rw [Nat.add_assoc 2048]
  exact (cut_apply (R := 128) (C := 512) (W := 128) (iblk m c 4 t) o h r e).trans (blk4 m c t r _)

/-- A head's columns of the values before. -/
theorem load_vp (o : ℕ) (h) (r e : Fin 128) :
    (loadsAt m c t).vp o h (ix2 r e) = Q m c (t.val / 16 * 2048 + before (t.val % 16) * 128 + r.val) (2560 + o + e.val) := by
  rw [Nat.add_assoc 2560]
  exact (cut_apply (R := 128) (C := 512) (W := 128) (iblk m c 5 t) o h r e).trans (blk5 m c t r _)

/-- A head's columns of the values. -/
theorem load_vc (o : ℕ) (h) (r e : Fin 128) :
    (loadsAt m c t).vc o h (ix2 r e) = Q m c (t.val / 16 * 2048 + (t.val % 16) * 128 + r.val) (2560 + o + e.val) := by
  rw [Nat.add_assoc 2560]
  exact (cut_apply (R := 128) (C := 512) (W := 128) (iblk m c 6 t) o h r e).trans (blk6 m c t r _)

/-- A head's columns of the values after. -/
theorem load_vn (o : ℕ) (h) (r e : Fin 128) :
    (loadsAt m c t).vn o h (ix2 r e) = Q m c (t.val / 16 * 2048 + after (t.val % 16) * 128 + r.val) (2560 + o + e.val) := by
  rw [Nat.add_assoc 2560]
  exact (cut_apply (R := 128) (C := 512) (W := 128) (iblk m c 7 t) o h r e).trans (blk7 m c t r _)

/-- A head's columns of the context's keys. -/
theorem load_kx (o : ℕ) (h) (r : Fin 256) (e : Fin 128) :
    (loadsAt m c t).kx o h (ix2 r e) = X m c (t.val / 16 * 256 + r.val) (2048 + o + e.val) := by
  rw [Nat.add_assoc 2048]
  exact (cut_apply (R := 256) (C := 512) (W := 128) (iblk m c 8 t) o h r e).trans (blk8 m c t r _)

/-- A head's columns of the context's values. -/
theorem load_vx (o : ℕ) (h) (r : Fin 256) (e : Fin 128) :
    (loadsAt m c t).vx o h (ix2 r e) = X m c (t.val / 16 * 256 + r.val) (2560 + o + e.val) := by
  rw [Nat.add_assoc 2560]
  exact (cut_apply (R := 256) (C := 512) (W := 128) (iblk m c 9 t) o h r e).trans (blk9 m c t r _)

/-- A head's columns of the queries. -/
theorem load_q (o : ℕ) (h) (r e : Fin 128) :
    (loadsAt m c t).q o h (ix2 r e) = Q m c (t.val / 16 * 2048 + (t.val % 16) * 128 + r.val) (o + e.val) :=
  (cut_apply (R := 128) (C := 2048) (W := 128) (X0_1 m c t) o h r e).trans (blk1 m c t r _)

/-- A head's sink. -/
theorem load_sink (o : ℕ) (h) : (loadsAt m c t).sink o h = S m c o := by
  have ho : o < 16 := h 0
  refine (View.ld_unit_apply_of (S := S16) (Val := Elt Ideal) (e := .f32) (iblk m c 0 t) ![o] S1.size h _ (ix1 (n0 := 16) ⟨o, ho⟩) fun a => ?_).trans (blk0 m c t ⟨o, ho⟩)
  match a with
  | ⟨0, _⟩ => rfl

/-- The load of the table of cosines at the block's own positions. -/
theorem load_cosC (r e : Fin 128) : (loadsAt m c t).cosC (ix2 r e)
    = at2 (R := 2048) (C := 128) (V m c main_v26) ((t.val % 16) * 128 + r.val) e.val := by
  unfold loadsAt loads; exact blk10 m c t r e

/-- The load of the table of signed sines at the block's own positions. -/
theorem load_upC (r e : Fin 128) : (loadsAt m c t).upC (ix2 r e)
    = at2 (R := 2048) (C := 128) (V m c main_v33) ((t.val % 16) * 128 + r.val) e.val := by
  unfold loadsAt loads; exact blk11 m c t r e

/-- The load of the table of other sines at the block's own positions. -/
theorem load_dnC (r e : Fin 128) : (loadsAt m c t).dnC (ix2 r e)
    = at2 (R := 2048) (C := 128) (V m c main_v34) ((t.val % 16) * 128 + r.val) e.val := by
  unfold loadsAt loads; exact blk12 m c t r e

/-- The load of the table of cosines at the positions before. -/
theorem load_cosP (r e : Fin 128) : (loadsAt m c t).cosP (ix2 r e)
    = at2 (R := 2048) (C := 128) (V m c main_v26) ((before (t.val % 16)) * 128 + r.val) e.val := by
  unfold loadsAt loads; exact blk13 m c t r e

/-- The load of the table of signed sines at the positions before. -/
theorem load_upP (r e : Fin 128) : (loadsAt m c t).upP (ix2 r e)
    = at2 (R := 2048) (C := 128) (V m c main_v33) ((before (t.val % 16)) * 128 + r.val) e.val := by
  unfold loadsAt loads; exact blk14 m c t r e

/-- The load of the table of other sines at the positions before. -/
theorem load_dnP (r e : Fin 128) : (loadsAt m c t).dnP (ix2 r e)
    = at2 (R := 2048) (C := 128) (V m c main_v34) ((before (t.val % 16)) * 128 + r.val) e.val := by
  unfold loadsAt loads; exact blk15 m c t r e

/-- The load of the table of cosines at the positions after. -/
theorem load_cosN (r e : Fin 128) : (loadsAt m c t).cosN (ix2 r e)
    = at2 (R := 2048) (C := 128) (V m c main_v26) ((after (t.val % 16)) * 128 + r.val) e.val := by
  unfold loadsAt loads; exact blk16 m c t r e

/-- The load of the table of signed sines at the positions after. -/
theorem load_upN (r e : Fin 128) : (loadsAt m c t).upN (ix2 r e)
    = at2 (R := 2048) (C := 128) (V m c main_v33) ((after (t.val % 16)) * 128 + r.val) e.val := by
  unfold loadsAt loads; exact blk17 m c t r e

/-- The load of the table of other sines at the positions after. -/
theorem load_dnN (r e : Fin 128) : (loadsAt m c t).dnN (ix2 r e)
    = at2 (R := 2048) (C := 128) (V m c main_v34) ((after (t.val % 16)) * 128 + r.val) e.val := by
  unfold loadsAt loads; exact blk18 m c t r e

/-- A grid point's loads are the rows and columns of the arguments that its coordinates name. -/
theorem holds_loads : Holds (loadsAt m c t) (Q m c) (X m c) (S m c) (at2 (R := 2048) (C := 128) (V m c main_v26))
    (at2 (R := 2048) (C := 128) (V m c main_v33)) (at2 (R := 2048) (C := 128) (V m c main_v34))
    (t.val / 16) (t.val % 16) (before (t.val % 16)) (after (t.val % 16)) := by
  constructor
  · exact load_sink m c t
  · exact load_q m c t
  · exact load_kp m c t
  · exact load_kc m c t
  · exact load_kn m c t
  · exact load_vp m c t
  · exact load_vc m c t
  · exact load_vn m c t
  · exact load_kx m c t
  · exact load_vx m c t
  · exact load_cosC m c t
  · exact load_upC m c t
  · exact load_dnC m c t
  · exact load_cosP m c t
  · exact load_upP m c t
  · exact load_dnP m c t
  · exact load_cosN m c t
  · exact load_upN m c t
  · exact load_dnN m c t

end Cert.KernelIdeal.Attn
-- ==== Proof.RefReal.lean ====
/- The scores are real numbers, given that queries and keys are: the tables of cosines and sines are real, and the sums and
   products of reals are. -/
module

public import proofs.«01_k».proof.Proof.RefHeads

@[expose] public section
set_option maxRecDepth 16384
noncomputable section
namespace Cert.Attention
open Idealize.ShloMosaic Cert.ReferenceIdeal Cert.ReferenceIdeal.Read

/-- An integer is a real number. -/
theorem int_real (w : BitVec 32) : IsReal (FloatOps.sitofp (F := Ideal) .f32 w) := isReal_iff.2 ⟨_, rfl⟩

/-- A rotation frequency is real. -/
theorem freq_real (i : Fin 32) : IsReal (val_main_v19 (F := Ideal) (ix1 i)) := by
  pointwise [val_main_v19, val_main_v18, val_main_v17, val_main_v16, val_main_v15, val_main_v14, val_main_cst, val_main_cst_0]
  have e : Ideal.ofBits .f32 1107296256#32 = ((32 : ℝ) : EReal) := by
    simp [Ideal.ofBits, Ideal.ieee, -EReal.coe_mul]; norm_num
  have e' : Ideal.ofBits .f32 1176256512#32 = ((10000 : ℝ) : EReal) := by
    simp [Ideal.ofBits, Ideal.ieee, -EReal.coe_mul]; norm_num
  rw [e, e']
  have hn : IsReal (-FloatOps.sitofp (F := Ideal) .f32 (BitVec.ofNat 32 i.val)) := (int_real _).neg
  have hd : ∀ x : EReal, IsReal x → IsReal (Ideal.div x ((32 : ℝ) : EReal)) := by
    intro x hx
    rw [Ideal.div, if_neg (by norm_cast), ← EReal.coe_inv]
    exact hx.mul (isReal_coe _)
  obtain ⟨y, hy⟩ := isReal_iff.1 (hd _ hn)
  rw [hy]
  exact isReal_coe _

/-- A rotation angle is real. -/
theorem angle_real (l : Fin 2048) (d : Fin 128) : IsReal (val_main_v30 (F := Ideal) (ix2 l d)) := by
  pointwise [val_main_v30, val_main_v29, val_main_v28, val_main_v27, val_main_v26, val_main_v25, val_main_v24, val_main_v23, val_main_v22, val_main_v21, val_main_v20, val_main_v13, val_main_v8]
  split_ifs <;> exact (int_real _).mul (freq_real _)

/-- The matrix read outside its rows and columns is zero, so it is real when its entries are. -/
theorem at2_real {R C : ℕ} (x : (⟨2, ![R, C]⟩ : Shape).Idx → EReal) (r c : ℕ) (h : ∀ hr hc, IsReal (x (ix2 ⟨r, hr⟩ ⟨c, hc⟩))) :
    IsReal (at2 x r c) := by
  unfold at2
  split_ifs with hi
  · exact h hi.1 hi.2
  · exact isReal_zero

/-- The cosines are real. -/
theorem cosR_real (l d : ℕ) : IsReal (cosR l d) := at2_real _ l d fun hl hd => by
  rw [val_main_v31_apply]
  obtain ⟨y, hy⟩ := isReal_iff.1 (angle_real ⟨l, hl⟩ ⟨d, hd⟩)
  rw [hy]
  exact isReal_coe _

/-- The sines are real. -/
theorem sinR_real (l d : ℕ) : IsReal (sinR l d) := at2_real _ l d fun hl hd => by
  rw [val_main_v32_apply]
  obtain ⟨y, hy⟩ := isReal_iff.1 (angle_real ⟨l, hl⟩ ⟨d, hd⟩)
  rw [hy]
  exact isReal_coe _

/-- The scale is real. -/
theorem scale_real : IsReal scale := by
  unfold scale
  refine isReal_iff.2 ⟨11863283 / 134217728, ?_⟩
  simp [Ideal.ofBits, Ideal.ieee, -EReal.coe_mul]; norm_num

section
variable (Q X : ℕ → ℕ → EReal) (C N : ℕ → ℕ → EReal) (hC : ∀ l d, IsReal (C l d)) (hN : ∀ l d, IsReal (N l d))
  (hQ : ∀ r k, k < 2560 → IsReal (Q r k)) (hX : ∀ r k, 2048 ≤ k → k < 2560 → IsReal (X r k))

/-- The rotation of a real row is real. -/
theorem rope_real (x c s : ℕ → EReal) (hx : ∀ d, d < 128 → IsReal (x d)) (hc : ∀ d, IsReal (c d)) (hs : ∀ d, IsReal (s d))
    (d : ℕ) (hd : d < 128) : IsReal (rope x c s d) := by
  unfold rope rot
  refine ((hx d hd).mul (hc d)).add (IsReal.mul ?_ (hs d))
  split_ifs
  · exact (hx _ (by omega)).neg
  · exact hx _ (by omega)

include hC hN hQ in
/-- A rotated query is real. -/
theorem qv_real (b l h d : ℕ) (hh : h < 16) (hd : d < 128) : IsReal (qv Q C N b l h d) :=
  rope_real _ _ _ (fun e he => hQ _ _ (by omega)) (hC l) (hN l) d hd

include hC hN hQ in
/-- A rotated key is real. -/
theorem kv_real (b l h d : ℕ) (hh : h < 4) (hd : d < 128) : IsReal (kv Q C N b l h d) :=
  rope_real _ _ _ (fun e he => hQ _ _ (by omega)) (hC l) (hN l) d hd

include hC hN hQ in
/-- A score of the window is real or, where the key is not seen, minus infinity. -/
theorem scoreW_ne_top (b n h g a : ℕ) (k : Fin 384) (hh : h < 4) (hg : g < 4) : scoreW Q C N b n h g a k ≠ ⊤ := by
  unfold scoreW Scalar.select
  split_ifs
  · have hr : IsReal ((∑ d : Fin 128, qv Q C N b (n * 128 + a) (h * 4 + g) d.val * kv Q C N b (n * 128 + k.val - 128) h d.val) * scale) :=
      IsReal.mul (IsReal.sum _ fun d => (qv_real Q C N hC hN hQ b _ _ _ (by omega) d.isLt).mul (kv_real Q C N hC hN hQ b _ _ _ hh d.isLt)) scale_real
    obtain ⟨y, hy⟩ := isReal_iff.1 hr
    rw [hy]
    exact EReal.coe_ne_top y
  · exact bot_ne_top

include hC hN hQ hX in
/-- A score of the context is real. -/
theorem scoreC_real (b n h g a : ℕ) (k : Fin 256) (hh : h < 4) (hg : g < 4) : IsReal (scoreC Q X C N b n h g a k) :=
  IsReal.mul (IsReal.sum _ fun d => (qv_real Q C N hC hN hQ b _ _ _ (by omega) d.isLt).mul (hX _ _ (by omega) (by have := d.isLt; omega))) scale_real
end

end Cert.Attention
-- ==== Proof.KernelValue.lean ====
/- The array the kernel leaves is the specification's, entry by entry: every block is made of sixteen tiles, each of them the
   attention of one head. -/
module

public import proofs.«01_k».proof.Proof.Blocks
public import proofs.«01_k».proof.Proof.RefReal

@[expose] public section
set_option maxRecDepth 16384
noncomputable section
namespace Cert.KernelIdeal.Attn
open Idealize.ShloMosaic Idealize.ShloMosaic.TcCoe Cert.KernelIdeal Cert.KernelIdeal.Gen Cert.Attention

/-- The specification as an array: the row names batch, block and position, the column head and coordinate. -/
def outArray (Q X : ℕ → ℕ → EReal) (S : ℕ → EReal) : S16384x2048.Idx → EReal := fun i =>
  out Q X S cosR sinR ((i 0).val / 2048) ((i 0).val / 128 % 16) ((i 1).val / 512) ((i 1).val / 128 % 4) ((i 0).val % 128) ((i 1).val % 128)

variable (m : (ℓ : Loc nD τ sig) → Buf (Elt Ideal) ℓ) (c : Dev nD) (t : Fin cfg0.N)
  (hQ : ∀ r k, k < 2560 → IsReal (Q m c r k)) (hX : ∀ r k, 2048 ≤ k → k < 2560 → IsReal (X m c r k)) (hS : ∀ i, S m c i ≠ ⊤)

/-- The table of cosines at the specification's coordinates. -/
theorem tables_cos : at2 (R := 2048) (C := 128) (V m c main_v26) = cosR := by rw [V_cos]; rfl

/-- A table of the kernel's, read at a row and a column, when its entries are known. -/
theorem table_read (x : S2048x128.Idx → EReal) (f : EReal → EReal) (p : ℕ → Bool) (hf : f 0 = 0)
    (hx : ∀ (l : Fin 2048) (d : Fin 128), x (ix2 l d) = if p d.val then f (sinR l d) else 0) (l e : ℕ) (he : e < 128) :
    at2 (R := 2048) (C := 128) x l e = if p e then f (sinR l e) else 0 := by
  by_cases hl : l < 2048
  · rw [← hx ⟨l, hl⟩ ⟨e, he⟩]; exact (at2_of x l e l e hl he rfl rfl).symm
  · have z : sinR l e = 0 := by unfold sinR at2; rw [dif_neg (fun h => hl h.1)]
    rw [z, hf]; unfold at2; rw [dif_neg (fun h => hl h.1)]; simp

include hQ hX hS in
/-- One stored tile is the specification at its place. -/
theorem piece_apply (h g : ℕ) (hh : h < 4) (hg : g < 4) (a d : Fin 128) :
    tile (grid0.coords t) (loadsAt m c t) h g hh hg (ix2 a d)
      = out (Q m c) (X m c) (S m c) cosR sinR (t.val / 16) (t.val % 16) h g a.val d.val := by
  have hl := holds_loads m c t
  rw [tables_cos] at hl
  refine tile_apply (N := sinR) hl ?_ ?_ (Nat.mod_lt _ (by decide)) (fun _ => rfl) (fun hq => ?_) (grid0.coords t) ?_ h g hh hg ?_ ?_ (hS _) a d
  · intro l e he
    have := table_read (V m c main_v33) (fun x => -x) (fun d => decide (d % 64 < 32)) neg_zero (fun l d => by rw [up_apply]; simp) l e he
    simpa using this
  · intro l e he
    have := table_read (V m c main_v34) (fun x => x) (fun d => !decide (d % 64 < 32)) rfl (fun l d => by rw [dn_apply]; by_cases hd : d.val % 64 < 32 <;> simp [hd]) l e he
    by_cases hd : e % 64 < 32 <;> simpa [hd] using this
  · unfold after; omega
  · exact (idx t).2.2.2.2.2.2.2.2.2.2.2.2.2.2.2.2.2.2.2.2
  · exact fun a k _ => scoreW_ne_top _ _ _ cosR_real sinR_real hQ _ _ h g a k hh hg
  · exact fun a k _ => scoreC_real _ _ _ _ cosR_real sinR_real hQ hX _ _ h g a k hh hg

include hQ hX hS in
/-- The block a grid point leaves. -/
theorem block_apply (y : S128x2048.Idx) : outAt m c t y
    = out (Q m c) (X m c) (S m c) cosR sinR (t.val / 16) (t.val % 16) ((y 1).val / 512) ((y 1).val / 128 % 4) (y 0).val ((y 1).val % 128) := by
  rw [outAt_eq]
  refine View.canon_apply_of_pieces (S := S128x2048) (Val := Elt Ideal) (e := .bf16) (fun y : S128x2048.Idx => out (Q m c) (X m c) (S m c) cosR sinR (t.val / 16) (t.val % 16)
    ((y 1).val / 512) ((y 1).val / 128 % 4) (y 0).val ((y 1).val % 128)) _ ?_ y (pieces_cover _ _ y)
  have hp : ∀ h g hh hg (x : S128x128.Idx), tile (grid0.coords t) (loadsAt m c t) h g hh hg x
      = out (Q m c) (X m c) (S m c) cosR sinR (t.val / 16) (t.val % 16) ((512 * h + 128 * g + (x 1).val) / 512)
          ((512 * h + 128 * g + (x 1).val) / 128 % 4) (0 + (x 0).val) ((512 * h + 128 * g + (x 1).val) % 128) := by
    intro h g hh hg x
    have hx : x = ix2 (x 0) (x 1) := by funext a; fin_cases a <;> rfl
    have h1 : (x 1).val < 128 := (x 1).isLt
    have e := piece_apply m c t hQ hX hS h g hh hg (x 0) (x 1)
    refine (congrArg (tile (grid0.coords t) (loadsAt m c t) h g hh hg) hx).trans (e.trans ?_)
    rw [show (512 * h + 128 * g + (x 1).val) / 512 = h by omega, show (512 * h + 128 * g + (x 1).val) / 128 % 4 = g by omega,
      show (512 * h + 128 * g + (x 1).val) % 128 = (x 1).val by omega, Nat.zero_add]
  have hq : ∀ h g hh hg, ∀ x, (piece (grid0.coords t) (loadsAt m c t) h g hh hg).2 x
      = (fun y : S128x2048.Idx => out (Q m c) (X m c) (S m c) cosR sinR (t.val / 16) (t.val % 16) ((y 1).val / 512) ((y 1).val / 128 % 4) (y 0).val ((y 1).val % 128))
        ((piece (grid0.coords t) (loadsAt m c t) h g hh hg).1.emb x) := by
    intro h g hh hg x
    refine (hp h g hh hg x).trans ?_
    have e0 : ((piece (grid0.coords t) (loadsAt m c t) h g hh hg).1.emb x 0).val = 0 + (x 0).val :=
      ValueKit.rect_emb_unit_val _ _ (fitsQ h g hh hg) _ _
    have e1 : ((piece (grid0.coords t) (loadsAt m c t) h g hh hg).1.emb x 1).val = 512 * h + 128 * g + (x 1).val :=
      ValueKit.rect_emb_unit_val _ _ (fitsQ h g hh hg) _ _
    dsimp only
    rw [e0, e1]
  intro p hm
  simp only [pieces, pieces4, List.mem_append, List.mem_cons, List.not_mem_nil, or_false] at hm
  rcases hm with (rfl | rfl | rfl | rfl) | (rfl | rfl | rfl | rfl) | (rfl | rfl | rfl | rfl) | (rfl | rfl | rfl | rfl) <;> exact hq _ _ _ _

include hQ hX hS in
/-- The array after the run. -/
theorem array_eq : (dats m 0 c).arrAt 19 cfg0.N = outArray (Q m c) (X m c) (S m c) := by
  refine (dats m 0 c).arrAt_eq_of_covers 19 (outArray (Q m c) (X m c) (S m c)) (by decide +kernel) fun t hf y => ?_
  refine (block_apply m c t hQ hX hS y).trans ?_
  have ht : t.val < 128 := t.isLt
  have h0 : (y 0).val < 128 := (y 0).isLt
  have h1 : (y 1).val < 2048 := (y 1).isLt
  unfold outArray
  have e0 : ((((cfg0.win 19).blk t).view.emb y) 0).val = (t.val / 16 * 16 + t.val % 16) * 128 + (y 0).val := by blk_simp [idx t]
  have e1 : ((((cfg0.win 19).blk t).view.emb y) 1).val = (y 1).val := by blk_simp [idx t]
  rw [e0, e1]
  congr 1 <;> omega

/-- The run, with the array it leaves named and the arguments unchanged. -/
theorem run_array (ρ : Dev nD → PrngReg) : θ_run defs (onTc (τ := τ) (main (F := Ideal))) ⟨m, fun _ => 0, ρ⟩ fun r => ∀ c : Dev nD,
      r.2.mem ((c : Thread nD τ).loc main_v35) = (dats m 0 c).arrAt 19 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1 19,
      ((h c).1 7).trans (((dats m 0 c).arrAt_in 7 rfl _).trans ((A_eq m c 7).trans (V_main_arg0 m c))),
      ((h c).1 9).trans (((dats m 0 c).arrAt_in 9 rfl _).trans ((A_eq m c 9).trans (V_main_arg1 m c))),
      ((h c).1 0).trans (((dats m 0 c).arrAt_in 0 rfl _).trans ((A_eq m c 0).trans (V_main_arg2 m c)))⟩)
    (run_main m ρ)

end Cert.KernelIdeal.Attn
-- ==== Proof.RefScores.lean ====
/- The reference's windows and scores, read at an index. -/
module

public import proofs.«01_k».proof.Proof.RefHeads
public import proofs.«01_k».proof.Proof.KernelHead

@[expose] public section
set_option maxRecDepth 16384
noncomputable section
namespace Cert.Attention
open Idealize.ShloMosaic Cert.ReferenceIdeal Cert.ReferenceIdeal.Read

/-- The reference's key window: the keys around the block, zero outside the sequence. -/
theorem keyWindow_ref (x0 : FVec Ideal S16384x3072 .f32) (b : Fin 8) (n : Fin 16) (k : Fin 384) (h : Fin 4) (d : Fin 128)
    (hin : 128 ≤ n.val * 128 + k.val ∧ n.val * 128 + k.val < 2176) :
    val_main_v80 (F := Ideal) x0 (ix5 b n k h d) = kv (at2 x0) cosR sinR b (n.val * 128 + k.val - 128) h d := by
  have hk := k.isLt; have hn := n.isLt
  have key : ∀ (l : ℕ) (hl : l < 2048), l = n.val * 128 + k.val - 128 →
      val_main_v66 (F := Ideal) x0 (ix4 b ⟨l, hl⟩ h d) = kv (at2 x0) cosR sinR b (n.val * 128 + k.val - 128) h d := by
    rintro _ hl rfl; exact key_ref x0 b _ h d
  pointwise [val_main_v80, val_main_v79, val_main_v78, val_main_v77, val_main_v76, val_main_v75]
  by_cases h1 : k.val < 128
  · rw [dif_pos h1, dif_pos (by omega)]; exact key _ _ (by omega)
  rw [dif_neg h1]
  by_cases h2 : k.val - 128 < 128
  · rw [dif_pos h2, dif_pos (by omega)]; exact key _ _ (by omega)
  · rw [dif_neg h2, dif_pos (by omega)]; exact key _ _ (by omega)

/-- The reference's value window. -/
theorem valWindow_ref (x0 : FVec Ideal S16384x3072 .f32) (b : Fin 8) (n : Fin 16) (k : Fin 384) (h : Fin 4) (d : Fin 128)
    (hin : 128 ≤ n.val * 128 + k.val ∧ n.val * 128 + k.val < 2176) :
    val_main_v86 (F := Ideal) x0 (ix5 b n k h d) = vv (at2 x0) b (n.val * 128 + k.val - 128) h d := by
  have hk := k.isLt; have hn := n.isLt
  have key : ∀ (l : ℕ) (hl : l < 2048), l = n.val * 128 + k.val - 128 →
      val_main_v67 (F := Ideal) x0 (ix4 b ⟨l, hl⟩ h d) = vv (at2 x0) b (n.val * 128 + k.val - 128) h d := by
    rintro _ hl rfl; exact val_ref x0 b _ h d
  pointwise [val_main_v86, val_main_v85, val_main_v84, val_main_v83, val_main_v82, val_main_v81]
  by_cases h1 : k.val < 128
  · rw [dif_pos h1, dif_pos (by omega)]; exact key _ _ (by omega)
  rw [dif_neg h1]
  by_cases h2 : k.val - 128 < 128
  · rw [dif_pos h2, dif_pos (by omega)]; exact key _ _ (by omega)
  · rw [dif_neg h2, dif_pos (by omega)]; exact key _ _ (by omega)

section
variable (x0 : FVec Ideal S16384x3072 .f32) (x1 : FVec Ideal S2048x3072 .f32) (x2 : FVec Ideal S16 .f32)
  (b : Fin 8) (n : Fin 16) (h g : Fin 4) (a : Fin 128)

/-- The rotated query that a block's row and a group of heads address. -/
theorem blockQuery_ref (hl : n.val * 128 + a.val < 2048) (hh : h.val * 4 + g.val < 16) (d : Fin 128) :
    val_main_v49 (F := Ideal) x0 (ix4 b ⟨n.val * 128 + a.val, hl⟩ ⟨h.val * 4 + g.val, hh⟩ d)
      = qv (at2 x0) cosR sinR b (n.val * 128 + a.val) (h.val * 4 + g.val) d := query_ref x0 b _ _ d

/-- The reference's mask bit. -/
theorem seen_ref (k : Fin 384) : val_main_v124 (F := Ideal) (ix6 b n h g a k) = seen n a k := by
  pointwise [val_main_v124, val_main_v123, val_main_v122, val_main_v121, val_main_v120,
    val_main_v119, val_main_v118, val_main_v117, val_main_v116, val_main_v115, val_main_v114, val_main_v113, val_main_v112,
    val_main_v111, val_main_v110, val_main_v109, val_main_v108, val_main_v107, val_main_v106, val_main_v105, val_main_v104,
    val_main_v103, val_main_v102, val_main_v101, val_main_v100, val_main_v99, val_main_v98, val_main_v97, val_main_v96,
    val_main_v95, val_main_v94, val_main_v93, val_main_v92, val_main_v91, val_main_c, val_main_c_4, val_main_c_5,
    val_main_c_6, val_main_c_7, val_main_c_8]
  unfold seen
  rfl

/-- The reference's products of queries and window keys, scaled. -/
theorem scaled_ref (k : Fin 384) (hin : 128 ≤ n.val * 128 + k.val ∧ n.val * 128 + k.val < 2176) :
    val_main_v90 (F := Ideal) x0 (ix6 b n h g a k)
      = (∑ d : Fin 128, qv (at2 x0) cosR sinR b (n.val * 128 + a.val) (h.val * 4 + g.val) d.val
          * kv (at2 x0) cosR sinR b (n.val * 128 + k.val - 128) h d.val) * scale := by
  pointwise [val_main_v90, val_main_v89, val_main_v88, val_main_v87, val_main_v74, val_main_cst_3]
  refine congrArg (fun z => z * scale) (Finset.sum_congr rfl fun d _ => ?_)
  rw [keyWindow_ref x0 b n k h d hin, blockQuery_ref, mul_comm]

/-- The reference's scores of the window. -/
theorem scoreW_ref (k : Fin 384) : val_main_v126 (F := Ideal) x0 (ix6 b n h g a k) = scoreW (at2 x0) cosR sinR b n h g a k := by
  have e : val_main_v126 (F := Ideal) x0 (ix6 b n h g a k)
      = Scalar.select (val_main_v124 (F := Ideal) (ix6 b n h g a k)) (val_main_v90 (F := Ideal) x0 (ix6 b n h g a k)) ⊥ := by
    have h0 := Cert.KernelIdeal.Attn.negInf
    pointwise [val_main_v126, val_main_v125, val_main_cst_9]
    rw [h0]
  have hin := Cert.KernelIdeal.Attn.seen_pos n.val a.val k.val n.isLt k.isLt
  rw [e, seen_ref]
  unfold scoreW
  generalize seen n a k = w at hin
  by_cases hs : w = 1#1
  · rw [scaled_ref x0 b n h g a k (hin hs)]
  · have hs' : ¬ w = 1 := hs
    unfold Scalar.select; rw [if_neg hs', if_neg hs']

/-- The reference's scores of the context. -/
theorem scoreC_ref (k : Fin 256) : val_main_v130 (F := Ideal) x0 x1 (ix6 b n h g a k) = scoreC (at2 x0) (at2 x1) cosR sinR b n h g a k := by
  pointwise [val_main_v130, val_main_v129, val_main_v128, val_main_v127, val_main_v74, val_main_cst_10]
  unfold scoreC
  refine congrArg (fun z => z * scale) (Finset.sum_congr rfl fun d _ => ?_)
  rw [ctxKey_ref x1 b k h d, blockQuery_ref, mul_comm]

/-- The reference's row of scores, window and context end to end. -/
theorem row_ref (k : Fin 640) : val_main_v131 (F := Ideal) x0 x1 (ix6 b n h g a k)
    = both (scoreW (at2 x0) cosR sinR b n h g a) (scoreC (at2 x0) (at2 x1) cosR sinR b n h g a) k := by
  pointwise [val_main_v131]
  unfold both
  by_cases hk : k.val < 384
  · rw [dif_pos hk, dif_pos hk]; exact scoreW_ref x0 b n h g a _
  · rw [dif_neg hk, dif_neg hk]; exact scoreC_ref x0 x1 b n h g a _

/-- The indices that a reduction of the last of six axes sends to one index. -/
theorem fiber_last {n0 n1 n2 n3 n4 n5 : ℕ} (hr : (⟨6, ![n0, n1, n2, n3, n4, n5]⟩ : Shape).ReducesTo [5] ⟨5, ![n0, n1, n2, n3, n4]⟩)
    (b : Fin n0) (n : Fin n1) (h : Fin n2) (g : Fin n3) (a : Fin n4) (i : (⟨6, ![n0, n1, n2, n3, n4, n5]⟩ : Shape).Idx) :
    hr.drop i = ix5 b n h g a ↔ ∃ k : Fin n5, ix6 b n h g a k = i := by
  constructor
  · intro e
    refine ⟨i 5, ?_⟩
    funext x; apply Fin.ext
    match x with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => exact (congrArg Fin.val (congrFun e 4)).symm
    | ⟨5, _⟩ => rfl
  · rintro ⟨k, rfl⟩
    funext x; apply Fin.ext
    match x with
    | ⟨0, _⟩ => rfl
    | ⟨1, _⟩ => rfl
    | ⟨2, _⟩ => rfl
    | ⟨3, _⟩ => rfl
    | ⟨4, _⟩ => rfl

/-- The largest along the last axis. -/
theorem max_last (v : FVec Ideal S8x16x4x4x128x640 .f32) (z : FVec Ideal S_ .f32) (hz : ∀ i, z i = ⊥)
    (hr : S8x16x4x4x128x640.ReducesTo [5] S8x16x4x4x128) (hu : 0 < S_.numel) :
    Host.reduce (FloatOps.maximumf (F := Ideal) (φ := .f32)) v z hr hu (ix5 b n h g a) = top fun k => v (ix6 b n h g a k) := by
  haveI : Std.Commutative (FloatOps.maximumf (F := Ideal) (φ := .f32)) := ⟨fun x y => max_comm (α := EReal) x y⟩
  haveI : Std.Associative (FloatOps.maximumf (F := Ideal) (φ := .f32)) := ⟨fun x y w => max_assoc (α := EReal) x y w⟩
  rw [Host.reduce_eq_fold, hz]
  exact Finset.fold_filter_eq_fold_of_fiber (max : EReal → EReal → EReal) _ (fun k : Fin 640 => ix6 b n h g a k)
    (fun _ _ e => congrFun e 5) (fiber_last hr b n h g a) ⊥ v

/-- The sum along the last axis. -/
theorem sum_last (v : S8x16x4x4x128x640.Idx → EReal) (z : EReal) (hr : S8x16x4x4x128x640.ReducesTo [5] S8x16x4x4x128) :
    Ideal.hostReduceAdd hr v z (ix5 b n h g a) = z + ∑ k : Fin 640, v (ix6 b n h g a k) :=
  congrArg (z + ·) (Finset.sum_filter_eq_sum_of_fiber _ (fun k : Fin 640 => ix6 b n h g a k)
    (fun _ _ e => congrFun e 5) (fiber_last hr b n h g a) v)

/-- A row's sum in its two parts. -/
theorem sum_both (sw : Fin 384 → EReal) (sc : Fin 256 → EReal) (f : EReal → EReal) :
    ∑ k : Fin 640, f (both sw sc k) = ∑ k, f (sw k) + ∑ k, f (sc k) := by
  refine (Fin.sum_univ_add (a := 384) (b := 256) fun k => f (both sw sc k)).trans ?_
  refine congrArg₂ (· + ·) (Finset.sum_congr rfl fun k _ => ?_) (Finset.sum_congr rfl fun k _ => ?_)
  · unfold both; rw [dif_pos (show (Fin.castAdd 256 k).val < 384 from k.isLt)]; rfl
  · unfold both
    rw [dif_neg (show ¬ (Fin.natAdd 384 k).val < 384 by simp)]
    congr 2; apply Fin.ext; simp

end

end Cert.Attention
-- ==== Proof.RefOut.lean ====
/- The reference's softmax and products, read at an index: its result is the attention of `Spec`. -/
module

public import proofs.«01_k».proof.Proof.RefScores

@[expose] public section
set_option maxRecDepth 16384
noncomputable section
namespace Cert.Attention
open Idealize.ShloMosaic Cert.ReferenceIdeal Cert.ReferenceIdeal.Read

section
variable (x0 : FVec Ideal S16384x3072 .f32) (x1 : FVec Ideal S2048x3072 .f32) (x2 : FVec Ideal S16 .f32)
  (b : Fin 8) (n : Fin 16) (h g : Fin 4) (a : Fin 128)

/-- The reduction starts from minus infinity. -/
theorem start_ref (i : S_.Idx) : val_main_cst_11 (F := Ideal) i = ⊥ := by
  have h0 := Cert.KernelIdeal.Attn.negInf
  pointwise [val_main_cst_11]
  rw [h0]

/-- The reference's row maximum, without the sink. -/
theorem rowTop_ref : val_main_v132 (F := Ideal) x0 x1 (ix5 b n h g a) = top fun k => val_main_v131 (F := Ideal) x0 x1 (ix6 b n h g a k) := by
  delta val_main_v132
  exact max_last b n h g a (val_main_v131 (F := Ideal) x0 x1) (val_main_cst_11 (F := Ideal)) start_ref _ _

/-- The sink joins the maximum. -/
theorem sinkTop_ref : val_main_v136 (F := Ideal) x0 x1 x2 (ix6 b n h g a 0)
    = max (val_main_v132 (F := Ideal) x0 x1 (ix5 b n h g a)) (at1 x2 (h.val * 4 + g.val)) := by
  have e : idx_main_v133 (ix6 b n h g a (0 : Fin 1)) = ix5 b n h g a := by funext i; fin_cases i <;> rfl
  have e0 : idx_main_v0 (idx_main_v134 (idx_main_v135 (ix6 b n h g a (0 : Fin 1)))) = ix1 (n0 := 16) ⟨h.val * 4 + g.val, by omega⟩ := by
    funext i; fin_cases i; apply Fin.ext; simp [ix6]
  rw [val_main_v136_apply, val_main_v133_apply, val_main_v135_apply, val_main_v134_apply, val_main_v0_apply, e, e0, at1_of x2 _ _ _ rfl]
  rfl

/-- The reference's row maximum. -/
theorem max_ref : val_main_v136 (F := Ideal) x0 x1 x2 (ix6 b n h g a 0) = rowMax (scoreW (at2 x0) cosR sinR b n h g a) (scoreC (at2 x0) (at2 x1) cosR sinR b n h g a) (at1 x2 (h.val * 4 + g.val)) := by
  rw [sinkTop_ref, rowTop_ref]
  unfold rowMax
  rw [← top_both]
  exact congrArg (fun f => max (top f) (at1 x2 (h.val * 4 + g.val))) (funext fun k => row_ref x0 x1 b n h g a k)

/-- The reference's weights before they are normalised. -/
theorem weight_ref (k : Fin 640) : val_main_v139 (F := Ideal) x0 x1 x2 (ix6 b n h g a k) = Ideal.exp (both (scoreW (at2 x0) cosR sinR b n h g a) (scoreC (at2 x0) (at2 x1) cosR sinR b n h g a) k - rowMax (scoreW (at2 x0) cosR sinR b n h g a) (scoreC (at2 x0) (at2 x1) cosR sinR b n h g a) (at1 x2 (h.val * 4 + g.val))) := by
  pointwise [val_main_v139, val_main_v138, val_main_v137]
  rw [row_ref, max_ref]

/-- The reference's normaliser. -/
theorem sum_ref : val_main_v146 (F := Ideal) x0 x1 x2 (ix6 b n h g a 0) = rowSum (scoreW (at2 x0) cosR sinR b n h g a) (scoreC (at2 x0) (at2 x1) cosR sinR b n h g a) (at1 x2 (h.val * 4 + g.val)) := by
  pointwise [val_main_v146, val_main_v145, val_main_v144, val_main_v143, val_main_v142, val_main_v141, val_main_v140, val_main_v0, val_main_cst_12]
  rw [sum_last, max_ref, zero_add]
  unfold rowSum
  refine congrArg₂ (· + ·) ?_ (congrArg (fun z => Ideal.exp (z - _)) (at1_of x2 _ _ _ rfl))
  rw [← sum_both (scoreW (at2 x0) cosR sinR b n h g a) (scoreC (at2 x0) (at2 x1) cosR sinR b n h g a) fun z => Ideal.exp (z - rowMax (scoreW (at2 x0) cosR sinR b n h g a) (scoreC (at2 x0) (at2 x1) cosR sinR b n h g a) (at1 x2 (h.val * 4 + g.val)))]
  exact Finset.sum_congr rfl fun k _ => weight_ref x0 x1 x2 b n h g a k

/-- Nothing is left of a masked key's weight, whatever its value. -/
theorem masked_ref (k : Fin 384) (hden : rowSum (scoreW (at2 x0) cosR sinR b n h g a) (scoreC (at2 x0) (at2 x1) cosR sinR b n h g a) (at1 x2 (h.val * 4 + g.val)) ≠ 0) (u v : EReal) (huv : seen n a k = 1#1 → u = v) :
    u * Ideal.div (Ideal.exp ((scoreW (at2 x0) cosR sinR b n h g a) k - rowMax (scoreW (at2 x0) cosR sinR b n h g a) (scoreC (at2 x0) (at2 x1) cosR sinR b n h g a) (at1 x2 (h.val * 4 + g.val)))) (rowSum (scoreW (at2 x0) cosR sinR b n h g a) (scoreC (at2 x0) (at2 x1) cosR sinR b n h g a) (at1 x2 (h.val * 4 + g.val)))
      = v * Ideal.div (Ideal.exp ((scoreW (at2 x0) cosR sinR b n h g a) k - rowMax (scoreW (at2 x0) cosR sinR b n h g a) (scoreC (at2 x0) (at2 x1) cosR sinR b n h g a) (at1 x2 (h.val * 4 + g.val)))) (rowSum (scoreW (at2 x0) cosR sinR b n h g a) (scoreC (at2 x0) (at2 x1) cosR sinR b n h g a) (at1 x2 (h.val * 4 + g.val))) := by
  by_cases hs : seen n a k = 1#1
  · rw [huv hs]
  · have hs' : ¬ seen n a k = 1 := hs
    have e : (scoreW (at2 x0) cosR sinR b n h g a) k = ⊥ := by unfold scoreW Scalar.select; rw [if_neg hs']
    rw [Ideal.div, if_neg hden, e, EReal.bot_sub]
    have e0 : Ideal.exp ⊥ = 0 := rfl
    rw [e0, zero_mul, mul_zero, mul_zero]

/-- The reference's output before its rows are flattened. -/
theorem out_block_ref (hW : ∀ k, (scoreW (at2 x0) cosR sinR b n h g a) k ≠ ⊤) (hC : ∀ k, IsReal ((scoreC (at2 x0) (at2 x1) cosR sinR b n h g a) k)) (hS : (at1 x2 (h.val * 4 + g.val)) ≠ ⊤) (d : Fin 128) :
    val_main_v155 (F := Ideal) x0 x1 x2 (ix6 b n a h g d) = out (at2 x0) (at2 x1) (at1 x2) cosR sinR b n h g a d := by
  have hden := rowSum_ne_zero (scoreW (at2 x0) cosR sinR b n h g a) (scoreC (at2 x0) (at2 x1) cosR sinR b n h g a) (at1 x2 (h.val * 4 + g.val)) hW hC hS
  pointwise [val_main_v155, val_main_v154, val_main_v153, val_main_v152, val_main_v151, val_main_v150,
    val_main_v149, val_main_v148, val_main_v147]
  unfold out attR
  refine congrArg₂ (· + ·) (Finset.sum_congr rfl fun k _ => ?_) (Finset.sum_congr rfl fun k _ => ?_)
  · rw [weight_ref, sum_ref]
    have eb : ∀ hk, both (scoreW (at2 x0) cosR sinR b n h g a) (scoreC (at2 x0) (at2 x1) cosR sinR b n h g a) ⟨k.val, hk⟩ = (scoreW (at2 x0) cosR sinR b n h g a) k := fun hk => by unfold both; rw [dif_pos k.isLt]
    rw [eb]
    exact masked_ref x0 x1 x2 b n h g a k hden _ _ fun hs =>
      valWindow_ref x0 b n k h d (Cert.KernelIdeal.Attn.seen_pos n.val a.val k.val n.isLt k.isLt hs)
  · rw [weight_ref, sum_ref]
    have eb : ∀ hk, both (scoreW (at2 x0) cosR sinR b n h g a) (scoreC (at2 x0) (at2 x1) cosR sinR b n h g a) ⟨384 + k.val, hk⟩ = (scoreC (at2 x0) (at2 x1) cosR sinR b n h g a) k := fun hk => by
      unfold both; rw [dif_neg (by simp)]; congr 1; apply Fin.ext; simp
    rw [eb, ctxVal_ref x1 b k h d]
end

/-- The reference's result, at a row and a column. -/
theorem out_ref (x0 : FVec Ideal S16384x3072 .f32) (x1 : FVec Ideal S2048x3072 .f32) (x2 : FVec Ideal S16 .f32)
    (hW : ∀ b n h g a (k : Fin 384), h < 4 → g < 4 → a < 128 → scoreW (at2 x0) cosR sinR b n h g a k ≠ ⊤)
    (hC : ∀ b n h g a (k : Fin 256), h < 4 → g < 4 → a < 128 → IsReal (scoreC (at2 x0) (at2 x1) cosR sinR b n h g a k)) (hS : ∀ i, at1 x2 i ≠ ⊤)
    (r : Fin 16384) (c : Fin 2048) :
    val_main_v157 (F := Ideal) x0 x1 x2 (ix2 r c)
      = out (at2 x0) (at2 x1) (at1 x2) cosR sinR (r.val / 2048) (r.val / 128 % 16) (c.val / 512) (c.val / 128 % 4) (r.val % 128) (c.val % 128) := by
  have hr := r.isLt; have hc := c.isLt
  have e := out_block_ref x0 x1 x2 ⟨r.val / 2048, by omega⟩ ⟨r.val / 128 % 16, by omega⟩ ⟨c.val / 512, by omega⟩
    ⟨c.val / 128 % 4, by omega⟩ ⟨r.val % 128, by omega⟩ (fun k => hW _ _ _ _ _ k (by simp only; omega) (Nat.mod_lt _ (by decide)) (Nat.mod_lt _ (by decide)))
    (fun k => hC _ _ _ _ _ k (by simp only; omega) (Nat.mod_lt _ (by decide)) (Nat.mod_lt _ (by decide))) (hS _) ⟨c.val % 128, by omega⟩
  pointwise [val_main_v157, val_main_v156]
  exact e

end Cert.Attention
-- ==== Proof.Finite.lean ====
/- What the precondition says: the queries, the keys and the context's keys are real numbers, and no sink is plus infinity. -/
module

public import proofs.«01_k».proof.Pre_scores_finite
public import proofs.«01_k».proof.Proof.Softmax
public import proofs.«01_k».proof.Proof.Spec
public import Idealize.ShloMosaic.Lib.Pointwise

@[expose] public section
set_option maxRecDepth 16384
noncomputable section
namespace Cert.Attention
open Idealize.ShloMosaic Cert.Pre_scores_finite

/-- The shape facts the predicate states. -/
theorem finiteFacts : Cert.Pre_scores_finite.Facts where
  slices_S16384x3072_S16384x2560_0_0 := by decide
  bcast_S_S16384x2560 := by decide
  slices_S2048x3072_S2048x512_0_2048 := by decide
  bcast_S_S2048x512 := by decide
  bcast_S_S16 := by decide

/-- The float `0x7F800000` is plus infinity. -/
theorem posInf : Ideal.ofBits .f32 0x7F800000#32 = ⊤ := by simp [Ideal.ofBits, Ideal.ieee]

/-- A comparison that came out true. -/
theorem lt_of_bit (x y : EReal) (h : BitVec.ofBool (decide (x < y)) = 1#1) : x < y := by
  by_contra hn
  rw [decide_eq_false hn] at h
  exact absurd h (by decide)

/-- A number whose absolute value is below plus infinity is real. -/
theorem real_of_abs (x : EReal) (h : FloatOps.absf (F := Ideal) (φ := .f32) x < (⊤ : EReal)) : IsReal x := by
  refine ⟨fun e => ?_, fun e => ?_⟩
  · subst e; exact absurd h (by show ¬ (max (⊥ : EReal) (-⊥) < ⊤); simp)
  · subst e; exact absurd h (by show ¬ (max (⊤ : EReal) (-⊤) < ⊤); simp)

variable [Cert.Pre_scores_finite.Facts] (x0 : FVec Ideal S16384x3072 .f32) (x1 : FVec Ideal S2048x3072 .f32) (x2 : FVec Ideal S16 .f32)

/-- The queries and the keys are real. -/
theorem finite_query (h : (fn (F := Ideal) x0 x1 x2).1 = fun _ => 1#1) (r : Fin 16384) (k : Fin 2560) :
    IsReal (x0 (ix2 r ⟨k.val, by omega⟩)) := by
  have e := congrFun h (ix2 r k)
  have hi := posInf
  unfold fn at e
  dsimp only at e
  revert e
  pointwise
  rw [hi]
  exact fun e => real_of_abs _ (lt_of_bit _ _ e)

/-- The context's keys are real. -/
theorem finite_ctx (h : (fn (F := Ideal) x0 x1 x2).2.1 = fun _ => 1#1) (r : Fin 2048) (k : Fin 512) :
    IsReal (x1 (ix2 r ⟨2048 + k.val, by omega⟩)) := by
  have e := congrFun h (ix2 r k)
  have hi := posInf
  unfold fn at e
  dsimp only at e
  revert e
  pointwise
  rw [hi]
  exact fun e => real_of_abs _ (lt_of_bit _ _ e)

/-- No sink is plus infinity. -/
theorem finite_sink (h : (fn (F := Ideal) x0 x1 x2).2.2 = fun _ => 1#1) (r : Fin 16) :
    x2 (ix1 r) ≠ ⊤ := by
  have e := congrFun h (ix1 r)
  have hi := posInf
  unfold fn at e
  dsimp only at e
  revert e
  pointwise
  rw [hi]
  exact fun e => (lt_of_bit _ _ e).ne
end Cert.Attention
-- ==== Proof.Qkv.lean ====
/- The projection to queries, keys and values: the array the kernel leaves, block by block, is the reference's product. -/
module

public import proofs.«01_k».proof.Proof.Gen.Kernel2Ideal.Value
public import proofs.«01_k».proof.Proof.Gen.Reference2Ideal.Read
public import Idealize.ShloMosaic.Lib.Pipeline.ValueKit

@[expose] public section
set_option maxRecDepth 16384
noncomputable section
namespace Cert.Kernel2Ideal.Product
open Idealize.ShloMosaic Idealize.ShloMosaic.TcCoe Cert.Kernel2Ideal Cert.Kernel2Ideal.Gen

variable (m : (ℓ : Loc nD τ sig) → Buf (Elt Ideal) ℓ) (c : Dev nD)

/-- Where the windows stand at a grid point. -/
theorem place : ∀ t : Fin cfg0.N, win0_0.index t = ![(grid0.coords t 0).val, 0] ∧ win0_1.index t = ![0, (grid0.coords t 1).val]
    ∧ win0_2.index t = ![(grid0.coords t 0).val, (grid0.coords t 1).val] :=
  (by decide +kernel : ∀ t : Fin grid0.N, win0_0.index t = ![(grid0.coords t 0).val, 0] ∧ win0_1.index t = ![0, (grid0.coords t 1).val]
    ∧ win0_2.index t = ![(grid0.coords t 0).val, (grid0.coords t 1).val])

/-- The kernel's array is the reference's. -/
theorem array : (dats m 0 c).arrAt 2 cfg0.N
    = Cert.Reference2Ideal.Read.val_main_v2 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [Cert.Reference2Ideal.Read.val_main_v2_apply, Cert.Reference2Ideal.Read.val_main_v1_apply]
  simp only [Cert.Reference2Ideal.Read.val_main_v0_apply]
  pointwise [k0_pay1]
  obtain ⟨e0, e1, e2⟩ := place t
  have h0 : (grid0.coords t 0).val < 16 := (grid0.coords t 0).isLt
  have h1 : (grid0.coords t 1).val < 3 := (grid0.coords t 1).isLt
  blk_point [iblk, V, e0, e1, e2]
  all_goals omega

end Cert.Kernel2Ideal.Product
end
-- ==== Proof.Query.lean ====
/- The projection to the experts' queries: the array the kernel leaves, block by block, is the reference's product, rounded once as the reference rounds it. -/
module

public import proofs.«01_k».proof.Proof.Gen.Kernel3Ideal.Value
public import proofs.«01_k».proof.Proof.Gen.Reference3Ideal.Read
public import Idealize.ShloMosaic.Lib.Pipeline.ValueKit

@[expose] public section
set_option maxRecDepth 16384
noncomputable section
namespace Cert.Kernel3Ideal.Product
open Idealize.ShloMosaic Idealize.ShloMosaic.TcCoe Cert.Kernel3Ideal Cert.Kernel3Ideal.Gen

variable (m : (ℓ : Loc nD τ sig) → Buf (Elt Ideal) ℓ) (c : Dev nD)

/-- Where the windows stand at a grid point. -/
theorem place : ∀ t : Fin cfg0.N, win0_0.index t = ![(grid0.coords t 0).val, 0] ∧ win0_1.index t = ![0, (grid0.coords t 1).val]
    ∧ win0_2.index t = ![(grid0.coords t 0).val, (grid0.coords t 1).val] :=
  (by decide +kernel : ∀ t : Fin grid0.N, win0_0.index t = ![(grid0.coords t 0).val, 0] ∧ win0_1.index t = ![0, (grid0.coords t 1).val]
    ∧ win0_2.index t = ![(grid0.coords t 0).val, (grid0.coords t 1).val])

/-- The kernel's array is the reference's. -/
theorem array : (dats m 0 c).arrAt 2 cfg0.N
    = Cert.Reference3Ideal.Read.val_main_v3 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [Cert.Reference3Ideal.Read.val_main_v3_apply, Cert.Reference3Ideal.Read.val_main_v2_apply, Cert.Reference3Ideal.Read.val_main_v1_apply]
  simp only [Cert.Reference3Ideal.Read.val_main_v0_apply]
  pointwise [k0_pay1]
  obtain ⟨e0, e1, e2⟩ := place t
  have h0 : (grid0.coords t 0).val < 16 := (grid0.coords t 0).isLt
  have h1 : (grid0.coords t 1).val < 2 := (grid0.coords t 1).isLt
  blk_point [iblk, V, e0, e1, e2]
  all_goals omega

end Cert.Kernel3Ideal.Product
end
-- ==== Proof.OutProj.lean ====
/- The output projection with its gated residual: the array the kernel leaves, block by block, is the reference's. -/
module

public import proofs.«01_k».proof.Proof.Gen.Kernel4Ideal.Value
public import proofs.«01_k».proof.Proof.Gen.Reference4Ideal.Read
public import Idealize.ShloMosaic.Lib.Pipeline.ValueKit

@[expose] public section
set_option maxRecDepth 16384
noncomputable section
namespace Cert.Kernel4Ideal.Product
open Idealize.ShloMosaic Idealize.ShloMosaic.TcCoe Cert.Kernel4Ideal Cert.Kernel4Ideal.Gen
open Cert.Reference4Ideal.Read

variable (m : (ℓ : Loc nD τ sig) → Buf (Elt Ideal) ℓ) (c : Dev nD)

/-- Where the windows stand at a grid point. The gate is the third of a batch's six rows of modulation. -/
theorem place : ∀ t : Fin cfg0.N, win0_0.index t = ![(grid0.coords t 0).val, 0] ∧ win0_1.index t = ![0, (grid0.coords t 1).val]
    ∧ win0_2.index t = ![(grid0.coords t 0).val, (grid0.coords t 1).val]
    ∧ win0_3.index t = ![(grid0.coords t 0).val / 2, 0, 4 + (grid0.coords t 1).val]
    ∧ win0_4.index t = ![(grid0.coords t 0).val, (grid0.coords t 1).val] :=
  (by decide +kernel : ∀ t : Fin grid0.N, win0_0.index t = ![(grid0.coords t 0).val, 0] ∧ win0_1.index t = ![0, (grid0.coords t 1).val]
    ∧ win0_2.index t = ![(grid0.coords t 0).val, (grid0.coords t 1).val]
    ∧ win0_3.index t = ![(grid0.coords t 0).val / 2, 0, 4 + (grid0.coords t 1).val]
    ∧ win0_4.index t = ![(grid0.coords t 0).val, (grid0.coords t 1).val])

/-- The kernel's array is the reference's. -/
theorem array : (dats m 0 c).arrAt 4 cfg0.N
    = val_main_v13 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t hf y => ?_
  blk_simp
  rw [after0_4]
  frame_out
  rw [val_main_v13_apply, val_main_v12_apply, val_main_v11_apply, val_main_v9_apply, val_main_v10_apply, val_main_v5_apply,
    val_main_v2_apply, val_main_v1_apply]
  simp only [val_main_v0_apply]
  pointwise [k0_pay1]
  obtain ⟨e0, e1, e2, e3, e4⟩ := place t
  have h0 : (grid0.coords t 0).val < 16 := (grid0.coords t 0).isLt
  have h1 : (grid0.coords t 1).val < 2 := (grid0.coords t 1).isLt
  blk_point [iblk, V, e0, e1, e2, e3, e4]
  all_goals omega

end Cert.Kernel4Ideal.Product
end
-- ==== Proof.HyenaIn.lean ====
/- The Hyena operator's input projection with its short convolution: the array the kernel leaves is the reference's. -/
module

public import proofs.«01_k».proof.Proof.Gen.Kernel5Ideal.Value
public import proofs.«01_k».proof.Proof.Gen.Reference5Ideal.Read
public import Idealize.ShloMosaic.Lib.Pipeline.ValueKit
public import Idealize.ShloMosaic.Lib.KernelVsHost

@[expose] public section
set_option maxRecDepth 16384
noncomputable section
namespace Cert.Kernel5Ideal.Product
open Idealize.ShloMosaic Idealize.ShloMosaic.TcCoe Cert.Kernel5Ideal Cert.Kernel5Ideal.Gen
open Cert.Reference5Ideal.Read

variable (m : (ℓ : Loc nD τ sig) → Buf (Elt Ideal) ℓ) (c : Dev nD)

/-- Where the windows stand at a grid point. -/
theorem place : ∀ t : Fin cfg0.N, win0_0.index t = ![(grid0.coords t 0).val, 0] ∧ win0_1.index t = ![0, (grid0.coords t 1).val]
    ∧ win0_2.index t = ![0, (grid0.coords t 1).val] ∧ win0_3.index t = ![0, (grid0.coords t 1).val]
    ∧ win0_4.index t = ![(grid0.coords t 0).val, (grid0.coords t 1).val] :=
  (by decide +kernel : ∀ t : Fin grid0.N, win0_0.index t = ![(grid0.coords t 0).val, 0] ∧ win0_1.index t = ![0, (grid0.coords t 1).val]
    ∧ win0_2.index t = ![0, (grid0.coords t 1).val] ∧ win0_3.index t = ![0, (grid0.coords t 1).val]
    ∧ win0_4.index t = ![(grid0.coords t 0).val, (grid0.coords t 1).val])

/-- A choice by whether a row of the block is row `k`, as a choice between numbers. -/
theorem pick {α : Type} (n : Nat) (hn : n < 2048) (k : Nat) (hk : k < 2048) (a b : α) :
    Scalar.select (IntOp.cmpi .eq (IntOp.andi (BitVec.ofNat 32 n) 2047#32) (BitVec.ofNat 32 k)) a b = if n = k then a else b := by
  have e : IntOp.andi (BitVec.ofNat 32 n) 2047#32 = BitVec.ofNat 32 n := by
    apply BitVec.eq_of_toNat_eq
    unfold IntOp.andi
    rw [BitVec.toNat_and, BitVec.toNat_ofNat, BitVec.toNat_ofNat, Nat.mod_eq_of_lt (show n < 2 ^ 32 by omega),
      show 2047 % 2 ^ 32 = 2 ^ 11 - 1 from rfl, Nat.and_two_pow_sub_one_eq_mod]
    exact Nat.mod_eq_of_lt hn
  have e2 : (BitVec.ofNat 32 n == BitVec.ofNat 32 k) = decide (n = k) := by
    rw [Bool.eq_iff_iff, beq_iff_eq, decide_eq_true_iff]
    refine ⟨fun h => ?_, fun h => by rw [h]⟩
    have h' := congrArg BitVec.toNat h
    rw [BitVec.toNat_ofNat, BitVec.toNat_ofNat, Nat.mod_eq_of_lt (show n < 2 ^ 32 by omega), Nat.mod_eq_of_lt (show k < 2 ^ 32 by omega)] at h'
    exact h'
  unfold Scalar.select IntOp.cmpi
  rw [e, e2]
  by_cases h : n = k <;> simp [h]

/-- The reference's padded products, read between the two rows of padding. -/
theorem padded_inner (x0 : (⟨Cert.Reference5Ideal.S16384x2048, .bf16⟩ : BufTy).Contents (Elt Ideal)) (x1 : (⟨Cert.Reference5Ideal.S2048x6144, .bf16⟩ : BufTy).Contents (Elt Ideal))
    (j : Cert.Reference5Ideal.S8x2050x6144.Idx) (h1 : 1 ≤ (j 1).val) (h2 : (j 1).val ≤ 2048) :
    val_main_v2 (F := Ideal) x0 x1 j = val_main_v1 (F := Ideal) x0 x1
      (ix3 (n0 := 8) (n1 := 2048) (n2 := 6144) ⟨(j 0).val, (j 0).isLt⟩ ⟨(j 1).val - 1, by omega⟩ ⟨(j 2).val, (j 2).isLt⟩) := by
  unfold val_main_v2
  refine pad_apply_of_inside _ _ _ _ _ _ _ j _ fun a => ?_
  match a with
  | ⟨0, _⟩ => show (j 0).val = 0 + (j 0).val * (0 + 1); omega
  | ⟨1, _⟩ => show (j 1).val = 1 + ((j 1).val - 1) * (0 + 1); omega
  | ⟨2, _⟩ => show (j 2).val = 0 + (j 2).val * (0 + 1); omega

/-- The reference's padded products in a row of padding: zero. -/
theorem padded_edge (x0 : (⟨Cert.Reference5Ideal.S16384x2048, .bf16⟩ : BufTy).Contents (Elt Ideal)) (x1 : (⟨Cert.Reference5Ideal.S2048x6144, .bf16⟩ : BufTy).Contents (Elt Ideal))
    (j : Cert.Reference5Ideal.S8x2050x6144.Idx) (h : (j 1).val = 0 ∨ (j 1).val = 2049) :
    val_main_v2 (F := Ideal) x0 x1 j = 0 := by
  unfold val_main_v2
  refine (pad_apply_of_not_inside _ _ _ _ _ _ _ j (1 : Fin 3) ?_).trans ?_
  · show ¬(1 ≤ (j 1).val ∧ ((j 1).val - 1) % (0 + 1) = 0 ∧ ((j 1).val - 1) / (0 + 1) < 2048)
    omega
  · show Ideal.ofBits .f32 0x00000000#32 = 0
    exact Ideal.ofBits_zero_f32

/-- A row of the block of inputs: a position of one batch. -/
theorem read_a (t : Fin cfg0.N) (p k : Nat) (hp : p < 2048) (hk : k < 2048) (i : S16384x2048.Idx)
    (hi : (i 0).val = (grid0.coords t 0).val * 2048 + p ∧ (i 1).val = k) :
    iblk m c 0 t (ix2 (n0 := 2048) (n1 := 2048) ⟨p, hp⟩ ⟨k, hk⟩) = m ((c : Thread nD τ).loc main_arg0) i := by
  obtain ⟨e0, e1, e2, e3, e4⟩ := place t
  obtain ⟨hi0, hi1⟩ := hi
  blk_point [iblk, V, e0]
  all_goals omega

/-- A column of the block of weights. -/
theorem read_w (t : Fin cfg0.N) (k q : Nat) (hk : k < 2048) (hq : q < 256) (i : S2048x6144.Idx)
    (hi : (i 0).val = k ∧ (i 1).val = (grid0.coords t 1).val * 256 + q) :
    iblk m c 1 t (ix2 (n0 := 2048) (n1 := 256) ⟨k, hk⟩ ⟨q, hq⟩) = m ((c : Thread nD τ).loc main_arg1) i := by
  obtain ⟨e0, e1, e2, e3, e4⟩ := place t
  obtain ⟨hi0, hi1⟩ := hi
  blk_point [iblk, V, e1]
  all_goals omega

/-- A column of the block of the convolution's weights. -/
theorem read_cw (t : Fin cfg0.N) (k q : Nat) (hk : k < 3) (hq : q < 256) (i : S3x6144.Idx)
    (hi : (i 0).val = k ∧ (i 1).val = (grid0.coords t 1).val * 256 + q) :
    iblk m c 2 t (ix2 (n0 := 3) (n1 := 256) ⟨k, hk⟩ ⟨q, hq⟩) = m ((c : Thread nD τ).loc main_arg2) i := by
  obtain ⟨e0, e1, e2, e3, e4⟩ := place t
  obtain ⟨hi0, hi1⟩ := hi
  blk_point [iblk, V, e2]
  all_goals omega

/-- A column of the block of the convolution's bias. -/
theorem read_cb (t : Fin cfg0.N) (q : Nat) (hq : q < 256) (i : S6144.Idx)
    (hi : (i 0).val = (grid0.coords t 1).val * 256 + q) :
    iblk m c 3 t (ix2 (n0 := 1) (n1 := 256) 0 ⟨q, hq⟩) = m ((c : Thread nD τ).loc main_arg3) i := by
  obtain ⟨e0, e1, e2, e3, e4⟩ := place t
  blk_point [iblk, V, e3]
  all_goals omega

/-- The kernel's products at a position of the block, as the reference's products at that position of the batch. -/
theorem products (t : Fin cfg0.N) (p q : Nat) (hp : p < 2048) (hq : q < 256) (i : Cert.Reference5Ideal.S8x2048x6144.Idx)
    (hi : (i 0).val = (grid0.coords t 0).val ∧ (i 1).val = p ∧ (i 2).val = (grid0.coords t 1).val * 256 + q) :
    (Finset.univ.sum fun k : Fin 2048 => @HMul.hMul EReal EReal EReal _ (iblk m c 0 t (ix2 (n0 := 2048) (n1 := 2048) ⟨p, hp⟩ k)) (iblk m c 1 t (ix2 (n0 := 2048) (n1 := 256) k ⟨q, hq⟩)))
      = val_main_v1 (F := Ideal) (m ((c : Thread nD τ).loc main_arg0)) (m ((c : Thread nD τ).loc main_arg1)) i := by
  obtain ⟨hi0, hi1, hi2⟩ := hi
  have hd : (grid0.coords t 0).val < 8 := (grid0.coords t 0).isLt
  rw [val_main_v1_apply]
  refine Finset.sum_congr rfl fun k _ => ?_
  have hk := k.isLt
  rw [val_main_v0_apply]
  refine congrArg₂ (fun x y : EReal => x * y) (read_a m c t p k.val hp hk _ ⟨?_, ?_⟩) (read_w m c t k.val q hk hq _ ⟨?_, ?_⟩)
  · show (((i 0).val * 2048 + (i 1).val) * 2048 + k.val) / 2048 = _
    omega
  · show (((i 0).val * 2048 + (i 1).val) * 2048 + k.val) % 2048 = _
    omega
  · rfl
  · exact hi2

/-- The kernel's array is the reference's. -/
theorem array : (dats m 0 c).arrAt 4 cfg0.N
    = val_main_v26 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t hf y => ?_
  blk_simp
  rw [after0_4]
  frame_out
  rw [val_main_v26_apply, val_main_v25_apply, val_main_v24_apply, val_main_v18_apply, val_main_v17_apply, val_main_v11_apply,
    val_main_v8_apply, val_main_v10_apply, val_main_v9_apply, val_main_v7_apply, val_main_v6_apply, val_main_v5_apply, val_main_v4_apply,
    val_main_v16_apply, val_main_v15_apply, val_main_v14_apply, val_main_v13_apply,
    val_main_v23_apply, val_main_v22_apply, val_main_v21_apply, val_main_v20_apply,
    val_main_v3_apply, val_main_v12_apply, val_main_v19_apply]
  pointwise [k0_pay1]
  obtain ⟨e0, e1, e2, e3, e4⟩ := place t
  have h0 : (grid0.coords t 0).val < 8 := (grid0.coords t 0).isLt
  have h1 : (grid0.coords t 1).val < 24 := (grid0.coords t 1).isLt
  have hy : (y 0).val < 2048 := (y 0).isLt
  have hz : (y 1).val < 256 := (y 1).isLt
  have r0 : ((((View.whole main_v1).slice (win0_4.rect t)).emb y) 0).val = (grid0.coords t 0).val * 2048 + (y 0).val := by
    blk_point [e4]
  have r1 : ((((View.whole main_v1).slice (win0_4.rect t)).emb y) 1).val = (grid0.coords t 1).val * 256 + (y 1).val := by
    blk_point [e4]
  generalize ((View.whole main_v1).slice (win0_4.rect t)).emb y = z at r0 r1 ⊢
  have u0 : (idx_main_v26 z 0).val = (grid0.coords t 0).val := by
    show ((z 0).val * 6144 + (z 1).val) / 12582912 = _
    omega
  have u1 : (idx_main_v26 z 1).val = (y 0).val := by
    show ((z 0).val * 6144 + (z 1).val) / 6144 % 2048 = _
    omega
  have u2 : (idx_main_v26 z 2).val = (grid0.coords t 1).val * 256 + (y 1).val := by
    show ((z 0).val * 6144 + (z 1).val) % 6144 = _
    omega
  generalize idx_main_v26 z = u at u0 u1 u2 ⊢
  have hu : (u 2).val < 6144 := (u 2).isLt
  rw [pick (y 0).val hy 0 (by omega), pick (y 0).val hy 2047 (by omega)]
  refine congrArg₂ (fun x y : EReal => x + y) (congrArg₂ (fun x y : EReal => x + y) (congrArg₂ (fun x y : EReal => x + y) ?_ ?_) ?_) ?_
  · exact read_cb m c t _ hz _ u2
  · split
    · rw [padded_edge _ _ _ (Or.inl ?_), zero_mul]
      show (u 1).val = 0
      omega
    · rw [padded_inner _ _ _ ?_ ?_]
      · refine congrArg₂ (fun x y : EReal => x * y) (products m c t _ _ _ hz _ ⟨u0, ?_, u2⟩) (read_cw m c t 0 _ (by omega) hz _ ⟨rfl, ?_⟩)
        · show (u 1).val - 1 = _
          omega
        · show (u 2).val % 6144 = _
          omega
      · show 1 ≤ (u 1).val
        omega
      · show (u 1).val ≤ 2048
        omega
  · rw [padded_inner _ _ _ ?_ ?_]
    · refine congrArg₂ (fun x y : EReal => x * y) (products m c t _ _ hy hz _ ⟨u0, ?_, u2⟩) (read_cw m c t 1 _ (by omega) hz _ ⟨rfl, ?_⟩)
      · show 1 + (u 1).val - 1 = _
        omega
      · show (u 2).val % 6144 = _
        omega
    · show 1 ≤ 1 + (u 1).val
      omega
    · show 1 + (u 1).val ≤ 2048
      omega
  · split
    · rw [padded_edge _ _ _ (Or.inr ?_), zero_mul]
      show 2 + (u 1).val = 2049
      omega
    · rw [padded_inner _ _ _ ?_ ?_]
      · refine congrArg₂ (fun x y : EReal => x * y) (products m c t _ _ _ hz _ ⟨u0, ?_, u2⟩) (read_cw m c t 2 _ (by omega) hz _ ⟨rfl, ?_⟩)
        · show 2 + (u 1).val - 1 = _
          omega
        · show (u 2).val % 6144 = _
          omega
      · show 1 ≤ 2 + (u 1).val
        omega
      · show 2 + (u 1).val ≤ 2048
        omega

end Cert.Kernel5Ideal.Product
end
-- ==== Proof.FinalNorm.lean ====
/- The last norm: the array the kernel leaves, split into batches, is the reference's result. -/
module

public import proofs.«01_k».proof.Proof.Gen.Kernel6Ideal.Frame
public import proofs.«01_k».proof.Proof.Gen.Reference6Ideal.Read
public import Idealize.ShloMosaic.Lib.Pipeline.ValueKit
public import Idealize.ShloMosaic.Lib.KernelVsHost

@[expose] public section
set_option maxRecDepth 16384
noncomputable section
namespace Cert.Kernel6Ideal.Norm
open Idealize.ShloMosaic Idealize.ShloMosaic.TcCoe Idealize.SL.Sem Cert.Kernel6Ideal Cert.Kernel6Ideal.Gen
open Cert.Reference6Ideal.Read

variable (m : (ℓ : Loc nD τ sig) → Buf (Elt Ideal) ℓ) (ρ : Dev nD → PrngReg) (c : Dev nD)

/-- Where the windows stand at a grid point. -/
theorem place : ∀ t : Fin cfg0.N, win0_0.index t = ![(grid0.coords t 0).val, 0] ∧ win0_1.index t = ![0, 0]
    ∧ win0_2.index t = ![(grid0.coords t 0).val, 0] :=
  (by decide +kernel : ∀ t : Fin grid0.N, win0_0.index t = ![(grid0.coords t 0).val, 0] ∧ win0_1.index t = ![0, 0]
    ∧ win0_2.index t = ![(grid0.coords t 0).val, 0])

/-- A row of all tokens, as a position of a batch. -/
def split (z : S16384x2048.Idx) : S8x2048x2048.Idx :=
  ix3 (n0 := 8) (n1 := 2048) (n2 := 2048) ⟨(z 0).val / 2048, by have h : (z 0).val < 16384 := (z 0).isLt; omega⟩
    ⟨(z 0).val % 2048, Nat.mod_lt _ (by omega)⟩ ⟨(z 1).val, (z 1).isLt⟩

/-- A row of the block of latents. -/
theorem read_a (t : Fin cfg0.N) (p k : Nat) (hp : p < 256) (hk : k < 2048) (i : S16384x2048.Idx)
    (hi : (i 0).val = (grid0.coords t 0).val * 256 + p ∧ (i 1).val = k) :
    iblk m c 0 t (ix2 (n0 := 256) (n1 := 2048) ⟨p, hp⟩ ⟨k, hk⟩) = m ((c : Thread nD τ).loc main_arg0) i := by
  obtain ⟨e0, e1, e2⟩ := place t
  obtain ⟨hi0, hi1⟩ := hi
  blk_point [iblk, V, e0]
  all_goals omega

/-- The gain as the kernel's call gets it, a single row. -/
theorem gain (i : S1x2048.Idx) : StableHlo.after [hostOps0].flatten (fun b => m (c, b)) (Proc.tc.devRef main_v0) i
    = m ((c : Thread nD τ).loc main_arg1) (ix1 (n0 := 2048) ⟨(i 1).val, (i 1).isLt⟩) := by
  have e : StableHlo.after hostOps0 (fun b => m (c, b)) (Proc.tc.devRef main_v0)
      = shapeCast S1x2048 (m ((c : Thread nD τ).loc main_arg1)) shapeCasts_S2048_S1x2048 := by
    after_results <;> rfl
  have h0 : (i 0).val < 1 := (i 0).isLt
  refine (congrFun e i).trans ?_
  refine shapeCast_apply _ shapeCasts_S2048_S1x2048 i _ ?_
  rewrite [Shape.rowMajor_val_one, Shape.rowMajor_val_two]
  show (i 1).val = (i 0).val * 2048 + (i 1).val
  omega

/-- An entry of the gain. -/
theorem read_g (t : Fin cfg0.N) (k : Nat) (hk : k < 2048) (i : S2048.Idx) (hi : (i 0).val = k) :
    iblk m c 1 t (ix2 (n0 := 1) (n1 := 2048) 0 ⟨k, hk⟩) = m ((c : Thread nD τ).loc main_arg1) i := by
  obtain ⟨e0, e1, e2⟩ := place t
  refine (gain m c ((win0_1.blk t).view.emb (ix2 0 ⟨k, hk⟩))).trans ?_
  blk_point [e1]
  all_goals omega

/-- The kernel's array, row by row, is the reference's result. -/
theorem array : (dats m 0 c).arrAt 2 cfg0.N
    = fun z => val_main_v13 (F := Ideal) (m ((c : Thread nD τ).loc main_arg0)) (m ((c : Thread nD τ).loc main_arg1)) (split z) := by
  refine (dats m 0 c).arrAt_eq_of_covers 2 _ (by decide +kernel) fun t hf y => ?_
  blk_simp
  rw [after0_2]
  frame_out
  rw [val_main_v13_apply, val_main_v12_apply, val_main_v11_apply, val_main_v10_apply, val_main_v9_apply, val_main_v8_apply,
    val_main_v7_apply, val_main_v6_apply, val_main_v5_apply, val_main_v4_apply, val_main_v3_apply, val_main_v2_apply,
    val_main_cst_1_apply, val_main_cst_0_apply, val_main_cst_apply]
  simp only [val_main_v1_apply, val_main_v0_apply]
  pointwise [k0_pay1]
  obtain ⟨e0, e1, e2⟩ := place t
  have h0 : (grid0.coords t 0).val < 64 := (grid0.coords t 0).isLt
  have hy : (y 0).val < 256 := (y 0).isLt
  have hz : (y 1).val < 2048 := (y 1).isLt
  have r0 : ((((View.whole main_v1).slice (win0_2.rect t)).emb y) 0).val = (grid0.coords t 0).val * 256 + (y 0).val := by
    blk_point [e2]
  have r1 : ((((View.whole main_v1).slice (win0_2.rect t)).emb y) 1).val = (y 1).val := by
    blk_point [e2]
  generalize ((View.whole main_v1).slice (win0_2.rect t)).emb y = z at r0 r1 ⊢
  have row : ∀ k : Fin 2048, iblk m c 0 t (ix2 (n0 := 256) (n1 := 2048) ⟨(y 0).val, hy⟩ k)
      = m ((c : Thread nD τ).loc main_arg0) (idx_main_v0 (idx_main_v2 (idx_main_v3 (idx_main_v9 (split z))) k)) := by
    intro k
    have hk := k.isLt
    refine read_a m c t _ k.val hy hk _ ⟨?_, ?_⟩
    · show (((z 0).val / 2048 * 2048 + (z 0).val % 2048) * 2048 + k.val) / 2048 = _
      omega
    · show (((z 0).val / 2048 * 2048 + (z 0).val % 2048) * 2048 + k.val) % 2048 = _
      omega
  have own : iblk m c 0 t y = m ((c : Thread nD τ).loc main_arg0) (idx_main_v0 (split z)) := by
    refine Eq.trans (congrArg _ (ix2_eta y).symm) (read_a m c t (y 0).val (y 1).val hy hz _ ⟨?_, ?_⟩)
    · show (((z 0).val / 2048 * 2048 + (z 0).val % 2048) * 2048 + (z 1).val) / 2048 = _
      omega
    · show (((z 0).val / 2048 * 2048 + (z 0).val % 2048) * 2048 + (z 1).val) % 2048 = _
      omega
  have squares := Finset.sum_congr (rfl : (Finset.univ : Finset (Fin 2048)) = Finset.univ)
    fun k _ => congrArg (fun x : EReal => x * x) (row k)
  exact congrArg₂ (fun x y : EReal => x * y)
    (congrArg₂ (fun x y : EReal => x * Ideal.rsqrt (Ideal.div y (Ideal.ofBits .f32 1157627904#32) + Ideal.ofBits .f32 897988541#32)) own squares)
    (read_g m c t (y 1).val hz _ r1)

/-- The array split into batches. -/
theorem result : Pipeline.afterTail₀ cfgs (dats m) 0 (V0 m) [hostOps1] c main_v2
    = val_main_v13 (F := Ideal) (m ((c : Thread nD τ).loc main_arg0)) (m ((c : Thread nD τ).loc main_arg1)) := by
  have e : Pipeline.afterTail₀ cfgs (dats m) 0 (V0 m) [hostOps1] c main_v2
      = shapeCast S8x2048x2048 ((dats m 0 c).arrAt 2 cfg0.N) shapeCasts_S16384x2048_S8x2048x2048 := by
    unfold Pipeline.afterTail₀
    refine Eq.trans (b := shapeCast S8x2048x2048 (Pipeline.withArrays (cfgs 0).spec c (V0 m c) (fun w => (dats m 0 c).arrAt w (cfgs 0).N) (Proc.devRef .tc main_v1)) shapeCasts_S16384x2048_S8x2048x2048) ?_ ?_
    · after_results <;> rfl
    · exact congrArg (fun x => shapeCast S8x2048x2048 x shapeCasts_S16384x2048_S8x2048x2048)
        (Pipeline.withArrays_arr (cfgs 0).spec (by decide) c (V0 m c) (fun w => (dats m 0 c).arrAt w (cfgs 0).N) 2)
  rw [e, array]
  funext i
  have h0 : (i 0).val < 8 := (i 0).isLt
  have h1 : (i 1).val < 2048 := (i 1).isLt
  have h2 : (i 2).val < 2048 := (i 2).isLt
  rw [shapeCast_apply _ shapeCasts_S16384x2048_S8x2048x2048 i (ix2 (n0 := 16384) (n1 := 2048) ⟨(i 0).val * 2048 + (i 1).val, by omega⟩ ⟨(i 2).val, h2⟩)
    (by rewrite [Shape.rowMajor_val_two, Shape.rowMajor_val_three]; rfl)]
  refine congrArg _ (funext fun a => Fin.ext ?_)
  match a with
  | ⟨0, _⟩ => show ((i 0).val * 2048 + (i 1).val) / 2048 = (i 0).val; omega
  | ⟨1, _⟩ => show ((i 0).val * 2048 + (i 1).val) % 2048 = (i 1).val; omega
  | ⟨2, _⟩ => rfl

/-- The kernel's run: its result and its arguments. -/
theorem run : θ_run defs (onTc (τ := τ) (main (F := Ideal))) ⟨m, fun _ => 0, ρ⟩ fun r => ∀ c : Dev nD,
      r.2.mem ((c.tc : Thread nD τ).loc main_v2)
        = val_main_v13 (F := Ideal) (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h.1 c).2 main_v2 (Pipeline.mem_restRefs_of main_v2 (by decide) (by decide))).trans (result m c), h.2 c⟩)
    (θ_run_and (run_main m ρ) (unchanged m ρ))

end Cert.Kernel6Ideal.Norm
end
-- ==== Proof.Modulate.lean ====
/- The norm with modulation: the array the kernel leaves, block by block, is the reference's, rounded once as the reference rounds it. -/
module

public import proofs.«01_k».proof.Proof.Gen.Kernel7Ideal.Value
public import proofs.«01_k».proof.Proof.Gen.Reference7Ideal.Read
public import Idealize.ShloMosaic.Lib.Pipeline.ValueKit

@[expose] public section
set_option maxRecDepth 16384
noncomputable section
namespace Cert.Kernel7Ideal.Norm
open Idealize.ShloMosaic Idealize.ShloMosaic.TcCoe Cert.Kernel7Ideal Cert.Kernel7Ideal.Gen
open Cert.Reference7Ideal.Read

variable (m : (ℓ : Loc nD τ sig) → Buf (Elt Ideal) ℓ) (c : Dev nD)

/-- Where the windows stand at a grid point. Shift and scale are the first two of a batch's six rows of modulation. -/
theorem place : ∀ t : Fin cfg0.N, win0_0.index t = ![(grid0.coords t 0).val, 0] ∧ win0_1.index t = ![0, 0]
    ∧ win0_2.index t = ![(grid0.coords t 0).val / 8, 0, 0] ∧ win0_3.index t = ![(grid0.coords t 0).val / 8, 0, 1]
    ∧ win0_4.index t = ![(grid0.coords t 0).val, 0] :=
  (by decide +kernel : ∀ t : Fin grid0.N, win0_0.index t = ![(grid0.coords t 0).val, 0] ∧ win0_1.index t = ![0, 0]
    ∧ win0_2.index t = ![(grid0.coords t 0).val / 8, 0, 0] ∧ win0_3.index t = ![(grid0.coords t 0).val / 8, 0, 1]
    ∧ win0_4.index t = ![(grid0.coords t 0).val, 0])

/-- A row of the block of latents. -/
theorem read_a (t : Fin cfg0.N) (p k : Nat) (hp : p < 256) (hk : k < 2048) (i : S16384x2048.Idx)
    (hi : (i 0).val = (grid0.coords t 0).val * 256 + p ∧ (i 1).val = k) :
    iblk m c 0 t (ix2 (n0 := 256) (n1 := 2048) ⟨p, hp⟩ ⟨k, hk⟩) = m ((c : Thread nD τ).loc main_arg0) i := by
  obtain ⟨e0, e1, e2, e3, e4⟩ := place t
  obtain ⟨hi0, hi1⟩ := hi
  blk_point [iblk, V, e0]
  all_goals omega

/-- The gain as the kernel's call gets it, a single row. -/
theorem gain (i : S1x2048.Idx) : StableHlo.after [hostOps0].flatten (fun b => m (c, b)) (Proc.tc.devRef main_v0) i
    = m ((c : Thread nD τ).loc main_arg1) (ix1 (n0 := 2048) ⟨(i 1).val, (i 1).isLt⟩) := by
  have e : StableHlo.after hostOps0 (fun b => m (c, b)) (Proc.tc.devRef main_v0)
      = shapeCast S1x2048 (m ((c : Thread nD τ).loc main_arg1)) shapeCasts_S2048_S1x2048 := by
    after_results <;> rfl
  have h0 : (i 0).val < 1 := (i 0).isLt
  refine (congrFun e i).trans ?_
  refine shapeCast_apply _ shapeCasts_S2048_S1x2048 i _ ?_
  rewrite [Shape.rowMajor_val_one, Shape.rowMajor_val_two]
  show (i 1).val = (i 0).val * 2048 + (i 1).val
  omega

/-- An entry of the gain. -/
theorem read_g (t : Fin cfg0.N) (k : Nat) (hk : k < 2048) (i : S2048.Idx) (hi : (i 0).val = k) :
    iblk m c 1 t (ix2 (n0 := 1) (n1 := 2048) 0 ⟨k, hk⟩) = m ((c : Thread nD τ).loc main_arg1) i := by
  obtain ⟨e0, e1, e2, e3, e4⟩ := place t
  refine (gain m c ((win0_1.blk t).view.emb (ix2 0 ⟨k, hk⟩))).trans ?_
  blk_point [e1]
  all_goals omega

/-- An entry of the batch's shift. -/
theorem read_shift (t : Fin cfg0.N) (k : Nat) (hk : k < 2048) (i : S16x1x12288.Idx)
    (hi : (i 0).val = (grid0.coords t 0).val / 8 ∧ (i 2).val = k) :
    iblk m c 2 t (ix3 (n0 := 1) (n1 := 1) (n2 := 2048) 0 0 ⟨k, hk⟩) = m ((c : Thread nD τ).loc main_arg2) i := by
  obtain ⟨e0, e1, e2, e3, e4⟩ := place t
  obtain ⟨hi0, hi1⟩ := hi
  have h : (i 1).val < 1 := (i 1).isLt
  blk_point [iblk, V, e2]
  all_goals omega

/-- An entry of the batch's scale. -/
theorem read_scale (t : Fin cfg0.N) (k : Nat) (hk : k < 2048) (i : S16x1x12288.Idx)
    (hi : (i 0).val = (grid0.coords t 0).val / 8 ∧ (i 2).val = 2048 + k) :
    iblk m c 3 t (ix3 (n0 := 1) (n1 := 1) (n2 := 2048) 0 0 ⟨k, hk⟩) = m ((c : Thread nD τ).loc main_arg2) i := by
  obtain ⟨e0, e1, e2, e3, e4⟩ := place t
  obtain ⟨hi0, hi1⟩ := hi
  have h : (i 1).val < 1 := (i 1).isLt
  blk_point [iblk, V, e3]
  all_goals omega

/-- The kernel's array is the reference's. -/
theorem array : (dats m 0 c).arrAt 4 cfg0.N
    = val_main_v28 (F := Ideal) (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  frame_out
  rw [val_main_v28_apply, val_main_v27_apply, val_main_v26_apply, val_main_v25_apply, val_main_v24_apply, val_main_v23_apply,
    val_main_v22_apply, val_main_v21_apply, val_main_v20_apply, val_main_v19_apply, val_main_v18_apply, val_main_v17_apply,
    val_main_v16_apply, val_main_v15_apply, val_main_v14_apply, val_main_v13_apply, val_main_v12_apply, val_main_v11_apply,
    val_main_v10_apply, val_main_v9_apply, val_main_v2_apply, val_main_v1_apply, val_main_cst_2_apply, val_main_cst_1_apply,
    val_main_cst_0_apply, val_main_cst_apply]
  simp only [val_main_v8_apply, val_main_v7_apply, val_main_v0_apply]
  pointwise [k0_pay1]
  obtain ⟨e0, e1, e2, e3, e4⟩ := place t
  have h0 : (grid0.coords t 0).val < 64 := (grid0.coords t 0).isLt
  have hy : (y 0).val < 256 := (y 0).isLt
  have hz : (y 1).val < 2048 := (y 1).isLt
  have r0 : ((((View.whole main_v1).slice (win0_4.rect t)).emb y) 0).val = (grid0.coords t 0).val * 256 + (y 0).val := by
    blk_point [e4]
  have r1 : ((((View.whole main_v1).slice (win0_4.rect t)).emb y) 1).val = (y 1).val := by
    blk_point [e4]
  generalize ((View.whole main_v1).slice (win0_4.rect t)).emb y = z at r0 r1 ⊢
  have u0 : (idx_main_v27 z 0).val = (grid0.coords t 0).val / 8 := by
    show ((z 0).val * 2048 + (z 1).val) / 4194304 = _
    omega
  have u1 : (idx_main_v27 z 1).val = (grid0.coords t 0).val % 8 * 256 + (y 0).val := by
    show ((z 0).val * 2048 + (z 1).val) / 2048 % 2048 = _
    omega
  have u2 : (idx_main_v27 z 2).val = (y 1).val := by
    show ((z 0).val * 2048 + (z 1).val) % 2048 = _
    omega
  generalize idx_main_v27 z = u at u0 u1 u2 ⊢
  have row : ∀ k : Fin 2048, iblk m c 0 t (ix2 (n0 := 256) (n1 := 2048) ⟨(y 0).val, hy⟩ k)
      = m ((c : Thread nD τ).loc main_arg0) (idx_main_v7 (idx_main_v9 (idx_main_v10 (idx_main_v16 u)) k)) := by
    intro k
    have hk := k.isLt
    refine read_a m c t _ k.val hy hk _ ⟨?_, ?_⟩
    · show (((u 0).val * 2048 + (u 1).val) * 2048 + k.val) / 2048 = _
      omega
    · show (((u 0).val * 2048 + (u 1).val) * 2048 + k.val) % 2048 = _
      omega
  have own : iblk m c 0 t y = m ((c : Thread nD τ).loc main_arg0) (idx_main_v7 u) := by
    refine Eq.trans (congrArg _ (ix2_eta y).symm) (read_a m c t (y 0).val (y 1).val hy hz _ ⟨?_, ?_⟩)
    · show (((u 0).val * 2048 + (u 1).val) * 2048 + (u 2).val) / 2048 = _
      omega
    · show (((u 0).val * 2048 + (u 1).val) * 2048 + (u 2).val) % 2048 = _
      omega
  have squares := Finset.sum_congr (rfl : (Finset.univ : Finset (Fin 2048)) = Finset.univ)
    fun k _ => congrArg (fun x : EReal => x * x) (row k)
  refine congrArg₂ (fun x y : EReal => x + y) (congrArg₂ (fun x y : EReal => x * y) (congrArg₂ (fun x y : EReal => x * y)
    (congrArg₂ (fun x y : EReal => x * Ideal.rsqrt (Ideal.div y (Ideal.ofBits .f32 1157627904#32) + Ideal.ofBits .f32 897988541#32)) own squares)
    (read_g m c t (y 1).val hz _ u2)) (congrArg (fun x : EReal => 1 + x) (read_scale m c t (y 1).val hz _ ⟨u0, ?_⟩)))
    (read_shift m c t (y 1).val hz _ ⟨u0, u2⟩)
  show 2048 + (u 2).val = _
  omega

end Cert.Kernel7Ideal.Norm
end
-- ==== Proof.Mods.lean ====
/- The modulation of all layers: the array the kernel leaves is the reference's. -/
module

public import proofs.«01_k».proof.Proof.Gen.Kernel8Ideal.Frame
public import proofs.«01_k».proof.Proof.Gen.Reference8Ideal.Read
public import Idealize.ShloMosaic.Lib.Pipeline.ValueKit
public import Idealize.ShloMosaic.Lib.KernelVsHost

@[expose] public section
set_option maxRecDepth 16384
noncomputable section
namespace Cert.Kernel8Ideal.Mods
open Idealize.ShloMosaic Idealize.ShloMosaic.TcCoe Idealize.SL.Sem Cert.Kernel8Ideal Cert.Kernel8Ideal.Gen
open Cert.Reference8Ideal.Read

/-- One number of the modulation of layer `l`: a row of conditions, each times its logistic, times a column of weights, plus the bias. -/
def number (x : FVec Ideal S16x2048 .f32) (w : FVec Ideal S4x2048x12288 .f32) (b : FVec Ideal S4x12288 .f32) (l : Fin 4) (r : Fin 16) (n : Fin 12288) : EReal :=
  (Finset.univ.sum fun k : Fin 2048 => @HMul.hMul EReal EReal EReal _ (@HMul.hMul EReal EReal EReal _ (x (ix2 (n0 := 16) (n1 := 2048) r k))
    (Ideal.logistic (x (ix2 (n0 := 16) (n1 := 2048) r k)))) (w (ix3 (n0 := 4) (n1 := 2048) (n2 := 12288) l k n))) + b (ix2 (n0 := 4) (n1 := 12288) l n)

/-- A row of conditions in the reference, each times its logistic. -/
theorem conditions (x : FVec Ideal S16x2048 .f32) (i : Cert.Reference8Ideal.S16x1x2048.Idx) :
    val_main_v1 (F := Ideal) x i = @HMul.hMul EReal EReal EReal _ (x (ix2 (n0 := 16) (n1 := 2048) (i 0) (i 2)))
      (Ideal.logistic (x (ix2 (n0 := 16) (n1 := 2048) (i 0) (i 2)))) := by
  rw [val_main_v1_apply, val_main_v0_apply, val_main_call0_v5_apply, val_main_call0_v4_apply, val_main_call0_v3_apply,
    val_main_call0_v2_apply, val_main_call0_v1_apply, val_main_call0_v0_apply, val_main_call0_cst_apply, val_main_call0_cst_0_apply]
  have e : idx_main_v1 i = ix2 (n0 := 16) (n1 := 2048) (i 0) (i 2) := by
    funext a
    match a with
    | ⟨0, _⟩ => rfl
    | ⟨1, _⟩ => rfl
  rw [e]
  pointwise
  rfl

/-- The reference's layer 0. -/
theorem layer0 (x : FVec Ideal S16x2048 .f32) (w : FVec Ideal S4x2048x12288 .f32) (b : FVec Ideal S4x12288 .f32) (i : Cert.Reference8Ideal.S1x16x1x12288.Idx) :
    val_main_v34 (F := Ideal) x w b i = number x w b 0 (i 1) (i 3) := by
  rw [val_main_v34_apply, val_main_v9_apply, val_main_v8_apply, val_main_v7_apply, val_main_v6_apply, val_main_v5_apply, val_main_v4_apply]
  simp only [val_main_v3_apply, val_main_v2_apply, conditions]
  unfold number
  pointwise
  blk_point
  all_goals omega

/-- The reference's layer 1. -/
theorem layer1 (x : FVec Ideal S16x2048 .f32) (w : FVec Ideal S4x2048x12288 .f32) (b : FVec Ideal S4x12288 .f32) (i : Cert.Reference8Ideal.S1x16x1x12288.Idx) :
    val_main_v35 (F := Ideal) x w b i = number x w b 1 (i 1) (i 3) := by
  rw [val_main_v35_apply, val_main_v17_apply, val_main_v16_apply, val_main_v15_apply, val_main_v14_apply, val_main_v13_apply, val_main_v12_apply]
  simp only [val_main_v11_apply, val_main_v10_apply, conditions]
  unfold number
  pointwise
  blk_point
  all_goals omega

/-- The reference's layer 2. -/
theorem layer2 (x : FVec Ideal S16x2048 .f32) (w : FVec Ideal S4x2048x12288 .f32) (b : FVec Ideal S4x12288 .f32) (i : Cert.Reference8Ideal.S1x16x1x12288.Idx) :
    val_main_v36 (F := Ideal) x w b i = number x w b 2 (i 1) (i 3) := by
  rw [val_main_v36_apply, val_main_v25_apply, val_main_v24_apply, val_main_v23_apply, val_main_v22_apply, val_main_v21_apply, val_main_v20_apply]
  simp only [val_main_v19_apply, val_main_v18_apply, conditions]
  unfold number
  pointwise
  blk_point
  all_goals omega

/-- The reference's layer 3. -/
theorem layer3 (x : FVec Ideal S16x2048 .f32) (w : FVec Ideal S4x2048x12288 .f32) (b : FVec Ideal S4x12288 .f32) (i : Cert.Reference8Ideal.S1x16x1x12288.Idx) :
    val_main_v37 (F := Ideal) x w b i = number x w b 3 (i 1) (i 3) := by
  rw [val_main_v37_apply, val_main_v33_apply, val_main_v32_apply, val_main_v31_apply, val_main_v30_apply, val_main_v29_apply, val_main_v28_apply]
  simp only [val_main_v27_apply, val_main_v26_apply, conditions]
  unfold number
  pointwise
  blk_point
  all_goals omega

/-- A number depends on which layer it is alone. -/
theorem same (x : FVec Ideal S16x2048 .f32) (w : FVec Ideal S4x2048x12288 .f32) (b : FVec Ideal S4x12288 .f32) (l l' : Fin 4) (r : Fin 16) (n : Fin 12288)
    (h : l.val = l'.val) : number x w b l r n = number x w b l' r n := by
  rw [Fin.ext h]

/-- The layers side by side. -/
theorem stack (x : FVec Ideal S16x2048 .f32) (w : FVec Ideal S4x2048x12288 .f32) (b : FVec Ideal S4x12288 .f32) (i : S4x16x1x12288.Idx) :
    val_main_v38 (F := Ideal) x w b i = number x w b (i 0) (i 1) (i 3) := by
  have hi : (i 0).val < 4 := (i 0).isLt
  unfold val_main_v38
  pointwise
  by_cases h0 : (i 0).val < 1
  · rw [dif_pos h0, layer0]
    exact same x w b 0 (i 0) (i 1) (i 3) (by show 0 = (i 0).val; omega)
  rw [dif_neg h0]
  by_cases h1 : (i 0).val - 1 < 1
  · rw [dif_pos h1, layer1]
    exact same x w b 1 (i 0) (i 1) (i 3) (by show 1 = (i 0).val; omega)
  rw [dif_neg h1]
  by_cases h2 : (i 0).val - 1 - 1 < 1
  · rw [dif_pos h2, layer2]
    exact same x w b 2 (i 0) (i 1) (i 3) (by show 2 = (i 0).val; omega)
  rw [dif_neg h2, layer3]
  exact same x w b 3 (i 0) (i 1) (i 3) (by show 3 = (i 0).val; omega)

variable (m : (ℓ : Loc nD τ sig) → Buf (Elt Ideal) ℓ) (ρ : Dev nD → PrngReg) (c : Dev nD)

/-- Where the windows stand at a grid point: a layer and a block of columns. -/
theorem place : ∀ t : Fin cfg0.N, win0_0.index t = ![0, 0] ∧ win0_1.index t = ![(grid0.coords t 0).val, 0, (grid0.coords t 1).val]
    ∧ win0_2.index t = ![(grid0.coords t 0).val, 0, (grid0.coords t 1).val] ∧ win0_3.index t = ![(grid0.coords t 0).val, 0, (grid0.coords t 1).val] :=
  (by decide +kernel : ∀ t : Fin grid0.N, win0_0.index t = ![0, 0] ∧ win0_1.index t = ![(grid0.coords t 0).val, 0, (grid0.coords t 1).val]
    ∧ win0_2.index t = ![(grid0.coords t 0).val, 0, (grid0.coords t 1).val] ∧ win0_3.index t = ![(grid0.coords t 0).val, 0, (grid0.coords t 1).val])

/-- A condition. -/
theorem read_x (t : Fin cfg0.N) (p k : Nat) (hp : p < 16) (hk : k < 2048) (i : S16x2048.Idx) (hi : (i 0).val = p ∧ (i 1).val = k) :
    iblk m c 0 t (ix2 (n0 := 16) (n1 := 2048) ⟨p, hp⟩ ⟨k, hk⟩) = m ((c : Thread nD τ).loc main_arg0) i := by
  obtain ⟨e0, e1, e2, e3⟩ := place t
  obtain ⟨hi0, hi1⟩ := hi
  blk_point [iblk, V, e0]
  all_goals omega

/-- A weight of the block. -/
theorem read_w (t : Fin cfg0.N) (k q : Nat) (hk : k < 2048) (hq : q < 1024) (i : S4x2048x12288.Idx)
    (hi : (i 0).val = (grid0.coords t 0).val ∧ (i 1).val = k ∧ (i 2).val = (grid0.coords t 1).val * 1024 + q) :
    iblk m c 1 t (ix3 (n0 := 1) (n1 := 2048) (n2 := 1024) 0 ⟨k, hk⟩ ⟨q, hq⟩) = m ((c : Thread nD τ).loc main_arg1) i := by
  obtain ⟨e0, e1, e2, e3⟩ := place t
  obtain ⟨hi0, hi1, hi2⟩ := hi
  blk_point [iblk, V, e1]
  all_goals omega

/-- The bias as the kernel's call gets it, a single row a layer. -/
theorem bias (i : S4x1x12288.Idx) : StableHlo.after [hostOps0].flatten (fun b => m (c, b)) (Proc.tc.devRef main_v0) i
    = m ((c : Thread nD τ).loc main_arg2) (ix2 (n0 := 4) (n1 := 12288) ⟨(i 0).val, (i 0).isLt⟩ ⟨(i 2).val, (i 2).isLt⟩) := by
  have e : StableHlo.after hostOps0 (fun b => m (c, b)) (Proc.tc.devRef main_v0)
      = shapeCast S4x1x12288 (m ((c : Thread nD τ).loc main_arg2)) shapeCasts_S4x12288_S4x1x12288 := by
    after_results <;> rfl
  have h1 : (i 1).val < 1 := (i 1).isLt
  refine (congrFun e i).trans ?_
  refine shapeCast_apply _ shapeCasts_S4x12288_S4x1x12288 i _ ?_
  rewrite [Shape.rowMajor_val_two, Shape.rowMajor_val_three]
  show (i 0).val * 12288 + (i 2).val = ((i 0).val * 1 + (i 1).val) * 12288 + (i 2).val
  omega

/-- An entry of the bias. -/
theorem read_b (t : Fin cfg0.N) (q : Nat) (hq : q < 1024) (i : S4x12288.Idx)
    (hi : (i 0).val = (grid0.coords t 0).val ∧ (i 1).val = (grid0.coords t 1).val * 1024 + q) :
    iblk m c 2 t (ix3 (n0 := 1) (n1 := 1) (n2 := 1024) 0 0 ⟨q, hq⟩) = m ((c : Thread nD τ).loc main_arg2) i := by
  obtain ⟨e0, e1, e2, e3⟩ := place t
  obtain ⟨hi0, hi1⟩ := hi
  refine (bias m c ((win0_2.blk t).view.emb (ix3 0 0 ⟨q, hq⟩))).trans ?_
  blk_point [e2]
  all_goals omega

/-- The kernel's array, number by number. -/
theorem array : (dats m 0 c).arrAt 3 cfg0.N
    = fun z => number (m ((c : Thread nD τ).loc main_arg0)) (m ((c : Thread nD τ).loc main_arg1)) (m ((c : Thread nD τ).loc main_arg2)) (z 0) (z 1) (z 2) := by
  refine (dats m 0 c).arrAt_eq_of_covers 3 _ (by decide +kernel) fun t hf y => ?_
  blk_simp
  rw [after0_3]
  frame_out
  pointwise [k0_pay1]
  unfold number
  obtain ⟨e0, e1, e2, e3⟩ := place t
  have h0 : (grid0.coords t 0).val < 4 := (grid0.coords t 0).isLt
  have h1 : (grid0.coords t 1).val < 12 := (grid0.coords t 1).isLt
  have hy0 : (y 0).val < 1 := (y 0).isLt
  have hy1 : (y 1).val < 16 := (y 1).isLt
  have hy2 : (y 2).val < 1024 := (y 2).isLt
  have r0 : ((((View.whole main_v1).slice (win0_3.rect t)).emb y) 0).val = (grid0.coords t 0).val := by
    blk_point [e3]
    all_goals omega
  have r1 : ((((View.whole main_v1).slice (win0_3.rect t)).emb y) 1).val = (y 1).val := by
    blk_point [e3]
  have r2 : ((((View.whole main_v1).slice (win0_3.rect t)).emb y) 2).val = (grid0.coords t 1).val * 1024 + (y 2).val := by
    blk_point [e3]
  generalize ((View.whole main_v1).slice (win0_3.rect t)).emb y = z at r0 r1 r2 ⊢
  have row : ∀ k : Fin 2048, iblk m c 0 t (ix2 (n0 := 16) (n1 := 2048) ⟨(y 1).val, hy1⟩ k)
      = m ((c : Thread nD τ).loc main_arg0) (ix2 (n0 := 16) (n1 := 2048) (z 1) k) :=
    fun k => read_x m c t _ k.val hy1 k.isLt _ ⟨r1, rfl⟩
  have column : ∀ k : Fin 2048, iblk m c 1 t (ix3 (n0 := 1) (n1 := 2048) (n2 := 1024) 0 k ⟨(y 2).val, hy2⟩)
      = m ((c : Thread nD τ).loc main_arg1) (ix3 (n0 := 4) (n1 := 2048) (n2 := 12288) (z 0) k (z 2)) :=
    fun k => read_w m c t k.val _ k.isLt hy2 _ ⟨r0, rfl, r2⟩
  have products := Finset.sum_congr (rfl : (Finset.univ : Finset (Fin 2048)) = Finset.univ)
    fun k _ => congrArg₂ (fun x y : EReal => x * Ideal.logistic x * y) (row k) (column k)
  exact congrArg₂ (fun x y : EReal => x + y) products (read_b m c t _ hy2 (ix2 (n0 := 4) (n1 := 12288) (z 0) (z 2)) ⟨r0, r2⟩)

/-- The array with the unit axis put back. -/
theorem result : Pipeline.afterTail₀ cfgs (dats m) 0 (V0 m) [hostOps1] c main_v2
    = val_main_v38 (F := Ideal) (m ((c : Thread nD τ).loc main_arg0)) (m ((c : Thread nD τ).loc main_arg1)) (m ((c : Thread nD τ).loc main_arg2)) := by
  have e : Pipeline.afterTail₀ cfgs (dats m) 0 (V0 m) [hostOps1] c main_v2
      = shapeCast S4x16x1x12288 ((dats m 0 c).arrAt 3 cfg0.N) shapeCasts_S4x16x12288_S4x16x1x12288 := by
    unfold Pipeline.afterTail₀
    refine Eq.trans (b := shapeCast S4x16x1x12288 (Pipeline.withArrays (cfgs 0).spec c (V0 m c) (fun w => (dats m 0 c).arrAt w (cfgs 0).N) (Proc.devRef .tc main_v1)) shapeCasts_S4x16x12288_S4x16x1x12288) ?_ ?_
    · after_results <;> rfl
    · exact congrArg (fun x => shapeCast S4x16x1x12288 x shapeCasts_S4x16x12288_S4x16x1x12288)
        (Pipeline.withArrays_arr (cfgs 0).spec (by decide) c (V0 m c) (fun w => (dats m 0 c).arrAt w (cfgs 0).N) 3)
  rw [e, array]
  funext i
  have h2 : (i 2).val < 1 := (i 2).isLt
  rw [shapeCast_apply _ shapeCasts_S4x16x12288_S4x16x1x12288 i (ix3 (n0 := 4) (n1 := 16) (n2 := 12288) (i 0) (i 1) (i 3))
    (by
      rewrite [Shape.rowMajor_val_three, Shape.rowMajor_val_four]
      show ((i 0).val * 16 + (i 1).val) * 12288 + (i 3).val = (((i 0).val * 16 + (i 1).val) * 1 + (i 2).val) * 12288 + (i 3).val
      omega)]
  exact (stack _ _ _ i).symm

/-- The kernel's run: its result and its arguments. -/
theorem run : θ_run defs (onTc (τ := τ) (main (F := Ideal))) ⟨m, fun _ => 0, ρ⟩ fun r => ∀ c : Dev nD,
      r.2.mem ((c.tc : Thread nD τ).loc main_v2)
        = val_main_v38 (F := Ideal) (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h.1 c).2 main_v2 (Pipeline.mem_restRefs_of main_v2 (by decide) (by decide))).trans (result m c), h.2 c⟩)
    (θ_run_and (run_main m ρ) (unchanged m ρ))

end Cert.Kernel8Ideal.Mods
end
-- ==== Proof.Filter.lean ====
/- The network behind Hyena's filters: the array the kernel leaves is the reference's. -/
module

public import proofs.«01_k».proof.Proof.Gen.Kernel9Ideal.Value
public import proofs.«01_k».proof.Proof.Gen.Reference9Ideal.Read
public import Idealize.ShloMosaic.Lib.Pipeline.ValueKit
public import Idealize.ShloMosaic.Lib.KernelVsHost
public import Idealize.ShloMosaic.Lib.Routing.OpsSet
public import Idealize.ShloMosaic.Lib.Routing.OpsPair

@[expose] public section
set_option maxRecDepth 16384
noncomputable section
namespace Cert.Kernel9Ideal.Filter
open Idealize.ShloMosaic Idealize.ShloMosaic.TcCoe Idealize.SL.Sem Cert.Kernel9Ideal Cert.Kernel9Ideal.Gen
open Cert.Reference9Ideal.Read

/-- An update of the scatter lands where it stands: the index is zero and the window is the whole of the updates. -/
theorem lands (idx : IVec S1 32) (hidx : ∀ i, idx i = 0#32) (k : S33x64.Idx) (i : S128x64.Idx) :
    scatter_S128x64_S1_S33x64_01_n_0_0.resultIdx? k idx = some i ↔ (k 0).val = (i 0).val ∧ (k 1).val = (i 1).val := by
  have s0 : scatter_S128x64_S1_S33x64_01_n_0_0.start k idx 0 = 0 := by
    unfold ScatterDims.start
    rw [dif_pos (by decide), hidx]
    rfl
  have s1 : scatter_S128x64_S1_S33x64_01_n_0_0.start k idx 1 = 0 := by
    unfold ScatterDims.start
    rw [dif_neg (by decide)]
  have w0 : scatter_S128x64_S1_S33x64_01_n_0_0.window k 0 = (k 0).val := by
    unfold ScatterDims.window
    rw [dif_pos (by decide)]
    rfl
  have w1 : scatter_S128x64_S1_S33x64_01_n_0_0.window k 1 = (k 1).val := by
    unfold ScatterDims.window
    rw [dif_pos (by decide)]
    rfl
  rw [Routing.resultIdx?_eq_some]
  constructor
  · intro h
    have h0 := h 0
    have h1 := h 1
    rw [s0, w0] at h0
    rw [s1, w1] at h1
    omega
  · intro h a
    match a with
    | ⟨0, _⟩ => exact (by rw [s0, w0]; omega : scatter_S128x64_S1_S33x64_01_n_0_0.start k idx 0 + (scatter_S128x64_S1_S33x64_01_n_0_0.window k 0 : Int) = ((i 0).val : Int))
    | ⟨1, _⟩ => exact (by rw [s1, w1]; omega : scatter_S128x64_S1_S33x64_01_n_0_0.start k idx 1 + (scatter_S128x64_S1_S33x64_01_n_0_0.window k 1 : Int) = ((i 1).val : Int))

/-- A whole number as kernel and reference make it. -/
def num (w : BitVec 32) : EReal := (FloatOps.sitofp .f32 w : Ideal .f32)

/-- The next whole number, for the bands. -/
theorem next (j : Fin 16) : (1 : EReal) + num (BitVec.ofNat 32 j.val) = num (BitVec.ofNat 32 (j.val + 1)) := by
  have e : (BitVec.ofNat 32 (j.val + 1)).toInt = 1 + (BitVec.ofNat 32 j.val).toInt := (by decide : ∀ j : Fin 16, (BitVec.ofNat 32 (j.val + 1)).toInt = 1 + (BitVec.ofNat 32 j.val).toInt) j
  show (1 : EReal) + (((BitVec.ofNat 32 j.val).toInt : ℝ) : EReal) = (((BitVec.ofNat 32 (j.val + 1)).toInt : ℝ) : EReal)
  rw [e]
  push_cast
  rfl

/-- The angle of a position in a band. -/
def angle (r : Nat) (b : BitVec 32) : EReal :=
  Ideal.div (@HMul.hMul EReal EReal EReal _ (@HMul.hMul EReal EReal EReal _ (Ideal.ofBits .f32 1086918619#32) (num (BitVec.ofNat 32 r))) (num b)) (Ideal.ofBits .f32 1157627904#32)

/-- The band of a column in the kernel. -/
def band (x : Nat) : BitVec 32 :=
  Scalar.select (IntOp.cmpi CmpIPredicate.sle (BitVec.ofNat 32 x) 16#32) (BitVec.ofNat 32 x) (IntOp.subi (BitVec.ofNat 32 x) 16#32)

/-- The kernel's entry of the embedding: position `r`, column `x` of 128. -/
def entry (r x : Nat) : EReal :=
  Scalar.select (IntOp.cmpi CmpIPredicate.eq (BitVec.ofNat 32 x) 0#32)
    (Ideal.div (num (BitVec.ofNat 32 r)) (Ideal.ofBits .f32 1157627904#32))
    (Scalar.select (IntOp.cmpi CmpIPredicate.sle (BitVec.ofNat 32 x) 16#32) (Ideal.cos (angle r (band x)))
      (Scalar.select (IntOp.cmpi CmpIPredicate.sle (BitVec.ofNat 32 x) 32#32) (Ideal.sin (angle r (band x))) 0))

/-- The kernel's tests on a column of the 33, and its band. -/
theorem tests : ∀ k : Fin 33, (k.val = 0 → IntOp.cmpi CmpIPredicate.eq (BitVec.ofNat 32 k.val) 0#32 = 1)
    ∧ (k.val ≠ 0 → ¬ IntOp.cmpi CmpIPredicate.eq (BitVec.ofNat 32 k.val) 0#32 = 1)
    ∧ (k.val ≤ 16 → IntOp.cmpi CmpIPredicate.sle (BitVec.ofNat 32 k.val) 16#32 = 1)
    ∧ (¬ k.val ≤ 16 → ¬ IntOp.cmpi CmpIPredicate.sle (BitVec.ofNat 32 k.val) 16#32 = 1)
    ∧ IntOp.cmpi CmpIPredicate.sle (BitVec.ofNat 32 k.val) 32#32 = 1
    ∧ (k.val ≤ 16 → band k.val = BitVec.ofNat 32 k.val)
    ∧ (¬ k.val ≤ 16 → band k.val = BitVec.ofNat 32 (k.val - 16)) := by
  decide

/-- The first 33 columns of the kernel's embedding are the reference's. -/
theorem embed (r : Fin 2048) (k : Fin 33) : entry r.val k.val = val_main_v18 (F := Ideal) (ix2 (n0 := 2048) (n1 := 33) r k) := by
  obtain ⟨t0, t1, t2, t3, t4, t5, t6⟩ := tests k
  have hk := k.isLt
  unfold val_main_v18
  pointwise
  simp only [val_main_v15_apply, val_main_v16_apply, val_main_v17_apply, val_main_v14_apply, val_main_v13_apply, val_main_v12_apply, val_main_v11_apply, val_main_v10_apply,
    val_main_v9_apply, val_main_v8_apply, val_main_v7_apply, val_main_v6_apply, val_main_v5_apply, val_main_v4_apply, val_main_v2_apply, val_main_v1_apply,
    val_main_cst_apply, val_main_cst_0_apply, val_main_cst_1_apply, val_main_cst_2_apply]
  pointwise [val_main_v0, val_main_v3]
  unfold entry Scalar.select
  by_cases h0 : k.val < 1
  · rw [dif_pos h0, if_pos (t0 (by omega))]
    rfl
  rw [dif_neg h0, if_neg (t1 (by omega))]
  by_cases h1 : k.val - 1 < 16
  · rw [dif_pos h1, if_pos (t2 (by omega)), t5 (by omega)]
    have e := next ⟨k.val - 1, h1⟩
    have ek : k.val - 1 + 1 = k.val := by omega
    simp only [ek] at e
    exact congrArg (fun b : EReal => Ideal.cos (Ideal.div (@HMul.hMul EReal EReal EReal _ (@HMul.hMul EReal EReal EReal _ (Ideal.ofBits .f32 1086918619#32) (num (BitVec.ofNat 32 r.val))) b)
      (Ideal.ofBits .f32 1157627904#32))) e.symm
  · rw [dif_neg h1, if_neg (t3 (by omega)), if_pos t4, t6 (by omega)]
    have e := next ⟨k.val - 1 - 16, by omega⟩
    have ek : k.val - 1 - 16 + 1 = k.val - 16 := by omega
    simp only [ek] at e
    exact congrArg (fun b : EReal => Ideal.sin (Ideal.div (@HMul.hMul EReal EReal EReal _ (@HMul.hMul EReal EReal EReal _ (Ideal.ofBits .f32 1086918619#32) (num (BitVec.ofNat 32 r.val))) b)
      (Ideal.ofBits .f32 1157627904#32))) e.symm

variable (m : (ℓ : Loc nD τ sig) → Buf (Elt Ideal) ℓ) (c : Dev nD)

/-- The first weights as the kernel's call gets them: 33 rows of the argument, then zeros. -/
theorem weights (i : S128x64.Idx) : V m c main_v2 i
    = if h : (i 0).val < 33 then m ((c : Thread nD τ).loc main_arg0) (ix2 (n0 := 33) (n1 := 64) ⟨(i 0).val, h⟩ ⟨(i 1).val, (i 1).isLt⟩) else (0 : EReal) := by
  have e : StableHlo.after hostOps0 (fun b => m (c, b)) (Proc.tc.devRef main_v2)
      = Host.scatter scatter_S128x64_S1_S33x64_01_n_0_0 (fun _ b => b) (broadcastInDim S128x64 ![] bcast_S_S128x64 (constant (F := Ideal) S_ .f32 0x00000000#32))
          (broadcastInDim S1 ![] bcast_S_S1 (constantI S_ 32 0#32)) (m ((c : Thread nD τ).loc main_arg0)) := by
    after_results <;> rfl
  have hidx : ∀ j, (broadcastInDim S1 ![] bcast_S_S1 (constantI S_ 32 0#32)) j = 0#32 := fun _ => rfl
  refine (congrFun e i).trans ?_
  split_ifs with h
  · refine Routing.scatter_set_hit _ _ _ _ i _ (fun k hk => ?_) (ix2 (n0 := 33) (n1 := 64) ⟨(i 0).val, h⟩ ⟨(i 1).val, (i 1).isLt⟩) ((lands _ hidx _ i).2 ⟨rfl, rfl⟩)
    have hk' := (lands _ hidx k i).1 hk
    refine congrArg _ (funext fun a => Fin.ext ?_)
    match a with
    | ⟨0, _⟩ => exact hk'.1
    | ⟨1, _⟩ => exact hk'.2
  · refine (Routing.scatter_set_miss _ _ _ _ i fun k hk => ?_).trans ?_
    · have hk' := (lands _ hidx k i).1 hk
      have := (k 0).isLt
      exact h (by rw [← hk'.1]; exact this)
    · pointwise

/-- Where the windows stand: each is its whole array. -/
theorem place : ∀ t : Fin cfg0.N, win0_0.index t = ![0, 0] ∧ win0_1.index t = ![0, 0] ∧ win0_2.index t = ![0, 0, 0] ∧ win0_3.index t = ![0, 0, 0]
    ∧ win0_4.index t = ![0, 0] :=
  (by decide +kernel : ∀ t : Fin grid0.N, win0_0.index t = ![0, 0] ∧ win0_1.index t = ![0, 0] ∧ win0_2.index t = ![0, 0, 0] ∧ win0_3.index t = ![0, 0, 0]
    ∧ win0_4.index t = ![0, 0])

/-- The first weights of the window. -/
theorem read0 (t : Fin cfg0.N) (i : S128x64.Idx) : iblk m c 0 t i = V m c main_v2 i := by
  obtain ⟨e0, e1, e2, e3, e4⟩ := place t
  refine congrArg (V m c main_v2) (funext fun a => Fin.ext ?_)
  match a with
  | ⟨0, _⟩ => blk_point [e0]
  | ⟨1, _⟩ => blk_point [e0]

/-- The first bias as the kernel's call gets it, a single row. -/
theorem bias (i : S1x64.Idx) : V m c main_v3 i = m ((c : Thread nD τ).loc main_arg1) (ix1 (n0 := 64) ⟨(i 1).val, (i 1).isLt⟩) := by
  have e : StableHlo.after hostOps0 (fun b => m (c, b)) (Proc.tc.devRef main_v3)
      = shapeCast S1x64 (m ((c : Thread nD τ).loc main_arg1)) shapeCasts_S64_S1x64 := by
    after_results <;> rfl
  have h0 : (i 0).val < 1 := (i 0).isLt
  refine (congrFun e i).trans ?_
  refine shapeCast_apply _ shapeCasts_S64_S1x64 i _ ?_
  rewrite [Shape.rowMajor_val_one, Shape.rowMajor_val_two]
  show (i 1).val = (i 0).val * 64 + (i 1).val
  omega

/-- An entry of the first bias. -/
theorem read1 (t : Fin cfg0.N) (j : Fin 64) : iblk m c 1 t (ix2 (n0 := 1) (n1 := 64) 0 j) = m ((c : Thread nD τ).loc main_arg1) (ix1 (n0 := 64) j) := by
  obtain ⟨e0, e1, e2, e3, e4⟩ := place t
  refine (bias m c ((win0_1.blk t).view.emb (ix2 0 j))).trans ?_
  blk_point [e1]

/-- The inner weights. -/
theorem read2 (t : Fin cfg0.N) (i : S2x64x64.Idx) : iblk m c 2 t i = m ((c : Thread nD τ).loc main_arg2) i := by
  obtain ⟨e0, e1, e2, e3, e4⟩ := place t
  refine Eq.trans (b := V m c main_arg2 i) ?_ (congrFun (V_main_arg2 m c) i)
  refine congrArg (V m c main_arg2) (funext fun a => Fin.ext ?_)
  match a with
  | ⟨0, _⟩ => blk_point [e2]
  | ⟨1, _⟩ => blk_point [e2]
  | ⟨2, _⟩ => blk_point [e2]

/-- The inner biases as the kernel's call gets them, a row each. -/
theorem biases (i : S2x1x64.Idx) : V m c main_v4 i = m ((c : Thread nD τ).loc main_arg3) (ix2 (n0 := 2) (n1 := 64) ⟨(i 0).val, (i 0).isLt⟩ ⟨(i 2).val, (i 2).isLt⟩) := by
  have e : StableHlo.after hostOps0 (fun b => m (c, b)) (Proc.tc.devRef main_v4)
      = shapeCast S2x1x64 (m ((c : Thread nD τ).loc main_arg3)) shapeCasts_S2x64_S2x1x64 := by
    after_results <;> rfl
  have h1 : (i 1).val < 1 := (i 1).isLt
  refine (congrFun e i).trans ?_
  refine shapeCast_apply _ shapeCasts_S2x64_S2x1x64 i _ ?_
  rewrite [Shape.rowMajor_val_two, Shape.rowMajor_val_three]
  show (i 0).val * 64 + (i 2).val = ((i 0).val * 1 + (i 1).val) * 64 + (i 2).val
  omega

/-- An entry of the inner biases. -/
theorem read3 (t : Fin cfg0.N) (l : Fin 2) (j : Fin 64) : iblk m c 3 t (ix3 (n0 := 2) (n1 := 1) (n2 := 64) l 0 j) = m ((c : Thread nD τ).loc main_arg3) (ix2 (n0 := 2) (n1 := 64) l j) := by
  obtain ⟨e0, e1, e2, e3, e4⟩ := place t
  refine (biases m c ((win0_3.blk t).view.emb (ix3 l 0 j))).trans ?_
  blk_point [e3]

/-- The first product: the 95 columns beyond the embedding meet zero weights. -/
theorem product (t : Fin cfg0.N) (r : Fin 2048) (j : Fin 64) :
    (Finset.univ.sum fun x : Fin 128 => @HMul.hMul EReal EReal EReal _ (entry r.val x.val) (iblk m c 0 t (ix2 (n0 := 128) (n1 := 64) x j)))
      = val_main_v19 (F := Ideal) (m ((c : Thread nD τ).loc main_arg0)) (ix2 (n0 := 2048) (n1 := 64) r j) := by
  rw [val_main_v19_apply]
  refine (Fin.sum_univ_add (a := 33) (b := 95) _).trans ?_
  have z : (Finset.univ.sum fun x : Fin 95 => @HMul.hMul EReal EReal EReal _ (entry r.val (Fin.natAdd 33 x).val) (iblk m c 0 t (ix2 (n0 := 128) (n1 := 64) (Fin.natAdd 33 x) j))) = 0 := by
    refine Finset.sum_eq_zero fun x _ => ?_
    rw [read0, weights, dif_neg (by show ¬ 33 + x.val < 33; omega)]
    exact mul_zero (M₀ := EReal) _
  refine (congrArg₂ (fun x y : EReal => x + y) (Finset.sum_congr rfl fun k _ => ?_) z).trans (add_zero (M := EReal) _)
  rw [read0, weights, dif_pos (by exact k.isLt)]
  refine congrArg₂ (fun x y : EReal => x * y) ((embed r k).trans ?_) ?_
  · refine congrArg _ (funext fun a => Fin.ext ?_)
    match a with
    | ⟨0, _⟩ => rfl
    | ⟨1, _⟩ => rfl
  · refine congrArg _ (funext fun a => Fin.ext ?_)
    match a with
    | ⟨0, _⟩ => rfl
    | ⟨1, _⟩ => rfl

/-- The first layer. -/
theorem first (t : Fin cfg0.N) (r : Fin 2048) (j : Fin 64) :
    Ideal.sin (@HAdd.hAdd EReal EReal EReal _ (Finset.univ.sum fun x : Fin 128 => @HMul.hMul EReal EReal EReal _ (entry r.val x.val) (iblk m c 0 t (ix2 (n0 := 128) (n1 := 64) x j)))
        (iblk m c 1 t (ix2 (n0 := 1) (n1 := 64) 0 j)))
      = val_main_v23 (F := Ideal) (m ((c : Thread nD τ).loc main_arg0)) (m ((c : Thread nD τ).loc main_arg1)) (ix2 (n0 := 2048) (n1 := 64) r j) := by
  rw [val_main_v23_apply, val_main_v22_apply, val_main_v21_apply, val_main_v20_apply, product, read1]
  refine congrArg (fun y : EReal => Ideal.sin (@HAdd.hAdd EReal EReal EReal _ (val_main_v19 (F := Ideal) (m ((c : Thread nD τ).loc main_arg0)) (ix2 (n0 := 2048) (n1 := 64) r j)) y)) ?_
  refine congrArg _ (funext fun a => Fin.ext ?_)
  match a with
  | ⟨0, _⟩ => rfl

/-- The second layer. -/
theorem second (t : Fin cfg0.N) (r : Fin 2048) (j : Fin 64) :
    Ideal.sin (@HAdd.hAdd EReal EReal EReal _ (Finset.univ.sum fun k : Fin 64 => @HMul.hMul EReal EReal EReal _
        (Ideal.sin (@HAdd.hAdd EReal EReal EReal _ (Finset.univ.sum fun x : Fin 128 => @HMul.hMul EReal EReal EReal _ (entry r.val x.val) (iblk m c 0 t (ix2 (n0 := 128) (n1 := 64) x k)))
          (iblk m c 1 t (ix2 (n0 := 1) (n1 := 64) 0 k))))
        (iblk m c 2 t (ix3 (n0 := 2) (n1 := 64) (n2 := 64) 0 k j))) (iblk m c 3 t (ix3 (n0 := 2) (n1 := 1) (n2 := 64) 0 0 j)))
      = val_main_v32 (F := Ideal) (m ((c : Thread nD τ).loc main_arg0)) (m ((c : Thread nD τ).loc main_arg1)) (m ((c : Thread nD τ).loc main_arg2))
          (m ((c : Thread nD τ).loc main_arg3)) (ix2 (n0 := 2048) (n1 := 64) r j) := by
  rw [val_main_v32_apply, val_main_v31_apply, val_main_v30_apply, val_main_v29_apply, val_main_v28_apply, val_main_v27_apply, val_main_v26_apply, read3]
  simp only [val_main_v25_apply, val_main_v24_apply]
  refine congrArg₂ (fun x y : EReal => Ideal.sin (x + y)) (Finset.sum_congr rfl fun k _ => ?_) ?_
  · rw [first, read2]
    refine congrArg₂ (fun x y : EReal => x * y) (congrArg _ (funext fun a => Fin.ext ?_)) (congrArg _ (funext fun a => Fin.ext ?_))
    · match a with
      | ⟨0, _⟩ => rfl
      | ⟨1, _⟩ => rfl
    · have hk := k.isLt
      have hj := j.isLt
      match a with
      | ⟨0, _⟩ => rfl
      | ⟨1, _⟩ => show k.val = (k.val * 64 + j.val) / 64 % 64; omega
      | ⟨2, _⟩ => show j.val = (k.val * 64 + j.val) % 64; omega
  · refine congrArg _ (funext fun a => Fin.ext ?_)
    have hj := j.isLt
    match a with
    | ⟨0, _⟩ => rfl
    | ⟨1, _⟩ => show j.val = j.val % 64; omega

/-- The kernel's array is the reference's. -/
theorem array : (dats m 0 c).arrAt 4 cfg0.N
    = val_main_v41 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  pointwise [k0_pay1, k0_pay2]
  obtain ⟨e0, e1, e2, e3, e4⟩ := place t
  have hy : (y 0).val < 2048 := (y 0).isLt
  have hz : (y 1).val < 64 := (y 1).isLt
  have r0 : ((((View.whole main_v5).slice (win0_4.rect t)).emb y) 0).val = (y 0).val := by
    blk_point [e4]
  have r1 : ((((View.whole main_v5).slice (win0_4.rect t)).emb y) 1).val = (y 1).val := by
    blk_point [e4]
  generalize ((View.whole main_v5).slice (win0_4.rect t)).emb y = z at r0 r1 ⊢
  rw [val_main_v41_apply, val_main_v40_apply, val_main_v39_apply, val_main_v38_apply, val_main_v37_apply, val_main_v36_apply, val_main_v35_apply]
  simp only [val_main_v34_apply, val_main_v33_apply]
  have inner : ∀ k : Fin 64, _ = _ := fun k => second m c t ⟨(y 0).val, hy⟩ k
  refine congrArg₂ (fun x y : EReal => Ideal.sin (x + y)) (Finset.sum_congr rfl fun k _ => ?_) ?_
  · refine congrArg₂ (fun x y : EReal => x * y) ((inner k).trans (congrArg _ (funext fun a => Fin.ext ?_))) ((read2 m c t _).trans (congrArg _ (funext fun a => Fin.ext ?_)))
    · match a with
      | ⟨0, _⟩ => exact r0.symm
      | ⟨1, _⟩ => rfl
    · have hk := k.isLt
      match a with
      | ⟨0, _⟩ => rfl
      | ⟨1, _⟩ => show k.val = (k.val * 64 + (z 1).val) / 64 % 64; omega
      | ⟨2, _⟩ => show (y 1).val = (k.val * 64 + (z 1).val) % 64; omega
  · refine (read3 m c t 1 ⟨(y 1).val, hz⟩).trans (congrArg _ (funext fun a => Fin.ext ?_))
    match a with
    | ⟨0, _⟩ => rfl
    | ⟨1, _⟩ => show (y 1).val = (z 1).val % 64; omega

end Cert.Kernel9Ideal.Filter
end
-- ==== Proof.CtxTiles.lean ====
/- The context attention's body in its own words: one key/value head as a function of the four blocks that a grid point loads,
   and the sixteen tiles that the body stores. -/
module

public import proofs.«01_k».proof.Proof.Gen.Kernel10Ideal.Value
public import Idealize.ShloMosaic.Lib.Pipeline.ValueKit

@[expose] public section
set_option maxRecDepth 16384
noncomputable section
namespace Cert.Kernel10Ideal.Ctx
open Idealize.ShloMosaic Idealize.ShloMosaic.TcCoe Idealize.ShloMosaic.Tactic Cert.Kernel10Ideal Cert.Kernel10Ideal.Gen

variable {F : FTy → Type} [FloatOps F]

section
variable (x0 : Vec F S16 .f32) (x1 : Vec F S256x2048 .f32) (x2 x3 : Vec F S256x512 .f32) (h : ℕ) (hh : h < 4)

/-- The columns of query head `g` of key head `h`. -/
def query (g : ℕ) (hg : g < 4) : Vec F S256x128 .f32 :=
  View.ld x1 (Rect.unit ![0, 512 * h + 128 * g] ![256, 128] (by intro a; fin_cases a <;> simp <;> omega))

/-- The columns of key head `h`, of the keys or of the values. -/
def headOf (x : Vec F S256x512 .f32) : Vec F S256x128 .f32 :=
  View.ld x (Rect.unit ![0, 128 * h] ![256, 128] (by intro a; fin_cases a <;> simp <;> omega))

/-- The sink of query head `g` of key head `h`. -/
def sinkOf (g : ℕ) (hg : g < 4) : Elt F .f32 :=
  View.ld x0 (Rect.unit ![4 * h + g] ![1] (by intro a; fin_cases a; simp; omega)) (Shape.Idx.first (show 0 < S1.numel by decide))

/-- The scores of head `h`, its four query heads one below the other. -/
def scores : FVec F S1024x256 .f32 :=
  k0_pay7 (headOf h hh x2) (query x1 h hh 0 (by omega)) (query x1 h hh 1 (by omega)) (query x1 h hh 2 (by omega)) (query x1 h hh 3 (by omega))

/-- The output of head `h`, its four query heads one below the other. -/
def head : FVec F S1024x128 .f32 :=
  k0_pay9 (k0_pay6 (headOf h hh x3)) (scores x1 x2 h hh) k0_pay8
    (sinkOf x0 h hh 0 (by omega)) (sinkOf x0 h hh 1 (by omega)) (sinkOf x0 h hh 2 (by omega)) (sinkOf x0 h hh 3 (by omega))

/-- The store of query head `g` of key head `h`: its rows of the head's output, in its 128 columns. -/
def piece (g : ℕ) (hg : g < 4) : View.Piece (Elt F) S256x2048 .bf16 :=
  ⟨Rect.unit ![0, 512 * h + 128 * g] ![256, 128] (by intro a; fin_cases a <;> simp <;> omega),
    truncf .bf16 (extractStridedSlice S256x128 ![256 * g, 0] (head x0 x1 x2 x3 h hh)
      ⟨rfl, by intro a; fin_cases a <;> simp [S256x128, S1024x128] <;> omega⟩) bitsLt_bf16_f32⟩

/-- The four stores of one head, last first. -/
def pieces4 : List (View.Piece (Elt F) S256x2048 .bf16) :=
  [piece x0 x1 x2 x3 h hh 3 (by omega), piece x0 x1 x2 x3 h hh 2 (by omega), piece x0 x1 x2 x3 h hh 1 (by omega), piece x0 x1 x2 x3 h hh 0 (by omega)]
end

/-- All sixteen stores, last first. -/
def pieces (x0 : Vec F S16 .f32) (x1 : Vec F S256x2048 .f32) (x2 x3 : Vec F S256x512 .f32) : List (View.Piece (Elt F) S256x2048 .bf16) :=
  pieces4 x0 x1 x2 x3 3 (by omega) ++ (pieces4 x0 x1 x2 x3 2 (by omega) ++ (pieces4 x0 x1 x2 x3 1 (by omega) ++ pieces4 x0 x1 x2 x3 0 (by omega)))

set_option maxHeartbeats 4000000 in
/-- The block that a grid point leaves is the one that its sixteen tiles make up. -/
theorem out_eq (m : (ℓ : Loc nD τ sig) → Buf (Elt F) ℓ) (c : Dev nD) (t : Fin cfg0.N) :
    outsAt0 m c t = View.canon (pieces (iblk m c 0 t) (X0_1 m c t) (iblk m c 2 t) (iblk m c 3 t)) := by
  unfold outsAt0
  frame_out
  generalize iblk m c 0 t = x0
  generalize X0_1 m c t = x1
  generalize iblk m c 2 t = x2
  generalize iblk m c 3 t = x3
  refine congrArg View.canon ?_
  dsimp only [pieces, pieces4, piece, head, scores, query, headOf, sinkOf, List.cons_append, List.nil_append,
    k0_pay1, k0_pay2, k0_pay3, k0_pay4, k0_pay5, k0_pay6, k0_pay7, k0_pay8, k0_pay9, k0_pay10, k0_pay11, k0_pay12, k0_pay13,
    k0_pay14, k0_pay15, k0_pay16, k0_pay17, k0_pay18, k0_pay19, k0_pay20, k0_pay21, k0_pay22, k0_pay23, k0_pay24, k0_pay25,
    k0_pay26, k0_pay27, k0_pay28, k0_pay29, k0_pay30, k0_pay31, k0_pay32, k0_pay33, k0_pay34, k0_pay35, k0_pay36, k0_pay37,
    k0_pay38, k0_pay39, k0_pay40, k0_pay41, k0_pay42, k0_pay43]
  rfl

/-- Some tile covers every place of the block. -/
theorem pieces_cover (x0 : Vec F S16 .f32) (x1 : Vec F S256x2048 .f32) (x2 x3 : Vec F S256x512 .f32) (y : S256x2048.Idx) :
    ∃ p ∈ pieces x0 x1 x2 x3, y ∈ p.1.set :=
  View.cover_of_tiledL (pieces x0 x1 x2 x3) ![256, 128] (by sl_kernel_rfl) y

end Cert.Kernel10Ideal.Ctx
end
-- ==== Proof.CtxSpec.lean ====
/- The attention of the context tokens among themselves in plain words, for one output element: the scores of a query, the
   softmax with its sink in the two orders in which it is computed, and why they agree when no score overflows. -/
module

public import proofs.«01_k».proof.Pre_context_finite
public import proofs.«01_k».proof.Proof.Spec
public import proofs.«01_k».proof.Proof.Finite
public import proofs.«01_k».proof.Proof.RefReal
public import Idealize.ShloMosaic.Lib.Pointwise

@[expose] public section
set_option maxRecDepth 16384
noncomputable section
namespace Cert.Context
open Idealize.ShloMosaic Cert.Attention

/-- The score of key `k` from query `a` of query head `4 h + g`, in batch `b`. -/
def score (X : ℕ → ℕ → EReal) (b h g a : ℕ) (k : Fin 256) : EReal :=
  (∑ d : Fin 128, X (b * 256 + a) (512 * h + 128 * g + d.val) * X (b * 256 + k.val) (2048 + 128 * h + d.val)) * scale

section
variable (s : Fin 256 → EReal) (sink : EReal) (v : Fin 256 → EReal)

/-- The largest score, with the sink. -/
def most : EReal := max (top s) sink

/-- The sum that normalises the row. -/
def total : EReal := (∑ k, Ideal.exp (s k - most s sink)) + Ideal.exp (sink - most s sink)

/-- One output element as the kernel computes it. -/
def outK : EReal := ∑ k, Ideal.exp (s k - most s sink) * Ideal.div 1 (total s sink) * v k

/-- One output element as the reference computes it. -/
def outR : EReal := ∑ k, v k * Ideal.div (Ideal.exp (s k - most s sink)) (total s sink)

/-- A row of the context is a row of the other attention with nothing in its window. -/
theorem total_eq : total s sink = rowSum (fun _ => ⊥) s sink := by
  have e : top (fun _ : Fin 384 => (⊥ : EReal)) = ⊥ := le_bot_iff.1 (top_le _ _ fun _ => le_rfl)
  have hm : rowMax (fun _ => ⊥) s sink = most s sink := by
    unfold rowMax most
    rw [e, max_eq_right bot_le]
  have h0 : Ideal.exp ⊥ = 0 := rfl
  unfold total rowSum
  simp only [hm, EReal.bot_sub, h0, Finset.sum_const_zero, zero_add]

/-- The two orders agree when the scores are real and the sink is not plus infinity: the sum is not zero. -/
theorem outK_eq_outR (hs : ∀ k, IsReal (s k)) (hsink : sink ≠ ⊤) : outK s sink v = outR s sink v := by
  have hd : total s sink ≠ 0 := by
    rw [total_eq]
    exact rowSum_ne_zero _ s sink (fun _ => bot_ne_top) hs hsink
  unfold outK outR
  refine Finset.sum_congr rfl fun k _ => ?_
  rw [Ideal.div, if_neg hd, Ideal.div, if_neg hd, one_mul, mul_comm (v k)]
end

/-- A score is real when the queries and keys are. -/
theorem score_real (X : ℕ → ℕ → EReal) (hX : ∀ r k, k < 2560 → IsReal (X r k)) (b h g a : ℕ) (k : Fin 256) (hh : h < 4) (hg : g < 4) :
    IsReal (score X b h g a k) :=
  IsReal.mul (IsReal.sum _ fun d => (hX _ _ (by have := d.isLt; omega)).mul (hX _ _ (by have := d.isLt; omega))) scale_real

/-- The whole result: the row names batch and query, the column head and coordinate. -/
def result (X : ℕ → ℕ → EReal) (S : ℕ → EReal) (r c : ℕ) : EReal :=
  outR (score X (r / 256) (c / 512) (c / 128 % 4) (r % 256)) (S (c / 128))
    fun k => X (r / 256 * 256 + k.val) (2560 + 128 * (c / 512) + c % 128)

section
open Cert.Pre_context_finite

/-- The shape facts the predicate states. -/
theorem preFacts : Cert.Pre_context_finite.Facts where
  slices_S2048x3072_S2048x2560_0_0 := by decide
  bcast_S_S2048x2560 := by decide
  bcast_S_S16 := by decide

variable [Cert.Pre_context_finite.Facts] (x0 : FVec Ideal S2048x3072 .f32) (x1 : FVec Ideal S16 .f32)

/-- The precondition says that the queries and the keys are real. -/
theorem pre_real (h : (fn (F := Ideal) x0 x1).1 = fun _ => 1#1) (r k : ℕ) (hk : k < 2560) :
    IsReal (at2 (R := 2048) (C := 3072) x0 r k) := by
  refine at2_real _ r k fun hr hc => ?_
  have e := congrFun h (ix2 ⟨r, hr⟩ ⟨k, hk⟩)
  have hi := posInf
  unfold fn at e
  dsimp only at e
  revert e
  pointwise
  rw [hi]
  exact fun e => real_of_abs _ (lt_of_bit _ _ e)

/-- The precondition says that no sink is plus infinity. -/
theorem pre_sink (h : (fn (F := Ideal) x0 x1).2 = fun _ => 1#1) (r : ℕ) : at1 (R := 16) x1 r ≠ ⊤ := by
  unfold at1
  split_ifs with hr
  · have e := congrFun h (ix1 ⟨r, hr⟩)
    have hi := posInf
    unfold fn at e
    dsimp only at e
    revert e
    pointwise
    rw [hi]
    exact fun e => (lt_of_bit _ _ e).ne
  · exact EReal.zero_ne_top
end

end Cert.Context
end
-- ==== Proof.CtxHead.lean ====
/- One key/value head of the context attention's body, element by element, and the array that the kernel leaves. -/
module

public import proofs.«01_k».proof.Proof.CtxTiles
public import proofs.«01_k».proof.Proof.CtxSpec
public import proofs.«01_k».proof.Proof.KernelHead

@[expose] public section
set_option maxRecDepth 16384
noncomputable section
namespace Cert.Kernel10Ideal.Ctx
open Idealize.ShloMosaic Idealize.ShloMosaic.TcCoe Cert.Kernel10Ideal Cert.Kernel10Ideal.Gen Cert.Attention Cert.Context

/-- What the four blocks of batch `b` hold: the sinks `S`, and the queries, keys and values of `X`. -/
structure Holds (x0 : Vec Ideal S16 .f32) (x1 : Vec Ideal S256x2048 .f32) (x2 x3 : Vec Ideal S256x512 .f32) (X : ℕ → ℕ → EReal) (S : ℕ → EReal) (b : ℕ) : Prop where
  sink : ∀ o : Fin 16, x0 (ix1 o) = S o.val
  query : ∀ (r : Fin 256) (e : Fin 2048), x1 (ix2 r e) = X (b * 256 + r.val) e.val
  key : ∀ (r : Fin 256) (e : Fin 512), x2 (ix2 r e) = X (b * 256 + r.val) (2048 + e.val)
  value : ∀ (r : Fin 256) (e : Fin 512), x3 (ix2 r e) = X (b * 256 + r.val) (2560 + e.val)

/-- A row's query head: the row by 256. -/
theorem group_apply (r : Fin 1024) : k0_pay8 (ix2 r 0) = BitVec.ofNat 32 (r.val / 256) := by
  unfold k0_pay8
  pointwise
  revert r
  decide +kernel

section
variable {x0 : Vec Ideal S16 .f32} {x1 : Vec Ideal S256x2048 .f32} {x2 x3 : Vec Ideal S256x512 .f32} {X : ℕ → ℕ → EReal} {S : ℕ → EReal} {b : ℕ}
  (H : Holds x0 x1 x2 x3 X S b) (h : ℕ) (hh : h < 4)

/-- The columns of a head. -/
theorem headOf_apply (x : Vec Ideal S256x512 .f32) (r : Fin 256) (e : Fin 128) :
    headOf h hh x (ix2 r e) = x (ix2 r ⟨128 * h + e.val, by have := e.isLt; omega⟩) := by
  unfold headOf
  rw [View.ld_apply]
  refine congrArg x (funext fun a => Fin.ext ?_)
  match a with
  | ⟨0, _⟩ => show 0 + 1 * r.val = r.val; omega
  | ⟨1, _⟩ => show 128 * h + 1 * e.val = 128 * h + e.val; omega

/-- The columns of a query head. -/
theorem query_apply (x : Vec Ideal S256x2048 .f32) (g : ℕ) (hg : g < 4) (r : Fin 256) (e : Fin 128) :
    query x h hh g hg (ix2 r e) = x (ix2 r ⟨512 * h + 128 * g + e.val, by have := e.isLt; omega⟩) := by
  unfold query
  rw [View.ld_apply]
  refine congrArg x (funext fun a => Fin.ext ?_)
  match a with
  | ⟨0, _⟩ => show 0 + 1 * r.val = r.val; omega
  | ⟨1, _⟩ => show 512 * h + 128 * g + 1 * e.val = 512 * h + 128 * g + e.val; omega

include H in
/-- A head's sinks. -/
theorem sinkOf_apply (g : ℕ) (hg : g < 4) : sinkOf x0 h hh g hg = S (4 * h + g) := by
  unfold sinkOf
  rw [View.ld_apply]
  refine (congrArg x0 (funext fun a => Fin.ext ?_)).trans (H.sink ⟨4 * h + g, by omega⟩)
  match a with
  | ⟨0, _⟩ => rfl

include H in
/-- The scores. -/
theorem scores_apply (r : Fin 1024) (k : Fin 256) :
    scores x1 x2 h hh (ix2 r k) = score X b h (r.val / 256) (r.val % 256) k := by
  have hr := r.isLt
  unfold scores score
  pointwise [k0_pay7]
  refine congrArg (fun z : EReal => z * scale) (Finset.sum_congr rfl fun d _ => ?_)
  refine congrArg₂ (fun x y : EReal => x * y) ?_ ?_
  · have key : ∀ (g : ℕ) (hg : g < 4) (a : Fin 256), g = r.val / 256 → a.val = r.val % 256 →
        query x1 h hh g hg (ix2 a d) = X (b * 256 + r.val % 256) (512 * h + 128 * (r.val / 256) + d.val) := by
      intro g hg a h1 h2
      rw [query_apply, H.query, ← h1, ← h2]
    by_cases c1 : r.val < 256
    · rw [dif_pos c1]; exact key 0 (by omega) _ (by omega) (by dsimp only; omega)
    rw [dif_neg c1]
    by_cases c2 : r.val - 256 < 256
    · rw [dif_pos c2]; exact key 1 (by omega) _ (by omega) (by dsimp only; omega)
    rw [dif_neg c2]
    by_cases c3 : r.val - 256 - 256 < 256
    · rw [dif_pos c3]; exact key 2 (by omega) _ (by omega) (by dsimp only; omega)
    · rw [dif_neg c3]; exact key 3 (by omega) _ (by omega) (by dsimp only; omega)
  · rw [headOf_apply, H.key, add_assoc]

/-- The choice of a row's sink among the four. -/
def pick (w : BitVec 32) (s : ℕ → EReal) : EReal :=
  Scalar.select (IntOp.cmpi .eq w 3#32) (s 3) (Scalar.select (IntOp.cmpi .eq w 2#32) (s 2) (Scalar.select (IntOp.cmpi .eq w 1#32) (s 1) (s 0)))

/-- The choice is the row's own. -/
theorem pick_apply (g : ℕ) (hg : g < 4) (s : ℕ → EReal) : pick (BitVec.ofNat 32 g) s = s g := by
  unfold pick
  interval_cases g <;> simp [Scalar.select, IntOp.cmpi]

include H in
/-- A head's output, in the kernel's order of operations. -/
theorem head_apply (r : Fin 1024) (d : Fin 128) : head x0 x1 x2 x3 h hh (ix2 r d)
    = outK (score X b h (r.val / 256) (r.val % 256)) (S (4 * h + r.val / 256)) fun k => X (b * 256 + k.val) (2560 + 128 * h + d.val) := by
  have hr := r.isLt
  have hs := fun k => scores_apply H h hh r k
  have hv : ∀ k : Fin 256, k0_pay6 (headOf h hh x3) (ix2 k d) = X (b * 256 + k.val) (2560 + 128 * h + d.val) := by
    intro k
    pointwise [k0_pay6]
    rw [headOf_apply, H.value, add_assoc]
  obtain ⟨s, e⟩ : ∃ s : ℕ → EReal, ∀ g, S (4 * h + g) = s g := ⟨fun g => S (4 * h + g), fun _ => rfl⟩
  have hp := pick_apply (r.val / 256) (by omega) s
  rw [← group_apply r] at hp
  rw [← funext hs, ← funext hv, e, ← hp]
  unfold head pick
  rw [sinkOf_apply H, sinkOf_apply H, sinkOf_apply H, sinkOf_apply H, e, e, e, e]
  clear hs hv hp e
  generalize scores x1 x2 h hh = A
  generalize k0_pay6 (headOf h hh x3) = W
  generalize k0_pay8 = w
  have hi := Cert.KernelIdeal.Attn.negInf
  pointwise [k0_pay9]
  rw [hi]
  rfl
end

end Cert.Kernel10Ideal.Ctx
end
-- ==== Proof.CtxArray.lean ====
/- The array that the context attention's kernel leaves: the blocks of a grid point are one batch's rows, and the sixteen
   tiles of each make up the result. -/
module

public import proofs.«01_k».proof.Proof.CtxHead

@[expose] public section
set_option maxRecDepth 16384
noncomputable section
namespace Cert.Kernel10Ideal.Ctx
open Idealize.ShloMosaic Idealize.ShloMosaic.TcCoe Cert.Kernel10Ideal Cert.Kernel10Ideal.Gen Cert.Attention Cert.Context

/-- An entry of a matrix, by the values of its coordinates. -/
theorem entry {R C : ℕ} (x : (⟨2, ![R, C]⟩ : Shape).Idx → EReal) (j : (⟨2, ![R, C]⟩ : Shape).Idx) (r c : ℕ)
    (h0 : (j 0).val = r) (h1 : (j 1).val = c) : x j = at2 x r c := by
  have e : j = ix2 (j 0) (j 1) := by funext a; fin_cases a <;> rfl
  rw [← h0, ← h1]
  exact (congrArg x e).trans (at2_ix2 x (j 0) (j 1))

/-- Every window's block is the grid point's batch. -/
theorem place : ∀ t : Fin cfg0.N, win0_0.index t = ![0] ∧ win0_1.index t = ![t.val, 0] ∧ win0_2.index t = ![t.val, 4]
    ∧ win0_3.index t = ![t.val, 5] ∧ win0_4.index t = ![t.val, 0] :=
  (by decide +kernel : ∀ t : Fin grid0.N, _)

variable (m : (ℓ : Loc nD τ sig) → Buf (Elt Ideal) ℓ) (c : Dev nD) (t : Fin cfg0.N)

/-- The queries, keys and values, as the program is handed them. -/
def X : ℕ → ℕ → EReal := at2 (R := 2048) (C := 3072) (m ((c : Thread nD τ).loc main_arg0))
/-- The sinks. -/
def S : ℕ → EReal := at1 (R := 16) (m ((c : Thread nD τ).loc main_arg1))

/-- The loads of a grid point are the rows of its batch. -/
theorem holds : Holds (iblk m c 0 t) (X0_1 m c t) (iblk m c 2 t) (iblk m c 3 t) (X m c) (S m c) t.val where
  sink o := by
    unfold S
    rw [← V_main_arg1 m c]
    show V m c main_arg1 (((cfg0.win 0).blk t).view.emb (ix1 o)) = _
    have e : ((cfg0.win 0).blk t).view.emb (ix1 o) = ix1 (n0 := 16) ⟨o.val, o.isLt⟩ := by
      funext a
      apply Fin.ext
      fin_cases a
      blk_simp [place t]
    exact (congrArg (V m c main_arg1) e).trans (at1_of _ _ _ _ rfl)
  query r e := by
    unfold X X0_1 Pipeline.Window.fill
    rw [dif_pos (moved0_1 t _), ← V_main_arg0 m c]
    refine (entry (R := 2048) (C := 3072) (V m c main_arg0) (((cfg0.win 1).blk t).view.emb _) _ _ ?_ ?_) <;>
      (blk_simp [place t]; try dsimp only; try omega)
  key r e := by
    unfold X
    rw [← V_main_arg0 m c]
    refine (entry (R := 2048) (C := 3072) (V m c main_arg0) (((cfg0.win 2).blk t).view.emb _) _ _ ?_ ?_) <;>
      (blk_simp [place t]; try omega)
  value r e := by
    unfold X
    rw [← V_main_arg0 m c]
    refine (entry (R := 2048) (C := 3072) (V m c main_arg0) (((cfg0.win 3).blk t).view.emb _) _ _ ?_ ?_) <;>
      (blk_simp [place t]; try omega)

/-- The whole result in the kernel's order of operations. -/
def resultK (X : ℕ → ℕ → EReal) (S : ℕ → EReal) (r c : ℕ) : EReal :=
  outK (score X (r / 256) (c / 512) (c / 128 % 4) (r % 256)) (S (c / 128))
    fun k => X (r / 256 * 256 + k.val) (2560 + 128 * (c / 512) + c % 128)

/-- A tile's place in the block. -/
theorem fits (h g : ℕ) (hh : h < 4) (hg : g < 4) :
    ∀ a, (![0, 512 * h + 128 * g] : Fin 2 → ℕ) a + (![256, 128] : Fin 2 → ℕ) a ≤ S256x2048.size a := by
  intro a; fin_cases a <;> simp <;> omega

section
variable {x0 : Vec Ideal S16 .f32} {x1 : Vec Ideal S256x2048 .f32} {x2 x3 : Vec Ideal S256x512 .f32} {X : ℕ → ℕ → EReal} {S : ℕ → EReal} {b : ℕ}
  (H : Holds x0 x1 x2 x3 X S b)

include H in
/-- A tile holds its part of the result. -/
theorem tile_apply (h g : ℕ) (hh : h < 4) (hg : g < 4) (a : Fin 256) (d : Fin 128) :
    (piece x0 x1 x2 x3 h hh g hg).2 (ix2 a d) = resultK X S (b * 256 + a.val) (512 * h + 128 * g + d.val) := by
  have ha := a.isLt; have hd := d.isLt
  have e := head_apply H h hh ⟨256 * g + a.val, by omega⟩ d
  dsimp only at e
  rw [show (256 * g + a.val) / 256 = g by omega, show (256 * g + a.val) % 256 = a.val by omega] at e
  unfold resultK
  rw [show (b * 256 + a.val) / 256 = b by omega, show (b * 256 + a.val) % 256 = a.val by omega,
    show (512 * h + 128 * g + d.val) / 512 = h by omega, show (512 * h + 128 * g + d.val) / 128 % 4 = g by omega,
    show (512 * h + 128 * g + d.val) / 128 = 4 * h + g by omega, show (512 * h + 128 * g + d.val) % 128 = d.val by omega]
  refine Eq.trans ?_ e
  unfold piece
  dsimp only
  generalize head x0 x1 x2 x3 h hh = v
  pointwise

include H in
/-- The block that a grid point leaves. -/
theorem block_apply (y : S256x2048.Idx) : View.canon (pieces x0 x1 x2 x3) y = resultK X S (b * 256 + (y 0).val) (y 1).val := by
  refine View.canon_apply_of_pieces (S := S256x2048) (Val := Elt Ideal) (e := .bf16)
    (fun y : S256x2048.Idx => resultK X S (b * 256 + (y 0).val) (y 1).val) _ ?_ y (pieces_cover _ _ _ _ y)
  have hq : ∀ h hh g hg, ∀ x, (piece x0 x1 x2 x3 h hh g hg).2 x
      = (fun y : S256x2048.Idx => resultK X S (b * 256 + (y 0).val) (y 1).val) ((piece x0 x1 x2 x3 h hh g hg).1.emb x) := by
    intro h hh g hg (x : S256x128.Idx)
    have hx : x = ix2 (x 0) (x 1) := by funext a; fin_cases a <;> rfl
    refine (congrArg (piece x0 x1 x2 x3 h hh g hg).2 hx).trans ((tile_apply H h g hh hg (x 0) (x 1)).trans ?_)
    have e0 : ((piece x0 x1 x2 x3 h hh g hg).1.emb x 0).val = 0 + (x 0).val := ValueKit.rect_emb_unit_val _ _ (fits h g hh hg) _ _
    have e1 : ((piece x0 x1 x2 x3 h hh g hg).1.emb x 1).val = 512 * h + 128 * g + (x 1).val :=
      ValueKit.rect_emb_unit_val _ _ (fits h g hh hg) _ _
    dsimp only
    rw [e0, e1, Nat.zero_add]
  intro p hm
  simp only [pieces, pieces4, List.mem_append, List.mem_cons, List.not_mem_nil, or_false] at hm
  rcases hm with (rfl | rfl | rfl | rfl) | (rfl | rfl | rfl | rfl) | (rfl | rfl | rfl | rfl) | (rfl | rfl | rfl | rfl) <;> exact hq _ _ _ _
end

/-- The array after the run. -/
theorem array_eq : (dats m 0 c).arrAt 4 cfg0.N = fun i : S2048x2048.Idx => resultK (X m c) (S m c) (i 0).val (i 1).val := by
  refine (dats m 0 c).arrAt_eq_of_covers 4 (fun i : S2048x2048.Idx => resultK (X m c) (S m c) (i 0).val (i 1).val) (by decide +kernel) fun t hf y => ?_
  have e : ∀ y, outsAt0 m c t y = resultK (X m c) (S m c) (t.val * 256 + (y 0).val) (y 1).val := by
    intro y
    rw [out_eq]
    exact block_apply (holds m c t) y
  have e0 : ((((cfg0.win 4).blk t).view.emb y) 0).val = t.val * 256 + (y 0).val := by blk_simp [place t]
  have e1 : ((((cfg0.win 4).blk t).view.emb y) 1).val = (y 1).val := by blk_simp [place t]
  refine Eq.trans ?_ ((e y).trans (congrArg₂ (resultK (X m c) (S m c)) e0.symm e1.symm))
  rw [after0_4]
  rfl

end Cert.Kernel10Ideal.Ctx
end
-- ==== Proof.CtxRef.lean ====
/- The reference of the context attention, element by element: its scores, its softmax and its result. -/
module

public import proofs.«01_k».proof.Proof.Gen.Reference10Ideal.Read
public import proofs.«01_k».proof.Proof.CtxSpec
public import proofs.«01_k».proof.Proof.KernelHead

@[expose] public section
set_option maxRecDepth 16384
noncomputable section
namespace Cert.Context
open Idealize.ShloMosaic Cert.Reference10Ideal Cert.Reference10Ideal.Read Cert.Attention

/-- The indices that a reduction of the last of five axes sends to one index. -/
theorem fiber_last {n0 n1 n2 n3 n4 : ℕ} (hr : (⟨5, ![n0, n1, n2, n3, n4]⟩ : Shape).ReducesTo [4] ⟨4, ![n0, n1, n2, n3]⟩)
    (b : Fin n0) (h : Fin n1) (g : Fin n2) (a : Fin n3) (i : (⟨5, ![n0, n1, n2, n3, n4]⟩ : Shape).Idx) :
    hr.drop i = ix4 b h g a ↔ ∃ k : Fin n4, ix5 b h g a k = i := by
  constructor
  · intro e
    refine ⟨i 4, funext fun x => Fin.ext ?_⟩
    match x with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => rfl
  · rintro ⟨k, rfl⟩
    funext x; apply Fin.ext
    match x with
    | ⟨0, _⟩ => rfl
    | ⟨1, _⟩ => rfl
    | ⟨2, _⟩ => rfl
    | ⟨3, _⟩ => rfl

section
variable (x0 : FVec Ideal S2048x3072 .f32) (x1 : FVec Ideal S16 .f32) (b : Fin 8) (h g : Fin 4) (a : Fin 256)

/-- The largest along the last axis. -/
theorem max_last (v : FVec Ideal S8x4x4x256x256 .f32) (z : FVec Ideal S_ .f32) (hz : ∀ i, z i = ⊥)
    (hr : S8x4x4x256x256.ReducesTo [4] S8x4x4x256) (hu : 0 < S_.numel) :
    Host.reduce (FloatOps.maximumf (F := Ideal) (φ := .f32)) v z hr hu (ix4 b h g a) = top fun k => v (ix5 b h g a k) := by
  haveI : Std.Commutative (FloatOps.maximumf (F := Ideal) (φ := .f32)) := ⟨fun x y => max_comm (α := EReal) x y⟩
  haveI : Std.Associative (FloatOps.maximumf (F := Ideal) (φ := .f32)) := ⟨fun x y w => max_assoc (α := EReal) x y w⟩
  rw [Host.reduce_eq_fold, hz]
  exact Finset.fold_filter_eq_fold_of_fiber (max : EReal → EReal → EReal) _ (fun k : Fin 256 => ix5 b h g a k)
    (fun _ _ e => congrFun e 4) (fiber_last hr b h g a) ⊥ v

/-- The reference's scores. -/
theorem score_ref (k : Fin 256) : val_main_v12 (F := Ideal) x0 (ix5 b h g a k) = score (at2 (R := 2048) (C := 3072) x0) b h g a k := by
  have hb := b.isLt; have hh := h.isLt; have hg := g.isLt; have ha := a.isLt; have hk := k.isLt
  unfold score
  pointwise [val_main_v12, val_main_v11, val_main_cst, val_main_v10, val_main_v9, val_main_v8, val_main_v7, val_main_v5, val_main_v4,
    val_main_v3, val_main_v2, val_main_v1]
  refine congrArg (fun z : EReal => z * scale) (Finset.sum_congr rfl fun d _ => ?_)
  have hd := d.isLt
  rw [mul_comm]
  refine congrArg₂ (fun x y : EReal => x * y) ?_ ?_
  · exact at2_of (R := 2048) (C := 3072) x0 _ _ _ _ _ _ (by omega) (by omega)
  · exact at2_of (R := 2048) (C := 3072) x0 _ _ _ _ _ _ (by omega) (by omega)

/-- The reference's values. -/
theorem value_ref (k : Fin 256) (d : Fin 128) : val_main_v6 (F := Ideal) x0 (ix4 b k h d)
    = at2 (R := 2048) (C := 3072) x0 (b.val * 256 + k.val) (2560 + 128 * h.val + d.val) := by
  have hb := b.isLt; have hh := h.isLt; have hk := k.isLt; have hd := d.isLt
  pointwise [val_main_v6, val_main_v4, val_main_v3, val_main_v2, val_main_v1]
  exact at2_of (R := 2048) (C := 3072) x0 _ _ _ _ _ _ (by omega) (by omega)

/-- The reference's sink of a query head. -/
theorem sink_ref : val_main_v0 (F := Ideal) x1 (ix4 h g 0 0) = at1 (R := 16) x1 (4 * h.val + g.val) := by
  have hh := h.isLt; have hg := g.isLt
  pointwise [val_main_v0]
  exact at1_of (R := 16) x1 _ _ _ (by omega)

/-- The reduction starts from minus infinity. -/
theorem start_ref (i : S_.Idx) : val_main_cst_0 (F := Ideal) i = ⊥ := by
  have hi := Cert.KernelIdeal.Attn.negInf
  pointwise [val_main_cst_0]
  rw [hi]

/-- The reference's largest score, without the sink. -/
theorem top_ref : val_main_v13 (F := Ideal) x0 (ix4 b h g a) = top fun k => val_main_v12 (F := Ideal) x0 (ix5 b h g a k) := by
  delta val_main_v13
  exact max_last b h g a (val_main_v12 (F := Ideal) x0) (val_main_cst_0 (F := Ideal)) start_ref _ _

/-- The reference's largest score. -/
theorem most_ref : val_main_v17 (F := Ideal) x0 x1 (ix5 b h g a 0)
    = most (score (at2 (R := 2048) (C := 3072) x0) b h g a) (at1 (R := 16) x1 (4 * h.val + g.val)) := by
  have e : idx_main_v14 (ix5 b h g a (0 : Fin 1)) = ix4 b h g a := by funext i; fin_cases i <;> rfl
  have e0 : idx_main_v15 (idx_main_v16 (ix5 b h g a (0 : Fin 1))) = ix4 h g (0 : Fin 1) (0 : Fin 1) := by
    funext i; fin_cases i <;> rfl
  rw [val_main_v17_apply, val_main_v14_apply, val_main_v16_apply, val_main_v15_apply, e, e0, top_ref, sink_ref]
  unfold most
  rw [← funext (score_ref x0 b h g a)]
  rfl

/-- The reference's sum. -/
theorem total_ref : val_main_v27 (F := Ideal) x0 x1 (ix5 b h g a 0)
    = total (score (at2 (R := 2048) (C := 3072) x0) b h g a) (at1 (R := 16) x1 (4 * h.val + g.val)) := by
  unfold total
  rw [← most_ref, ← sink_ref, ← funext (score_ref x0 b h g a)]
  generalize hm : val_main_v17 (F := Ideal) x0 x1 = mx
  generalize hv : val_main_v12 (F := Ideal) x0 = v
  generalize hs : val_main_v0 (F := Ideal) x1 = s
  pointwise [val_main_v27, val_main_v26, val_main_v25, val_main_v24, val_main_v23, val_main_v22, val_main_v21, val_main_cst_1, val_main_v20, val_main_v19, val_main_v18]
  rw [hm, hv, hs]

/-- The reference's output of one query head. -/
theorem head_ref (d : Fin 128) : val_main_v30 (F := Ideal) x0 x1 (ix5 b h d g a)
    = outR (score (at2 (R := 2048) (C := 3072) x0) b h g a) (at1 (R := 16) x1 (4 * h.val + g.val))
        fun k => at2 (R := 2048) (C := 3072) x0 (b.val * 256 + k.val) (2560 + 128 * h.val + d.val) := by
  unfold outR
  rw [← total_ref, ← most_ref, ← funext (score_ref x0 b h g a), ← funext fun k => value_ref x0 b h k d]
  generalize hm : val_main_v17 (F := Ideal) x0 x1 = mx
  generalize hv : val_main_v12 (F := Ideal) x0 = v
  generalize hw : val_main_v6 (F := Ideal) x0 = w
  generalize ht : val_main_v27 (F := Ideal) x0 x1 = tt
  pointwise [val_main_v30, val_main_v29, val_main_v28, val_main_v20, val_main_v19, val_main_v18]
  rw [hm, hv, hw, ht]
end

/-- The reference's result. -/
theorem result_ref (x0 : FVec Ideal S2048x3072 .f32) (x1 : FVec Ideal S16 .f32) (r c : Fin 2048) : val_main_v33 (F := Ideal) x0 x1 (ix2 r c)
    = result (at2 (R := 2048) (C := 3072) x0) (at1 (R := 16) x1) r c := by
  have hr := r.isLt; have hc := c.isLt
  have e := head_ref x0 x1 ⟨r.val / 256, by omega⟩ ⟨c.val / 512, by omega⟩ ⟨c.val / 128 % 4, by omega⟩ ⟨r.val % 256, by omega⟩ ⟨c.val % 128, by omega⟩
  dsimp only at e
  rw [show 4 * (c.val / 512) + c.val / 128 % 4 = c.val / 128 by omega] at e
  unfold result
  refine Eq.trans ?_ e
  generalize hv : val_main_v30 (F := Ideal) x0 x1 = v
  pointwise [val_main_v33, val_main_v32, val_main_v31]
  rw [hv]

end Cert.Context
end
-- ==== Proof.Calls.lean ====
/- The four projections, the two norms, the modulation, the filters' network and the context's attention: each kernel's array is its reference's, and each reference leaves its arguments as they were. -/
module

public import proofs.«01_k».proof.Defs
public import proofs.«01_k».proof.Proof.Qkv
public import proofs.«01_k».proof.Proof.Query
public import proofs.«01_k».proof.Proof.OutProj
public import proofs.«01_k».proof.Proof.HyenaIn
public import proofs.«01_k».proof.Proof.FinalNorm
public import proofs.«01_k».proof.Proof.Modulate
public import proofs.«01_k».proof.Proof.Mods
public import proofs.«01_k».proof.Proof.Filter
public import proofs.«01_k».proof.Proof.CtxArray
public import proofs.«01_k».proof.Proof.CtxRef
public import Idealize.ShloMosaic.Lib.Quiescent

@[expose] public section

noncomputable section

namespace Cert.Calls

open Idealize.ShloMosaic Idealize.SL.Sem

/-- The projection to queries, keys and values in the reference: the arguments stay and no counter moves. -/
theorem qkv_reference_frame : Cert.quiescent_Reference2Ideal := fun m g _ =>
  (θ_run (Cert.Reference2Ideal.defs (F := Ideal)) _ _).mono (fun r h => ⟨fun c => (h c).2, sem_eq_zero_of_no_sems (by decide) r.2⟩) (Cert.Reference2Ideal.Value.run m g)

/-- The projection to queries, keys and values: kernel and reference end with equal arrays. -/
theorem qkv : Cert.algebraic_Kernel2Ideal_Reference2Ideal := by
  intro m g m' g' _ hargs
  refine ⟨fun c => (Cert.Kernel2Ideal.Gen.dats m 0 c).arrAt 2 Cert.Kernel2Ideal.cfg0.N, Cert.Kernel2Ideal.Value.run_blocks m g, ?_⟩
  refine (θ_run (Cert.Reference2Ideal.defs (F := Ideal)) _ _).mono (fun r h c => ⟨(h c).1.trans ?_, (h c).2⟩) (Cert.Reference2Ideal.Value.run m' g')
  refine (Cert.Reference2Ideal.Read.val_main_v2_eq _ _).trans (Eq.trans ?_ (Cert.Kernel2Ideal.Product.array m c).symm)
  obtain ⟨a0, a1⟩ := hargs c
  rw [a0, a1]

/-- The query projection of the experts in the reference: the arguments stay and no counter moves. -/
theorem query_reference_frame : Cert.quiescent_Reference3Ideal := fun m g _ =>
  (θ_run (Cert.Reference3Ideal.defs (F := Ideal)) _ _).mono (fun r h => ⟨fun c => (h c).2, sem_eq_zero_of_no_sems (by decide) r.2⟩) (Cert.Reference3Ideal.Value.run m g)

/-- The query projection of the experts: kernel and reference end with equal arrays. -/
theorem query : Cert.algebraic_Kernel3Ideal_Reference3Ideal := by
  intro m g m' g' _ hargs
  refine ⟨fun c => (Cert.Kernel3Ideal.Gen.dats m 0 c).arrAt 2 Cert.Kernel3Ideal.cfg0.N, Cert.Kernel3Ideal.Value.run_blocks m g, ?_⟩
  refine (θ_run (Cert.Reference3Ideal.defs (F := Ideal)) _ _).mono (fun r h c => ⟨(h c).1.trans ?_, (h c).2⟩) (Cert.Reference3Ideal.Value.run m' g')
  refine (Cert.Reference3Ideal.Read.val_main_v3_eq _ _).trans (Eq.trans ?_ (Cert.Kernel3Ideal.Product.array m c).symm)
  obtain ⟨a0, a1⟩ := hargs c
  rw [a0, a1]

/-- The output projection in the reference: the arguments stay and no counter moves. -/
theorem out_reference_frame : Cert.quiescent_Reference4Ideal := fun m g _ =>
  (θ_run (Cert.Reference4Ideal.defs (F := Ideal)) _ _).mono (fun r h => ⟨fun c => (h c).2, sem_eq_zero_of_no_sems (by decide) r.2⟩) (Cert.Reference4Ideal.Value.run m g)

/-- The output projection with its gated residual: kernel and reference end with equal arrays. -/
theorem out : Cert.algebraic_Kernel4Ideal_Reference4Ideal := by
  intro m g m' g' _ hargs
  refine ⟨fun c => (Cert.Kernel4Ideal.Gen.dats m 0 c).arrAt 4 Cert.Kernel4Ideal.cfg0.N, Cert.Kernel4Ideal.Value.run_blocks m g, ?_⟩
  refine (θ_run (Cert.Reference4Ideal.defs (F := Ideal)) _ _).mono (fun r h c => ⟨(h c).1.trans ?_, (h c).2⟩) (Cert.Reference4Ideal.Value.run m' g')
  refine (Cert.Reference4Ideal.Read.val_main_v13_eq _ _ _ _).trans (Eq.trans ?_ (Cert.Kernel4Ideal.Product.array m c).symm)
  obtain ⟨a0, a1, a2, a3⟩ := hargs c
  rw [a0, a1, a2, a3]

/-- The input projection of Hyena in the reference: the arguments stay and no counter moves. -/
theorem hyena_reference_frame : Cert.quiescent_Reference5Ideal := fun m g _ =>
  (θ_run (Cert.Reference5Ideal.defs (F := Ideal)) _ _).mono (fun r h => ⟨fun c => (h c).2, sem_eq_zero_of_no_sems (by decide) r.2⟩) (Cert.Reference5Ideal.Value.run m g)

/-- The input projection of Hyena with its short convolution: kernel and reference end with equal arrays. -/
theorem hyena : Cert.algebraic_Kernel5Ideal_Reference5Ideal := by
  intro m g m' g' _ hargs
  refine ⟨fun c => (Cert.Kernel5Ideal.Gen.dats m 0 c).arrAt 4 Cert.Kernel5Ideal.cfg0.N, Cert.Kernel5Ideal.Value.run_blocks m g, ?_⟩
  refine (θ_run (Cert.Reference5Ideal.defs (F := Ideal)) _ _).mono (fun r h c => ⟨(h c).1.trans ?_, (h c).2⟩) (Cert.Reference5Ideal.Value.run m' g')
  refine (Cert.Reference5Ideal.Read.val_main_v26_eq _ _ _ _).trans (Eq.trans ?_ (Cert.Kernel5Ideal.Product.array m c).symm)
  obtain ⟨a0, a1, a2, a3⟩ := hargs c
  rw [a0, a1, a2, a3]

/-- The last norm in the reference: the arguments stay and no counter moves. -/
theorem norm_reference_frame : Cert.quiescent_Reference6Ideal := fun m g _ =>
  (θ_run (Cert.Reference6Ideal.defs (F := Ideal)) _ _).mono (fun r h => ⟨fun c => (h c).2, sem_eq_zero_of_no_sems (by decide) r.2⟩) (Cert.Reference6Ideal.Value.run m g)

/-- The last norm: kernel and reference end with equal arrays. -/
theorem norm : Cert.algebraic_Kernel6Ideal_Reference6Ideal := by
  intro m g m' g' _ hargs
  refine ⟨_, Cert.Kernel6Ideal.Norm.run m g, ?_⟩
  refine (θ_run (Cert.Reference6Ideal.defs (F := Ideal)) _ _).mono (fun r h c => ⟨(h c).1.trans ?_, (h c).2⟩) (Cert.Reference6Ideal.Value.run m' g')
  refine (Cert.Reference6Ideal.Read.val_main_v13_eq _ _).trans ?_
  obtain ⟨a0, a1⟩ := hargs c
  rw [a0, a1]

/-- The norm with modulation in the reference: the arguments stay and no counter moves. -/
theorem modulate_reference_frame : Cert.quiescent_Reference7Ideal := fun m g _ =>
  (θ_run (Cert.Reference7Ideal.defs (F := Ideal)) _ _).mono (fun r h => ⟨fun c => (h c).2, sem_eq_zero_of_no_sems (by decide) r.2⟩) (Cert.Reference7Ideal.Value.run m g)

/-- The norm with modulation: kernel and reference end with equal arrays. -/
theorem modulate : Cert.algebraic_Kernel7Ideal_Reference7Ideal := by
  intro m g m' g' _ hargs
  refine ⟨fun c => (Cert.Kernel7Ideal.Gen.dats m 0 c).arrAt 4 Cert.Kernel7Ideal.cfg0.N, Cert.Kernel7Ideal.Value.run_blocks m g, ?_⟩
  refine (θ_run (Cert.Reference7Ideal.defs (F := Ideal)) _ _).mono (fun r h c => ⟨(h c).1.trans ?_, (h c).2⟩) (Cert.Reference7Ideal.Value.run m' g')
  refine (Cert.Reference7Ideal.Read.val_main_v28_eq _ _ _).trans (Eq.trans ?_ (Cert.Kernel7Ideal.Norm.array m c).symm)
  obtain ⟨a0, a1, a2⟩ := hargs c
  rw [a0, a1, a2]

/-- The modulation of all layers in the reference: the arguments stay and no counter moves. -/
theorem mods_reference_frame : Cert.quiescent_Reference8Ideal := fun m g _ =>
  (θ_run (Cert.Reference8Ideal.defs (F := Ideal)) _ _).mono (fun r h => ⟨fun c => (h c).2, sem_eq_zero_of_no_sems (by decide) r.2⟩) (Cert.Reference8Ideal.Value.run m g)

/-- The modulation of all layers: kernel and reference end with equal arrays. -/
theorem mods : Cert.algebraic_Kernel8Ideal_Reference8Ideal := by
  intro m g m' g' _ hargs
  refine ⟨_, Cert.Kernel8Ideal.Mods.run m g, ?_⟩
  refine (θ_run (Cert.Reference8Ideal.defs (F := Ideal)) _ _).mono (fun r h c => ⟨(h c).1.trans ?_, (h c).2⟩) (Cert.Reference8Ideal.Value.run m' g')
  refine (Cert.Reference8Ideal.Read.val_main_v38_eq _ _).trans ?_
  obtain ⟨a0, a1, a2⟩ := hargs c
  rw [a0, a1, a2]

/-- The network behind Hyena's filters in the reference: the arguments stay and no counter moves. -/
theorem filter_reference_frame : Cert.quiescent_Reference9Ideal := fun m g _ =>
  (θ_run (Cert.Reference9Ideal.defs (F := Ideal)) _ _).mono (fun r h => ⟨fun c => (h c).2, sem_eq_zero_of_no_sems (by decide) r.2⟩) (Cert.Reference9Ideal.Value.run m g)

/-- The network behind Hyena's filters: kernel and reference end with equal arrays. -/
theorem filter : Cert.algebraic_Kernel9Ideal_Reference9Ideal := by
  intro m g m' g' _ hargs
  refine ⟨fun c => (Cert.Kernel9Ideal.Gen.dats m 0 c).arrAt 4 Cert.Kernel9Ideal.cfg0.N, Cert.Kernel9Ideal.Value.run_blocks m g, ?_⟩
  refine (θ_run (Cert.Reference9Ideal.defs (F := Ideal)) _ _).mono (fun r h c => ⟨(h c).1.trans ?_, (h c).2⟩) (Cert.Reference9Ideal.Value.run m' g')
  refine (Cert.Reference9Ideal.Read.val_main_v41_eq _ _ _ _).trans (Eq.trans ?_ (Cert.Kernel9Ideal.Filter.array m c).symm)
  obtain ⟨a0, a1, a2, a3⟩ := hargs c
  rw [a0, a1, a2, a3]

/-- The shape facts of the context's precondition, as the instance its readings take. -/
instance context_facts : Cert.Pre_context_finite.Facts := Cert.Context.preFacts

/-- The context's attention in the reference: the arguments stay and no counter moves. -/
theorem context_reference_frame : Cert.quiescent_Reference10Ideal := fun m g _ =>
  (θ_run (Cert.Reference10Ideal.defs (F := Ideal)) _ _).mono (fun r h => ⟨fun c => (h c).2, sem_eq_zero_of_no_sems (by decide) r.2⟩) (Cert.Reference10Ideal.Value.run m g)

/-- The reference's array is the kernel's, when the queries and keys are real and no sink is plus infinity. -/
theorem context_array (x0 : FVec Ideal Cert.Reference10Ideal.S2048x3072 .f32) (x1 : FVec Ideal Cert.Reference10Ideal.S16 .f32)
    (hX : ∀ r k, k < 2560 → Attention.IsReal (Attention.at2 (R := 2048) (C := 3072) x0 r k)) (hS : ∀ i, Attention.at1 (R := 16) x1 i ≠ ⊤) :
    Cert.Reference10Ideal.Read.val_main_v33 (F := Ideal) x0 x1 = fun i : Cert.Reference10Ideal.S2048x2048.Idx =>
      Cert.Kernel10Ideal.Ctx.resultK (Attention.at2 (R := 2048) (C := 3072) x0) (Attention.at1 (R := 16) x1) (i 0).val (i 1).val := by
  funext i
  have hi : i = ix2 (i 0) (i 1) := by funext a; fin_cases a <;> rfl
  have h1 : (i 1).val < 2048 := (i 1).isLt
  refine ((congrArg _ hi).trans (Cert.Context.result_ref x0 x1 (i 0) (i 1))).trans ?_
  exact (Cert.Context.outK_eq_outR _ _ _ (fun k => Cert.Context.score_real _ hX _ _ _ _ k (by omega) (Nat.mod_lt _ (by decide))) (hS _)).symm

/-- The context's attention: kernel and reference end with equal arrays. -/
theorem context : Cert.algebraic_Kernel10Ideal_Reference10Ideal_pre_context_finite := by
  intro m g m' g' hpre hargs
  refine ⟨fun c => (Cert.Kernel10Ideal.Gen.dats m 0 c).arrAt 4 Cert.Kernel10Ideal.cfg0.N, Cert.Kernel10Ideal.Value.run_blocks m g, ?_⟩
  refine (θ_run (Cert.Reference10Ideal.defs (F := Ideal)) _ _).mono (fun r h c => ⟨(h c).1.trans ?_, (h c).2⟩) (Cert.Reference10Ideal.Value.run m' g')
  refine (Cert.Reference10Ideal.Read.val_main_v33_eq _ _).trans (Eq.trans ?_ (Cert.Kernel10Ideal.Ctx.array_eq m c).symm)
  obtain ⟨h0, h1⟩ := hpre c
  have e := context_array (m ((c.tc : Thread Cert.Kernel10Ideal.nD Cert.Kernel10Ideal.τ).loc Cert.Kernel10Ideal.main_arg0))
    (m ((c.tc : Thread Cert.Kernel10Ideal.nD Cert.Kernel10Ideal.τ).loc Cert.Kernel10Ideal.main_arg1))
    (Cert.Context.pre_real _ _ h0) (Cert.Context.pre_sink _ _ h1)
  obtain ⟨a0, a1⟩ := hargs c
  refine Eq.trans ?_ e
  rw [← a0, ← a1]

end Cert.Calls

end
-- ==== Proof.lean ====
/- The attention of the latents, from its queries, keys and values: the kernel's array equals the reference's, entry by entry,
   whenever the queries, the keys and the context's keys are real numbers and no sink is plus infinity. The four projections
   around it, the two norms, the modulation, the filters' network and the context's own attention, in `Calls`:
   each kernel's array equals its reference's, for all arguments or, the context's attention, under the same condition on its own arguments.

   The road: `KernelValue` gives the array the kernel leaves as the specification of `Spec`, block by block and tile by tile;
   `RefOut` gives the reference's result as the same specification; `Finite` reads the precondition. -/
module

public import proofs.«01_k».proof.Defs
public import proofs.«01_k».proof.Proof.WordFrame
public import proofs.«01_k».proof.Proof.Gen.ReferenceIdeal.Read
public import proofs.«01_k».proof.Proof.KernelValue
public import proofs.«01_k».proof.Proof.RefOut
public import proofs.«01_k».proof.Proof.Finite
public import proofs.«01_k».proof.Proof.Gen.Kernel2.Frame
public import proofs.«01_k».proof.Proof.Gen.Kernel2Ideal.Value
public import proofs.«01_k».proof.Proof.Gen.Reference2Ideal.Read
public import proofs.«01_k».proof.Proof.Gen.Kernel3.Frame
public import proofs.«01_k».proof.Proof.Gen.Kernel3Ideal.Value
public import proofs.«01_k».proof.Proof.Gen.Reference3Ideal.Read
public import proofs.«01_k».proof.Proof.Gen.Kernel4.Frame
public import proofs.«01_k».proof.Proof.Gen.Kernel4Ideal.Value
public import proofs.«01_k».proof.Proof.Gen.Reference4Ideal.Read
public import proofs.«01_k».proof.Proof.Gen.Kernel5.Frame
public import proofs.«01_k».proof.Proof.Gen.Kernel5Ideal.Value
public import proofs.«01_k».proof.Proof.Gen.Reference5Ideal.Read
public import proofs.«01_k».proof.Proof.Gen.Kernel6.Frame
public import proofs.«01_k».proof.Proof.Gen.Kernel6Ideal.Frame
public import proofs.«01_k».proof.Proof.Gen.Reference6Ideal.Read
public import proofs.«01_k».proof.Proof.Gen.Kernel7.Frame
public import proofs.«01_k».proof.Proof.Gen.Kernel7Ideal.Value
public import proofs.«01_k».proof.Proof.Gen.Reference7Ideal.Read
public import proofs.«01_k».proof.Proof.Gen.Kernel8.Frame
public import proofs.«01_k».proof.Proof.Gen.Kernel8Ideal.Frame
public import proofs.«01_k».proof.Proof.Gen.Reference8Ideal.Read
public import proofs.«01_k».proof.Proof.Gen.Kernel9.Frame
public import proofs.«01_k».proof.Proof.Gen.Kernel9Ideal.Value
public import proofs.«01_k».proof.Proof.Gen.Reference9Ideal.Read
public import proofs.«01_k».proof.Proof.Gen.Kernel10.Frame
public import proofs.«01_k».proof.Proof.Gen.Kernel10Ideal.Value
public import proofs.«01_k».proof.Proof.Gen.Reference10Ideal.Read
public import proofs.«01_k».proof.Proof.Calls
public import Idealize.ShloMosaic.Lib.Quiescent

@[expose] public section

noncomputable section

namespace Cert.Proof

open Idealize.ShloMosaic Idealize.SL.Sem Cert.Attention

/-- The shape facts of the precondition, as the instance its readings take. -/
instance finite : Cert.Pre_scores_finite.Facts := finiteFacts

/-- The reference's run: its arguments are unchanged and every counter is zero, for it has none. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run (Cert.ReferenceIdeal.defs (F := Ideal)) _ _).mono (fun r h => ⟨fun c => (h c).2, sem_eq_zero_of_no_sems (by decide) r.2⟩) (Cert.ReferenceIdeal.Value.run m g)

/-- The reference's result is the specification's array, when the scores are real. -/
theorem reference_array (x0 : FVec Ideal Cert.ReferenceIdeal.S16384x3072 .f32) (x1 : FVec Ideal Cert.ReferenceIdeal.S2048x3072 .f32) (x2 : FVec Ideal Cert.ReferenceIdeal.S16 .f32)
    (hQ : ∀ r k, k < 2560 → IsReal (at2 (R := 16384) (C := 3072) x0 r k)) (hX : ∀ r k, 2048 ≤ k → k < 2560 → IsReal (at2 (R := 2048) (C := 3072) x1 r k))
    (hS : ∀ i, at1 (R := 16) x2 i ≠ ⊤) :
    Cert.ReferenceIdeal.Read.val_main_v157 (F := Ideal) x0 x1 x2
      = Cert.KernelIdeal.Attn.outArray (at2 (R := 16384) (C := 3072) x0) (at2 (R := 2048) (C := 3072) x1) (at1 (R := 16) x2) := by
  funext i
  have hi : i = ix2 (i 0) (i 1) := by funext a; fin_cases a <;> rfl
  rw [hi]
  exact out_ref x0 x1 x2 (fun b n h g a k hh hg _ => scoreW_ne_top _ _ _ cosR_real sinR_real hQ b n h g a k hh hg)
    (fun b n h g a k hh hg _ => scoreC_real _ _ _ _ cosR_real sinR_real hQ hX b n h g a k hh hg) hS (i 0) (i 1)

/-- What the precondition gives about the kernel's arguments. -/
theorem finite_args (m : (ℓ : Loc Cert.KernelIdeal.nD Cert.KernelIdeal.τ Cert.KernelIdeal.sig) → Buf (Elt Ideal) ℓ)
    (h : Cert.Pre_KernelIdeal_scores_finite m) (c : Dev Cert.KernelIdeal.nD) :
    (∀ r k, k < 2560 → IsReal (Cert.KernelIdeal.Attn.Q m c r k))
    ∧ (∀ r k, 2048 ≤ k → k < 2560 → IsReal (Cert.KernelIdeal.Attn.X m c r k)) ∧ ∀ i, Cert.KernelIdeal.Attn.S m c i ≠ ⊤ := by
  obtain ⟨h0, h1, h2⟩ := h c
  refine ⟨fun r k hk => ?_, fun r k h0k hk => ?_, fun i => ?_⟩
  · exact at2_real _ r k fun hr _ => finite_query _ _ _ h0 ⟨r, hr⟩ ⟨k, hk⟩
  · refine at2_real _ r k fun hr hk' => ?_
    have e := finite_ctx _ _ _ h1 ⟨r, hr⟩ ⟨k - 2048, by omega⟩
    have ek : (⟨2048 + (k - 2048), by omega⟩ : Fin 3072) = ⟨k, hk'⟩ := Fin.ext (by simp only; omega)
    simp only [ek] at e
    exact e
  · unfold Cert.KernelIdeal.Attn.S at1
    split_ifs with hi
    · exact finite_sink _ _ _ h2 ⟨i, hi⟩
    · exact EReal.zero_ne_top

/-- The kernel's array equals the reference's. -/
theorem algebraic : Cert.algebraic_KernelIdeal_ReferenceIdeal_pre_scores_finite := by
  intro m g m' g' hpre hargs
  refine ⟨fun c => Cert.KernelIdeal.Attn.outArray (Cert.KernelIdeal.Attn.Q m c) (Cert.KernelIdeal.Attn.X m c) (Cert.KernelIdeal.Attn.S m c), ?_, ?_⟩
  · refine (θ_run (Cert.KernelIdeal.defs (F := Ideal)) _ _).mono (fun r h c => ?_) (Cert.KernelIdeal.Attn.run_array m g)
    obtain ⟨hQ, hX, hS⟩ := finite_args m hpre c
    exact ⟨(h c).1.trans (Cert.KernelIdeal.Attn.array_eq m c hQ hX hS), (h c).2⟩
  · refine (θ_run (Cert.ReferenceIdeal.defs (F := Ideal)) _ _).mono (fun r h c => ?_) (Cert.ReferenceIdeal.Value.run m' g')
    obtain ⟨hQ, hX, hS⟩ := finite_args m hpre c
    refine ⟨(h c).1.trans ((Cert.ReferenceIdeal.Read.val_main_v157_eq (StableHlo.launchContents m' c)).trans ?_), (h c).2⟩
    have e := reference_array (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) hQ hX hS
    obtain ⟨a0, a1, a2⟩ := hargs c
    rw [← a0, ← a1, ← a2] at e
    refine Eq.trans ?_ (e.trans ?_)
    · rfl
    · rw [a0, a1, a2]; rfl

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts, finite, Cert.Calls.context_facts,
  fun m g _ => Cert.Kernel.Attn.frame m g, fun m g _ => Cert.KernelIdeal.Attn.frame m g, fun m g _ => Cert.KernelIdeal.Attn.frame m g,
  fun m g _ => reference_frame m g, fun m g _ => reference_frame m g,
  fun m g _ => Cert.Kernel2.Gen.frame m g, fun m g _ => Cert.Kernel2Ideal.Gen.frame m g, Cert.Calls.qkv_reference_frame,
  fun m g _ => Cert.Kernel3.Gen.frame m g, fun m g _ => Cert.Kernel3Ideal.Gen.frame m g, Cert.Calls.query_reference_frame,
  fun m g _ => Cert.Kernel4.Gen.frame m g, fun m g _ => Cert.Kernel4Ideal.Gen.frame m g, Cert.Calls.out_reference_frame,
  fun m g _ => Cert.Kernel5.Gen.frame m g, fun m g _ => Cert.Kernel5Ideal.Gen.frame m g, Cert.Calls.hyena_reference_frame,
  fun m g _ => Cert.Kernel6.Gen.frame m g, fun m g _ => Cert.Kernel6Ideal.Gen.frame m g, Cert.Calls.norm_reference_frame,
  fun m g _ => Cert.Kernel7.Gen.frame m g, fun m g _ => Cert.Kernel7Ideal.Gen.frame m g, Cert.Calls.modulate_reference_frame,
  fun m g _ => Cert.Kernel8.Gen.frame m g, fun m g _ => Cert.Kernel8Ideal.Gen.frame m g, Cert.Calls.mods_reference_frame,
  fun m g _ => Cert.Kernel9.Gen.frame m g, fun m g _ => Cert.Kernel9Ideal.Gen.frame m g, Cert.Calls.filter_reference_frame,
  fun m g _ => Cert.Kernel10.Gen.frame m g, fun m g _ => Cert.Kernel10Ideal.Gen.frame m g, fun m g _ => Cert.Kernel10Ideal.Gen.frame m g,
  Cert.Calls.context_reference_frame, fun m g _ => Cert.Calls.context_reference_frame m g trivial,
  IdealRules.named_const.statement Cert.KernelIdeal.κ "mask" .f32 0xF149F2CA#32 ⊥ rfl, algebraic,
  trivial, Cert.Calls.qkv, trivial, Cert.Calls.query, trivial, Cert.Calls.out, trivial, Cert.Calls.hyena, trivial, Cert.Calls.norm,
  trivial, Cert.Calls.modulate, trivial, Cert.Calls.mods, trivial, Cert.Calls.filter, trivial, Cert.Calls.context⟩

end Cert.Proof

end
